-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "angle1" .f32 0x3EB2B8C2#32 (((1 / 9) * Real.pi : ℝ) : EReal)
  ∧ IdealRules.named_const.Statement Cert.KernelIdeal.κ "angle2" .f32 0x3F32B8C2#32 (((2 / 9) * Real.pi : ℝ) : EReal)
  ∧ IdealRules.named_const.Statement Cert.KernelIdeal.κ "angle3" .f32 0x3F860A92#32 (((1 / 3) * Real.pi : ℝ) : EReal)
  ∧ IdealRules.named_const.Statement Cert.KernelIdeal.κ "angle4" .f32 0x3FB2B8C2#32 (((4 / 9) * Real.pi : ℝ) : EReal)
  ∧ IdealRules.named_const.Statement Cert.KernelIdeal.κ "angle5" .f32 0x3FDF66F3#32 (((5 / 9) * Real.pi : ℝ) : EReal)
  ∧ IdealRules.named_const.Statement Cert.KernelIdeal.κ "angle6" .f32 0x40060A92#32 (((2 / 3) * Real.pi : ℝ) : EReal)
  ∧ IdealRules.named_const.Statement Cert.KernelIdeal.κ "angle7" .f32 0x401C61AA#32 (((7 / 9) * Real.pi : ℝ) : EReal)
  ∧ IdealRules.named_const.Statement Cert.KernelIdeal.κ "angle8" .f32 0x4032B8C2#32 (((8 / 9) * Real.pi : ℝ) : EReal)
  ∧ IdealRules.bf16_pair.PackStatement Cert.KernelIdeal.S14x14
  ∧ IdealRules.bf16_pair.Statement Cert.KernelIdeal.S28x14 Cert.KernelIdeal.S14x14
  ∧ IdealRules.named_const.Statement Cert.KernelIdeal.κ "third27" .f32 0x3D17B426#32 ((1 / 27 : ℝ) : EReal)
  ∧ IdealRules.bf16_pair.PackStatement Cert.KernelIdeal.S28x28
  ∧ IdealRules.bf16_pair.Statement Cert.KernelIdeal.S56x28 Cert.KernelIdeal.S28x28
  ∧ IdealRules.bf16_pair.PackStatement Cert.KernelIdeal.S56x56
  ∧ IdealRules.bf16_pair.Statement Cert.KernelIdeal.S112x56 Cert.KernelIdeal.S56x56
  ∧ IdealRules.bf16_pair.PackStatement Cert.KernelIdeal.S112x112
  ∧ IdealRules.bf16_pair.Statement Cert.KernelIdeal.S224x112 Cert.KernelIdeal.S112x112
  ∧ IdealRules.bf16_pair.PackStatement Cert.KernelIdeal.S224x224
  ∧ IdealRules.bf16_pair.Statement Cert.KernelIdeal.S448x224 Cert.KernelIdeal.S224x224

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x27x14x14 : Shape := ⟨4, ![32, 27, 14, 14]⟩
abbrev S32x27x28x28 : Shape := ⟨4, ![32, 27, 28, 28]⟩
abbrev S32x27x56x56 : Shape := ⟨4, ![32, 27, 56, 56]⟩
abbrev S32x27x112x112 : Shape := ⟨4, ![32, 27, 112, 112]⟩
abbrev S32x27x224x224 : Shape := ⟨4, ![32, 27, 224, 224]⟩
abbrev S32x3x224x224 : Shape := ⟨4, ![32, 3, 224, 224]⟩
abbrev S32x1x224x224 : Shape := ⟨4, ![32, 1, 224, 224]⟩
abbrev S9x9 : Shape := ⟨2, ![9, 9]⟩
abbrev S9 : Shape := ⟨1, ![9]⟩
abbrev S_ : Shape := ⟨0, ![]⟩

class Facts : Prop where
  bcast_S_S32x3x224x224 : S_.BroadcastsInDim S32x3x224x224 (![] : Fin 0 → Fin S32x3x224x224.rank)

variable [Facts]

def fn {F : FTy → Type} [FloatOps F] (main_arg0 : FVec F S32x27x14x14 .f32) (main_arg1 : FVec F S32x27x28x28 .f32) (main_arg2 : FVec F S32x27x56x56 .f32) (main_arg3 : FVec F S32x27x112x112 .f32) (main_arg4 : FVec F S32x27x224x224 .f32) (main_arg5 : FVec F S32x3x224x224 .f32) (main_arg6 : FVec F S32x1x224x224 .f32) (main_arg7 : FVec F S9x9 .f32) (main_arg8 : FVec F S9 .f32) (main_arg9 : FVec F S9x9 .f32) (main_arg10 : FVec F S9 .f32) (main_arg11 : FVec F S9x9 .f32) (main_arg12 : FVec F S9 .f32) (main_arg13 : FVec F S9x9 .f32) (main_arg14 : FVec F S9 .f32) (main_arg15 : FVec F S9x9 .f32) (main_arg16 : FVec F S9 .f32) : IVec S32x3x224x224 1 :=
  let main_v0 : FVec F S32x3x224x224 .f32 := Host.absf main_arg5
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  main_v2
-- ==== Kernel.lean ====
abbrev S32x27x14x14 : Shape := ⟨4, ![32, 27, 14, 14]⟩
abbrev S32x27x28x28 : Shape := ⟨4, ![32, 27, 28, 28]⟩
abbrev S32x27x56x56 : Shape := ⟨4, ![32, 27, 56, 56]⟩
abbrev S32x27x112x112 : Shape := ⟨4, ![32, 27, 112, 112]⟩
abbrev S32x27x224x224 : Shape := ⟨4, ![32, 27, 224, 224]⟩
abbrev S32x3x224x224 : Shape := ⟨4, ![32, 3, 224, 224]⟩
abbrev S32x1x224x224 : Shape := ⟨4, ![32, 1, 224, 224]⟩
abbrev S9x9 : Shape := ⟨2, ![9, 9]⟩
abbrev S9 : Shape := ⟨1, ![9]⟩
abbrev S8x128 : Shape := ⟨2, ![8, 128]⟩
abbrev S1x3x224x224 : Shape := ⟨4, ![1, 3, 224, 224]⟩
abbrev S1x1x224x224 : Shape := ⟨4, ![1, 1, 224, 224]⟩
abbrev S1x27x14x14 : Shape := ⟨4, ![1, 27, 14, 14]⟩
abbrev S1x27x28x28 : Shape := ⟨4, ![1, 27, 28, 28]⟩
abbrev S1x27x56x56 : Shape := ⟨4, ![1, 27, 56, 56]⟩
abbrev S1x27x112x112 : Shape := ⟨4, ![1, 27, 112, 112]⟩
abbrev S1x27x224x224 : Shape := ⟨4, ![1, 27, 224, 224]⟩
abbrev S224x224 : Shape := ⟨2, ![224, 224]⟩
abbrev S1x224 : Shape := ⟨2, ![1, 224]⟩
abbrev S223x224 : Shape := ⟨2, ![223, 224]⟩
abbrev S224x1 : Shape := ⟨2, ![224, 1]⟩
abbrev S224x223 : Shape := ⟨2, ![224, 223]⟩
abbrev S1x224x224 : Shape := ⟨3, ![1, 224, 224]⟩
abbrev S1 : Shape := ⟨1, ![1]⟩
abbrev S1x1x1 : Shape := ⟨3, ![1, 1, 1]⟩
abbrev S14x224 : Shape := ⟨2, ![14, 224]⟩
abbrev S224x14 : Shape := ⟨2, ![224, 14]⟩
abbrev S14x14 : Shape := ⟨2, ![14, 14]⟩
abbrev S1x1 : Shape := ⟨2, ![1, 1]⟩
abbrev S1x1x14x14 : Shape := ⟨4, ![1, 1, 14, 14]⟩
abbrev S1x14x14 : Shape := ⟨3, ![1, 14, 14]⟩
abbrev S28x224 : Shape := ⟨2, ![28, 224]⟩
abbrev S224x28 : Shape := ⟨2, ![224, 28]⟩
abbrev S28x28 : Shape := ⟨2, ![28, 28]⟩
abbrev S1x1x28x28 : Shape := ⟨4, ![1, 1, 28, 28]⟩
abbrev S1x28x28 : Shape := ⟨3, ![1, 28, 28]⟩
abbrev S56x224 : Shape := ⟨2, ![56, 224]⟩
abbrev S224x56 : Shape := ⟨2, ![224, 56]⟩
abbrev S56x56 : Shape := ⟨2, ![56, 56]⟩
abbrev S1x1x56x56 : Shape := ⟨4, ![1, 1, 56, 56]⟩
abbrev S1x56x56 : Shape := ⟨3, ![1, 56, 56]⟩
abbrev S112x224 : Shape := ⟨2, ![112, 224]⟩
abbrev S224x112 : Shape := ⟨2, ![224, 112]⟩
abbrev S112x112 : Shape := ⟨2, ![112, 112]⟩
abbrev S1x1x112x112 : Shape := ⟨4, ![1, 1, 112, 112]⟩
abbrev S1x112x112 : Shape := ⟨3, ![1, 112, 112]⟩
abbrev S1x128 : Shape := ⟨2, ![1, 128]⟩
abbrev S128 : Shape := ⟨1, ![128]⟩
abbrev S_ : Shape := ⟨0, ![]⟩

abbrev nBuf : Space → Nat
  | .hbm => 53
  | .vmem => 15
  | .smem => 10
  | _ => 0

abbrev bufTy : (tb : Table) → Fin (tcTables nBuf tb) → BufTy
  | .hbm, ⟨0, _⟩ => ⟨S32x27x14x14, .f32⟩
  | .hbm, ⟨1, _⟩ => ⟨S32x27x28x28, .f32⟩
  | .hbm, ⟨2, _⟩ => ⟨S32x27x56x56, .f32⟩
  | .hbm, ⟨3, _⟩ => ⟨S32x27x112x112, .f32⟩
  | .hbm, ⟨4, _⟩ => ⟨S32x27x224x224, .f32⟩
  | .hbm, ⟨5, _⟩ => ⟨S32x3x224x224, .f32⟩
  | .hbm, ⟨6, _⟩ => ⟨S32x1x224x224, .f32⟩
  | .hbm, ⟨7, _⟩ => ⟨S9x9, .f32⟩
  | .hbm, ⟨8, _⟩ => ⟨S9, .f32⟩
  | .hbm, ⟨9, _⟩ => ⟨S9x9, .f32⟩
  | .hbm, ⟨10, _⟩ => ⟨S9, .f32⟩
  | .hbm, ⟨11, _⟩ => ⟨S9x9, .f32⟩
  | .hbm, ⟨12, _⟩ => ⟨S9, .f32⟩
  | .hbm, ⟨13, _⟩ => ⟨S9x9, .f32⟩
  | .hbm, ⟨14, _⟩ => ⟨S9, .f32⟩
  | .hbm, ⟨15, _⟩ => ⟨S9x9, .f32⟩
  | .hbm, ⟨16, _⟩ => ⟨S9, .f32⟩
  | .hbm, ⟨17, _⟩ => ⟨S8x128, .f32⟩
  | .hbm, ⟨18, _⟩ => ⟨S1x128, .f32⟩
  | .hbm, ⟨19, _⟩ => ⟨S128, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x3x224x224, .f32⟩
  | .local _ .vmem, ⟨1, _⟩ => ⟨S1x3x224x224, .f32⟩
  | .local _ .vmem, ⟨2, _⟩ => ⟨S1x1x224x224, .f32⟩
  | .local _ .vmem, ⟨3, _⟩ => ⟨S1x1x224x224, .f32⟩
  | .local _ .vmem, ⟨4, _⟩ => ⟨S1x27x14x14, .f32⟩
  | .local _ .vmem, ⟨5, _⟩ => ⟨S1x27x14x14, .f32⟩
  | .local _ .vmem, ⟨6, _⟩ => ⟨S1x27x28x28, .f32⟩
  | .local _ .vmem, ⟨7, _⟩ => ⟨S1x27x28x28, .f32⟩
  | .local _ .vmem, ⟨8, _⟩ => ⟨S1x27x56x56, .f32⟩
  | .local _ .vmem, ⟨9, _⟩ => ⟨S1x27x56x56, .f32⟩
  | .local _ .vmem, ⟨10, _⟩ => ⟨S1x27x112x112, .f32⟩
  | .local _ .vmem, ⟨11, _⟩ => ⟨S1x27x112x112, .f32⟩
  | .local _ .vmem, ⟨12, _⟩ => ⟨S1x27x224x224, .f32⟩
  | .local _ .vmem, ⟨13, _⟩ => ⟨S1x27x224x224, .f32⟩
  | .local _ .vmem, ⟨14, _⟩ => ⟨S8x128, .f32⟩
  | .local _ .smem, ⟨0, _⟩ => ⟨S9x9, .f32⟩
  | .local _ .smem, ⟨1, _⟩ => ⟨S9, .f32⟩
  | .local _ .smem, ⟨2, _⟩ => ⟨S9x9, .f32⟩
  | .local _ .smem, ⟨3, _⟩ => ⟨S9, .f32⟩
  | .local _ .smem, ⟨4, _⟩ => ⟨S9x9, .f32⟩
  | .local _ .smem, ⟨5, _⟩ => ⟨S9, .f32⟩
  | .local _ .smem, ⟨6, _⟩ => ⟨S9x9, .f32⟩
  | .local _ .smem, ⟨7, _⟩ => ⟨S9, .f32⟩
  | .local _ .smem, ⟨8, _⟩ => ⟨S9x9, .f32⟩
  | .local _ .smem, ⟨9, _⟩ => ⟨S9, .f32⟩
  | _, _ => ⟨S32x27x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev cc0_stg10_0 : Ref sig .tc := ⟨.vmem, 0, rfl⟩
abbrev cc0_stg10_1 : Ref sig .tc := ⟨.vmem, 1, rfl⟩
abbrev cc0_stg11_0 : Ref sig .tc := ⟨.vmem, 2, rfl⟩
abbrev cc0_stg11_1 : Ref sig .tc := ⟨.vmem, 3, rfl⟩
abbrev cc0_stg12_0 : Ref sig .tc := ⟨.vmem, 4, rfl⟩
abbrev cc0_stg12_1 : Ref sig .tc := ⟨.vmem, 5, rfl⟩
abbrev cc0_stg13_0 : Ref sig .tc := ⟨.vmem, 6, rfl⟩
abbrev cc0_stg13_1 : Ref sig .tc := ⟨.vmem, 7, rfl⟩
abbrev cc0_stg14_0 : Ref sig .tc := ⟨.vmem, 8, rfl⟩
abbrev cc0_stg14_1 : Ref sig .tc := ⟨.vmem, 9, rfl⟩
abbrev cc0_stg15_0 : Ref sig .tc := ⟨.vmem, 10, rfl⟩
abbrev cc0_stg15_1 : Ref sig .tc := ⟨.vmem, 11, rfl⟩
abbrev cc0_stg16_0 : Ref sig .tc := ⟨.vmem, 12, rfl⟩
abbrev cc0_stg16_1 : Ref sig .tc := ⟨.vmem, 13, rfl⟩
abbrev cc0_stg17_0 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_stg7_0 : Ref sig .tc := ⟨.smem, 7, rfl⟩
abbrev cc0_stg8_0 : Ref sig .tc := ⟨.smem, 8, rfl⟩
abbrev cc0_stg9_0 : Ref sig .tc := ⟨.smem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32_3463 : BitVec 32 := 0#32
  let v6753 : BitVec 1 := Scalar.cmpi .eq arg0 c0_i32_3463
  let v6754 : BitVec 32 := Scalar.extui v6753
  let c0_i32_3464 : BitVec 32 := 0#32
  let v6755 : BitVec 1 := Scalar.cmpi .ne v6754 c0_i32_3464
  v6755

def k0_cond2 (i : grid0.Coords) : BitVec 1 :=
  let arg0 : BitVec 32 := BitVec.ofNat 32 (i 0).val
  let c0_i32_3465 : BitVec 32 := 0#32
  let v6756 : BitVec 1 := Scalar.cmpi .ne arg0 c0_i32_3465
  let v6757 : BitVec 32 := Scalar.extui v6756
  let c0_i32_3466 : BitVec 32 := 0#32
  let v6758 : BitVec 1 := Scalar.cmpi .ne v6757 c0_i32_3466
  v6758

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S9x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S9x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S9x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S9x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x3x224x224 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x224x224 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x27x14x14 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x27x28x28 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x27x56x56 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x27x112x112 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x27x224x224 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
abbrev S28x14 : Shape := ⟨2, ![28, 14]⟩
abbrev S56x28 : Shape := ⟨2, ![56, 28]⟩
abbrev S112x56 : Shape := ⟨2, ![112, 56]⟩
abbrev S448x224 : Shape := ⟨2, ![448, 224]⟩
variable {F : FTy → Type} [FloatOps F] [Named F]
def κ : String → Option EReal := fun
  | "angle1" => some (((1 / 9) * Real.pi : ℝ) : EReal)
  | "angle2" => some (((2 / 9) * Real.pi : ℝ) : EReal)
  | "angle3" => some (((1 / 3) * Real.pi : ℝ) : EReal)
  | "angle4" => some (((4 / 9) * Real.pi : ℝ) : EReal)
  | "angle5" => some (((5 / 9) * Real.pi : ℝ) : EReal)
  | "angle6" => some (((2 / 3) * Real.pi : ℝ) : EReal)
  | "angle7" => some (((7 / 9) * Real.pi : ℝ) : EReal)
  | "angle8" => some (((8 / 9) * Real.pi : ℝ) : EReal)
  | "third27" => some ((1 / 27 : ℝ) : EReal)
  | _ => none
-- ==== ReferenceIdeal.lean ====
abbrev S32x27x14x14 : Shape := ⟨4, ![32, 27, 14, 14]⟩
abbrev S32x27x28x28 : Shape := ⟨4, ![32, 27, 28, 28]⟩
abbrev S32x27x56x56 : Shape := ⟨4, ![32, 27, 56, 56]⟩
abbrev S32x27x112x112 : Shape := ⟨4, ![32, 27, 112, 112]⟩
abbrev S32x27x224x224 : Shape := ⟨4, ![32, 27, 224, 224]⟩
abbrev S32x3x224x224 : Shape := ⟨4, ![32, 3, 224, 224]⟩
abbrev S32x1x224x224 : Shape := ⟨4, ![32, 1, 224, 224]⟩
abbrev S9x9 : Shape := ⟨2, ![9, 9]⟩
abbrev S9 : Shape := ⟨1, ![9]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S32x3x1x224x224 : Shape := ⟨5, ![32, 3, 1, 224, 224]⟩
abbrev S9x1x1 : Shape := ⟨3, ![9, 1, 1]⟩
abbrev S1x1x9x1x1 : Shape := ⟨5, ![1, 1, 9, 1, 1]⟩
abbrev S32x3x9x224x224 : Shape := ⟨5, ![32, 3, 9, 224, 224]⟩
abbrev S32x3x9x14x14 : Shape := ⟨5, ![32, 3, 9, 14, 14]⟩
abbrev S32x3x14x14x9 : Shape := ⟨5, ![32, 3, 14, 14, 9]⟩
abbrev S32x3x14x14 : Shape := ⟨4, ![32, 3, 14, 14]⟩
abbrev S32x3x1x14x14 : Shape := ⟨5, ![32, 3, 1, 14, 14]⟩
abbrev S32x14x16x14x16 : Shape := ⟨5, ![32, 14, 16, 14, 16]⟩
abbrev S32x14x14 : Shape := ⟨3, ![32, 14, 14]⟩
abbrev S32x3x9x28x28 : Shape := ⟨5, ![32, 3, 9, 28, 28]⟩
abbrev S32x3x28x28x9 : Shape := ⟨5, ![32, 3, 28, 28, 9]⟩
abbrev S32x3x28x28 : Shape := ⟨4, ![32, 3, 28, 28]⟩
abbrev S32x3x1x28x28 : Shape := ⟨5, ![32, 3, 1, 28, 28]⟩
abbrev S32x28x8x28x8 : Shape := ⟨5, ![32, 28, 8, 28, 8]⟩
abbrev S32x28x28 : Shape := ⟨3, ![32, 28, 28]⟩
abbrev S32x3x9x56x56 : Shape := ⟨5, ![32, 3, 9, 56, 56]⟩
abbrev S32x3x56x56x9 : Shape := ⟨5, ![32, 3, 56, 56, 9]⟩
abbrev S32x3x56x56 : Shape := ⟨4, ![32, 3, 56, 56]⟩
abbrev S32x3x1x56x56 : Shape := ⟨5, ![32, 3, 1, 56, 56]⟩
abbrev S32x56x4x56x4 : Shape := ⟨5, ![32, 56, 4, 56, 4]⟩
abbrev S32x56x56 : Shape := ⟨3, ![32, 56, 56]⟩
abbrev S32x3x9x112x112 : Shape := ⟨5, ![32, 3, 9, 112, 112]⟩
abbrev S32x3x112x112x9 : Shape := ⟨5, ![32, 3, 112, 112, 9]⟩
abbrev S32x3x112x112 : Shape := ⟨4, ![32, 3, 112, 112]⟩
abbrev S32x3x1x112x112 : Shape := ⟨5, ![32, 3, 1, 112, 112]⟩
abbrev S32x112x2x112x2 : Shape := ⟨5, ![32, 112, 2, 112, 2]⟩
abbrev S32x112x112 : Shape := ⟨3, ![32, 112, 112]⟩
abbrev S32x3x224x224x9 : Shape := ⟨5, ![32, 3, 224, 224, 9]⟩
abbrev S32x224x1x224x1 : Shape := ⟨5, ![32, 224, 1, 224, 1]⟩
abbrev S32x224x224 : Shape := ⟨3, ![32, 224, 224]⟩

abbrev nBuf : Space → Nat
  | .hbm => 359
  | .vmem => 0
  | .smem => 0
  | _ => 0

abbrev hbmTy0_0 (i : Nat) : BufTy := match i % 128 with
  | 0 => ⟨S32x27x14x14, .f32⟩
  | 1 => ⟨S32x27x28x28, .f32⟩
  | 2 => ⟨S32x27x56x56, .f32⟩
  | 3 => ⟨S32x27x112x112, .f32⟩
  | 4 => ⟨S32x27x224x224, .f32⟩
  | 5 => ⟨S32x3x224x224, .f32⟩
  | 6 => ⟨S32x1x224x224, .f32⟩
  | 7 => ⟨S9x9, .f32⟩
  | 8 => ⟨S9, .f32⟩
  | 9 => ⟨S9x9, .f32⟩
  | 10 => ⟨S9, .f32⟩
  | 11 => ⟨S9x9, .f32⟩
  | 12 => ⟨S9, .f32⟩
  | 13 => ⟨S9x9, .f32⟩
  | 14 => ⟨S9, .f32⟩
  | 15 => ⟨S9x9, .f32⟩
  | 16 => ⟨S9, .f32⟩
  | 17 => ⟨S_, .i32⟩
  | 18 => ⟨S32x3x1x224, .f32⟩
  | 19 => ⟨S32x3x1x224, .f32⟩
  | 20 => ⟨S32x3x1x224, .f32⟩
  | 21 => ⟨S32x3x225x224, .f32⟩
  | 22 => ⟨S32x3x1x224, .f32⟩
  | 23 => ⟨S32x3x1x224, .f32⟩
  | 24 => ⟨S32x3x1x224, .f32⟩
  | 25 => ⟨S32x3x226x224, .f32⟩
  | 26 => ⟨S32x3x226x1, .f32⟩
  | 27 => ⟨S32x3x226x1, .f32⟩
  | 28 => ⟨S32x3x226x1, .f32⟩
  | 29 => ⟨S32x3x226x225, .f32⟩
  | 30 => ⟨S32x3x226x1, .f32⟩
  | 31 => ⟨S32x3x226x1, .f32⟩
  | 32 => ⟨S32x3x226x1, .f32⟩
  | 33 => ⟨S32x3x226x226, .f32⟩
  | 34 => ⟨S32x3x224x224, .f32⟩
  | 35 => ⟨S_, .f32⟩
  | 36 => ⟨S32x3x224x224, .f32⟩
  | 37 => ⟨S32x3x224x224, .f32⟩
  | 38 => ⟨S_, .f32⟩
  | 39 => ⟨S32x3x224x224, .f32⟩
  | 40 => ⟨S32x3x224x224, .f32⟩
  | 41 => ⟨S_, .f32⟩
  | 42 => ⟨S32x3x224x224, .f32⟩
  | 43 => ⟨S32x3x224x224, .f32⟩
  | 44 => ⟨S_, .f32⟩
  | 45 => ⟨S32x3x224x224, .f32⟩
  | 46 => ⟨S32x3x224x224, .f32⟩
  | 47 => ⟨S32x3x224x224, .f32⟩
  | 48 => ⟨S_, .f32⟩
  | 49 => ⟨S32x3x224x224, .f32⟩
  | 50 => ⟨S32x3x224x224, .f32⟩
  | 51 => ⟨S32x3x224x224, .f32⟩
  | 52 => ⟨S_, .f32⟩
  | 53 => ⟨S32x3x224x224, .f32⟩
  | 54 => ⟨S32x3x224x224, .f32⟩
  | 55 => ⟨S32x3x224x224, .f32⟩
  | 56 => ⟨S32x3x224x224, .f32⟩
  | 57 => ⟨S_, .f32⟩
  | 58 => ⟨S32x3x224x224, .f32⟩
  | 59 => ⟨S32x3x224x224, .f32⟩
  | 60 => ⟨S32x3x224x224, .f32⟩
  | 61 => ⟨S_, .f32⟩
  | 62 => ⟨S32x3x224x224, .f32⟩
  | 63 => ⟨S32x3x224x224, .f32⟩
  | 64 => ⟨S32x3x224x224, .f32⟩
  | 65 => ⟨S32x3x224x224, .f32⟩
  | 66 => ⟨S_, .f32⟩
  | 67 => ⟨S32x3x224x224, .f32⟩
  | 68 => ⟨S32x3x224x224, .f32⟩
  | 69 => ⟨S32x3x224x224, .f32⟩
  | 70 => ⟨S_, .f32⟩
  | 71 => ⟨S32x3x224x224, .f32⟩
  | 72 => ⟨S32x3x224x224, .f32⟩
  | 73 => ⟨S32x3x224x224, .f32⟩
  | 74 => ⟨S32x3x224x224, .f32⟩
  | 75 => ⟨S_, .f32⟩
  | 76 => ⟨S32x3x224x224, .f32⟩
  | 77 => ⟨S32x3x224x224, .f32⟩
  | 78 => ⟨S32x3x224x224, .f32⟩
  | 79 => ⟨S_, .f32⟩
  | 80 => ⟨S32x3x224x224, .f32⟩
  | 81 => ⟨S32x3x224x224, .f32⟩
  | 82 => ⟨S32x3x224x224, .f32⟩
  | 83 => ⟨S32x3x224x224, .f32⟩
  | 84 => ⟨S_, .f32⟩
  | 85 => ⟨S32x3x224x224, .f32⟩
  | 86 => ⟨S32x3x224x224, .f32⟩
  | 87 => ⟨S32x3x224x224, .f32⟩
  | 88 => ⟨S_, .f32⟩
  | 89 => ⟨S32x3x224x224, .f32⟩
  | 90 => ⟨S32x3x224x224, .f32⟩
  | 91 => ⟨S32x3x224x224, .f32⟩
  | 92 => ⟨S32x3x224x224, .f32⟩
  | 93 => ⟨S_, .f32⟩
  | 94 => ⟨S32x3x224x224, .f32⟩
  | 95 => ⟨S32x3x224x224, .f32⟩
  | 96 => ⟨S32x3x224x224, .f32⟩
  | 97 => ⟨S_, .f32⟩
  | 98 => ⟨S32x3x224x224, .f32⟩
  | 99 => ⟨S32x3x224x224, .f32⟩
  | 100 => ⟨S32x3x224x224, .f32⟩
  | 101 => ⟨S32x3x224x224, .f32⟩
  | 102 => ⟨S_, .f32⟩
  | 103 => ⟨S32x3x224x224, .f32⟩
  | 104 => ⟨S32x3x224x224, .f32⟩
  | 105 => ⟨S32x3x224x224, .f32⟩
  | 106 => ⟨S_, .f32⟩
  | 107 => ⟨S32x3x224x224, .f32⟩
  | 108 => ⟨S32x3x224x224, .f32⟩
  | 109 => ⟨S32x3x224x224, .f32⟩
  | 110 => ⟨S32x3x224x224, .f32⟩
  | 111 => ⟨S_, .f32⟩
  | 112 => ⟨S32x3x224x224, .f32⟩
  | 113 => ⟨S32x3x224x224, .f32⟩
  | 114 => ⟨S32x3x224x224, .f32⟩
  | 115 => ⟨S_, .f32⟩
  | 116 => ⟨S32x3x224x224, .f32⟩
  | 117 => ⟨S32x3x224x224, .f32⟩
  | 118 => ⟨S32x3x224x224, .f32⟩
  | 119 => ⟨S32x3x224x224, .f32⟩
  | 120 => ⟨S32x3x224x224, .f32⟩
  | 121 => ⟨S32x3x224x224, .f32⟩
  | 122 => ⟨S32x3x224x224, .f32⟩
  | 123 => ⟨S32x3x224x224, .f32⟩
  | 124 => ⟨S_, .f32⟩
  | 125 => ⟨S_, .f32⟩
  | 126 => ⟨S_, .f32⟩
  | 127 => ⟨S32x3x224x224, .f32⟩
  | _ => ⟨S32x27x14x14, .f32⟩

abbrev hbmTy0_1 (i : Nat) : BufTy := match i % 128 with
  | 0 => ⟨S32x3x224x224, .f32⟩
  | 1 => ⟨S_, .f32⟩
  | 2 => ⟨S32x3x224x224, .f32⟩
  | 3 => ⟨S32x3x224x224, .f32⟩
  | 4 => ⟨S32x3x224x224, .f32⟩
  | 5 => ⟨S32x3x224x224, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S32x3x224x224, .i32⟩
  | 13 => ⟨S32x3x224x224, .i32⟩
  | 14 => ⟨S_, .i32⟩
  | 15 => ⟨S32x3x224x224, .i32⟩
  | 16 => ⟨S32x3x224x224, .i1⟩
  | 17 => ⟨S_, .i32⟩
  | 18 => ⟨S32x3x224x224, .i32⟩
  | 19 => ⟨S32x3x224x224, .i1⟩
  | 20 => ⟨S_, .i32⟩
  | 21 => ⟨S_, .i1⟩
  | 22 => ⟨S32x3x224x224, .i1⟩
  | 23 => ⟨S32x3x224x224, .i1⟩
  | 24 => ⟨S32x3x224x224, .i1⟩
  | 25 => ⟨S32x3x224x224, .i32⟩
  | 26 => ⟨S32x3x224x224, .i32⟩
  | 27 => ⟨S32x3x224x224, .i32⟩
  | 28 => ⟨S32x3x1x224x224, .i32⟩
  | 29 => ⟨S9, .i32⟩
  | 30 => ⟨S9x1x1, .i32⟩
  | 31 => ⟨S1x1x9x1x1, .i32⟩
  | 32 => ⟨S32x3x9x224x224, .i32⟩
  | 33 => ⟨S32x3x9x224x224, .i32⟩
  | 34 => ⟨S32x3x9x224x224, .i1⟩
  | 35 => ⟨S32x3x1x224x224, .f32⟩
  | 36 => ⟨S_, .f32⟩
  | 37 => ⟨S_, .f32⟩
  | 38 => ⟨S32x3x9x224x224, .f32⟩
  | 39 => ⟨S32x3x9x224x224, .f32⟩
  | 40 => ⟨S32x3x9x224x224, .f32⟩
  | 41 => ⟨S32x3x9x14x14, .f32⟩
  | 42 => ⟨S32x3x14x14x9, .f32⟩
  | 43 => ⟨S32x3x9x14x14, .f32⟩
  | 44 => ⟨S9x1x1, .f32⟩
  | 45 => ⟨S1x1x9x1x1, .f32⟩
  | 46 => ⟨S32x3x9x14x14, .f32⟩
  | 47 => ⟨S32x3x9x14x14, .f32⟩
  | 48 => ⟨S32x3x9x14x14, .f32⟩
  | 49 => ⟨S_, .f32⟩
  | 50 => ⟨S32x3x14x14, .f32⟩
  | 51 => ⟨S32x3x1x14x14, .f32⟩
  | 52 => ⟨S32x3x1x14x14, .f32⟩
  | 53 => ⟨S_, .f32⟩
  | 54 => ⟨S32x3x1x14x14, .f32⟩
  | 55 => ⟨S32x3x1x14x14, .f32⟩
  | 56 => ⟨S32x3x9x14x14, .f32⟩
  | 57 => ⟨S32x3x9x14x14, .f32⟩
  | 58 => ⟨S32x27x14x14, .f32⟩
  | 59 => ⟨S32x14x16x14x16, .f32⟩
  | 60 => ⟨S_, .f32⟩
  | 61 => ⟨S32x14x14, .f32⟩
  | 62 => ⟨S_, .f32⟩
  | 63 => ⟨S32x14x14, .f32⟩
  | 64 => ⟨S32x14x14, .f32⟩
  | 65 => ⟨S32x27x14x14, .f32⟩
  | 66 => ⟨S32x27x14x14, .f32⟩
  | 67 => ⟨S_, .f32⟩
  | 68 => ⟨S32x14x14, .f32⟩
  | 69 => ⟨S_, .f32⟩
  | 70 => ⟨S32x14x14, .f32⟩
  | 71 => ⟨S32x14x14, .f32⟩
  | 72 => ⟨S32x14x14, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S32x3x9x28x28, .f32⟩
  | 81 => ⟨S32x3x28x28x9, .f32⟩
  | 82 => ⟨S32x3x9x28x28, .f32⟩
  | 83 => ⟨S9x1x1, .f32⟩
  | 84 => ⟨S1x1x9x1x1, .f32⟩
  | 85 => ⟨S32x3x9x28x28, .f32⟩
  | 86 => ⟨S32x3x9x28x28, .f32⟩
  | 87 => ⟨S32x3x9x28x28, .f32⟩
  | 88 => ⟨S_, .f32⟩
  | 89 => ⟨S32x3x28x28, .f32⟩
  | 90 => ⟨S32x3x1x28x28, .f32⟩
  | 91 => ⟨S32x3x1x28x28, .f32⟩
  | 92 => ⟨S_, .f32⟩
  | 93 => ⟨S32x3x1x28x28, .f32⟩
  | 94 => ⟨S32x3x1x28x28, .f32⟩
  | 95 => ⟨S32x3x9x28x28, .f32⟩
  | 96 => ⟨S32x3x9x28x28, .f32⟩
  | 97 => ⟨S32x27x28x28, .f32⟩
  | 98 => ⟨S32x28x8x28x8, .f32⟩
  | 99 => ⟨S_, .f32⟩
  | 100 => ⟨S32x28x28, .f32⟩
  | 101 => ⟨S_, .f32⟩
  | 102 => ⟨S32x28x28, .f32⟩
  | 103 => ⟨S32x28x28, .f32⟩
  | 104 => ⟨S32x27x28x28, .f32⟩
  | 105 => ⟨S32x27x28x28, .f32⟩
  | 106 => ⟨S_, .f32⟩
  | 107 => ⟨S32x28x28, .f32⟩
  | 108 => ⟨S_, .f32⟩
  | 109 => ⟨S32x28x28, .f32⟩
  | 110 => ⟨S32x28x28, .f32⟩
  | 111 => ⟨S32x28x28, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S32x3x9x56x56, .f32⟩
  | 119 => ⟨S32x3x56x56x9, .f32⟩
  | 120 => ⟨S32x3x9x56x56, .f32⟩
  | 121 => ⟨S9x1x1, .f32⟩
  | 122 => ⟨S1x1x9x1x1, .f32⟩
  | 123 => ⟨S32x3x9x56x56, .f32⟩
  | 124 => ⟨S32x3x9x56x56, .f32⟩
  | 125 => ⟨S32x3x9x56x56, .f32⟩
  | 126 => ⟨S_, .f32⟩
  | 127 => ⟨S32x3x56x56, .f32⟩
  | _ => ⟨S32x27x14x14, .f32⟩

abbrev hbmTy0_2 (i : Nat) : BufTy := match i % 128 with
  | 0 => ⟨S32x3x1x56x56, .f32⟩
  | 1 => ⟨S32x3x1x56x56, .f32⟩
  | 2 => ⟨S_, .f32⟩
  | 3 => ⟨S32x3x1x56x56, .f32⟩
  | 4 => ⟨S32x3x1x56x56, .f32⟩
  | 5 => ⟨S32x3x9x56x56, .f32⟩
  | 6 => ⟨S32x3x9x56x56, .f32⟩
  | 7 => ⟨S32x27x56x56, .f32⟩
  | 8 => ⟨S32x56x4x56x4, .f32⟩
  | 9 => ⟨S_, .f32⟩
  | 10 => ⟨S32x56x56, .f32⟩
  | 11 => ⟨S_, .f32⟩
  | 12 => ⟨S32x56x56, .f32⟩
  | 13 => ⟨S32x56x56, .f32⟩
  | 14 => ⟨S32x27x56x56, .f32⟩
  | 15 => ⟨S32x27x56x56, .f32⟩
  | 16 => ⟨S_, .f32⟩
  | 17 => ⟨S32x56x56, .f32⟩
  | 18 => ⟨S_, .f32⟩
  | 19 => ⟨S32x56x56, .f32⟩
  | 20 => ⟨S32x56x56, .f32⟩
  | 21 => ⟨S32x56x56, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S32x3x9x112x112, .f32⟩
  | 29 => ⟨S32x3x112x112x9, .f32⟩
  | 30 => ⟨S32x3x9x112x112, .f32⟩
  | 31 => ⟨S9x1x1, .f32⟩
  | 32 => ⟨S1x1x9x1x1, .f32⟩
  | 33 => ⟨S32x3x9x112x112, .f32⟩
  | 34 => ⟨S32x3x9x112x112, .f32⟩
  | 35 => ⟨S32x3x9x112x112, .f32⟩
  | 36 => ⟨S_, .f32⟩
  | 37 => ⟨S32x3x112x112, .f32⟩
  | 38 => ⟨S32x3x1x112x112, .f32⟩
  | 39 => ⟨S32x3x1x112x112, .f32⟩
  | 40 => ⟨S_, .f32⟩
  | 41 => ⟨S32x3x1x112x112, .f32⟩
  | 42 => ⟨S32x3x1x112x112, .f32⟩
  | 43 => ⟨S32x3x9x112x112, .f32⟩
  | 44 => ⟨S32x3x9x112x112, .f32⟩
  | 45 => ⟨S32x27x112x112, .f32⟩
  | 46 => ⟨S32x112x2x112x2, .f32⟩
  | 47 => ⟨S_, .f32⟩
  | 48 => ⟨S32x112x112, .f32⟩
  | 49 => ⟨S_, .f32⟩
  | 50 => ⟨S32x112x112, .f32⟩
  | 51 => ⟨S32x112x112, .f32⟩
  | 52 => ⟨S32x27x112x112, .f32⟩
  | 53 => ⟨S32x27x112x112, .f32⟩
  | 54 => ⟨S_, .f32⟩
  | 55 => ⟨S32x112x112, .f32⟩
  | 56 => ⟨S_, .f32⟩
  | 57 => ⟨S32x112x112, .f32⟩
  | 58 => ⟨S32x112x112, .f32⟩
  | 59 => ⟨S32x112x112, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S32x3x224x224x9, .f32⟩
  | 67 => ⟨S32x3x9x224x224, .f32⟩
  | 68 => ⟨S9x1x1, .f32⟩
  | 69 => ⟨S1x1x9x1x1, .f32⟩
  | 70 => ⟨S32x3x9x224x224, .f32⟩
  | 71 => ⟨S32x3x9x224x224, .f32⟩
  | 72 => ⟨S32x3x9x224x224, .f32⟩
  | 73 => ⟨S_, .f32⟩
  | 74 => ⟨S32x3x224x224, .f32⟩
  | 75 => ⟨S32x3x1x224x224, .f32⟩
  | 76 => ⟨S32x3x1x224x224, .f32⟩
  | 77 => ⟨S_, .f32⟩
  | 78 => ⟨S32x3x1x224x224, .f32⟩
  | 79 => ⟨S32x3x1x224x224, .f32⟩
  | 80 => ⟨S32x3x9x224x224, .f32⟩
  | 81 => ⟨S32x3x9x224x224, .f32⟩
  | 82 => ⟨S32x27x224x224, .f32⟩
  | 83 => ⟨S32x224x1x224x1, .f32⟩
  | 84 => ⟨S_, .f32⟩
  | 85 => ⟨S32x224x224, .f32⟩
  | 86 => ⟨S_, .f32⟩
  | 87 => ⟨S32x224x224, .f32⟩
  | 88 => ⟨S32x224x224, .f32⟩
  | 89 => ⟨S32x27x224x224, .f32⟩
  | 90 => ⟨S32x27x224x224, .f32⟩
  | 91 => ⟨S_, .f32⟩
  | 92 => ⟨S32x224x224, .f32⟩
  | 93 => ⟨S_, .f32⟩
  | 94 => ⟨S32x224x224, .f32⟩
  | 95 => ⟨S32x224x224, .f32⟩
  | 96 => ⟨S32x224x224, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | _ => ⟨S32x27x14x14, .f32⟩

abbrev hbmTy (i : Nat) : BufTy := match i / 128 with
  | 0 => hbmTy0_0 i
  | 1 => hbmTy0_1 i
  | 2 => hbmTy0_2 i
  | _ => ⟨S32x27x14x14, .f32⟩

abbrev bufTy : (tb : Table) → Fin (tcTables nBuf tb) → BufTy
  | .hbm, ⟨i, _⟩ => hbmTy i
  | _, _ => ⟨S32x27x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v0 : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_cst_1 : Ref sig .tc := ⟨.hbm, 41, rfl⟩
abbrev main_v6 : Ref sig .tc := ⟨.hbm, 42, rfl⟩
abbrev main_v7 : Ref sig .tc := ⟨.hbm, 43, rfl⟩
abbrev main_cst_2 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_3 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_4 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_5 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_6 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_7 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_8 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_9 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_10 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_11 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_12 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_13 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_14 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_15 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_16 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_17 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_18 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_19 : Ref sig .tc := ⟨.hbm, 124, rfl⟩
abbrev main_cst_20 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_21 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_22 : Ref sig .tc := ⟨.hbm, 134, rfl⟩
abbrev main_call1_v0 : Ref sig .tc := ⟨.hbm, 135, rfl⟩
abbrev main_call1_c : Ref sig .tc := ⟨.hbm, 136, rfl⟩
abbrev main_call1_v1 : Ref sig .tc := ⟨.hbm, 137, rfl⟩
abbrev main_call1_c_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_c_1 : Ref sig .tc := ⟨.hbm, 142, rfl⟩
abbrev main_call1_v5 : Ref sig .tc := ⟨.hbm, 143, rfl⟩
abbrev main_call1_v6 : Ref sig .tc := ⟨.hbm, 144, rfl⟩
abbrev main_call1_c_2 : Ref sig .tc := ⟨.hbm, 145, rfl⟩
abbrev main_call1_v7 : Ref sig .tc := ⟨.hbm, 146, rfl⟩
abbrev main_call1_v8 : Ref sig .tc := ⟨.hbm, 147, rfl⟩
abbrev main_call1_c_3 : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_v12 : Ref sig .tc := ⟨.hbm, 152, rfl⟩
abbrev main_call1_v13 : Ref sig .tc := ⟨.hbm, 153, rfl⟩
abbrev main_call1_v14 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_cst_23 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_24 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_25 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_cst_26 : Ref sig .tc := ⟨.hbm, 188, rfl⟩
abbrev main_v105 : Ref sig .tc := ⟨.hbm, 189, rfl⟩
abbrev main_cst_27 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_cst_28 : Ref sig .tc := ⟨.hbm, 195, rfl⟩
abbrev main_v110 : Ref sig .tc := ⟨.hbm, 196, rfl⟩
abbrev main_cst_29 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_cst_30 : Ref sig .tc := ⟨.hbm, 201, rfl⟩
abbrev main_v114 : Ref sig .tc := ⟨.hbm, 202, rfl⟩
abbrev main_cst_31 : Ref sig .tc := ⟨.hbm, 203, rfl⟩
abbrev main_v115 : Ref sig .tc := ⟨.hbm, 204, rfl⟩
abbrev main_v116 : Ref sig .tc := ⟨.hbm, 205, rfl⟩
abbrev main_cst_32 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_cst_33 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_cst_34 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_cst_35 : Ref sig .tc := ⟨.hbm, 227, rfl⟩
abbrev main_v135 : Ref sig .tc := ⟨.hbm, 228, rfl⟩
abbrev main_cst_36 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_cst_37 : Ref sig .tc := ⟨.hbm, 234, rfl⟩
abbrev main_v140 : Ref sig .tc := ⟨.hbm, 235, rfl⟩
abbrev main_cst_38 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_39 : Ref sig .tc := ⟨.hbm, 240, rfl⟩
abbrev main_v144 : Ref sig .tc := ⟨.hbm, 241, rfl⟩
abbrev main_cst_40 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_cst_41 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_cst_42 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_cst_43 : Ref sig .tc := ⟨.hbm, 265, rfl⟩
abbrev main_v165 : Ref sig .tc := ⟨.hbm, 266, rfl⟩
abbrev main_cst_44 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_cst_45 : Ref sig .tc := ⟨.hbm, 272, rfl⟩
abbrev main_v170 : Ref sig .tc := ⟨.hbm, 273, rfl⟩
abbrev main_cst_46 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_cst_47 : Ref sig .tc := ⟨.hbm, 278, rfl⟩
abbrev main_v174 : Ref sig .tc := ⟨.hbm, 279, rfl⟩
abbrev main_cst_48 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_cst_49 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_cst_50 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_cst_51 : Ref sig .tc := ⟨.hbm, 303, rfl⟩
abbrev main_v195 : Ref sig .tc := ⟨.hbm, 304, rfl⟩
abbrev main_cst_52 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_cst_53 : Ref sig .tc := ⟨.hbm, 310, rfl⟩
abbrev main_v200 : Ref sig .tc := ⟨.hbm, 311, rfl⟩
abbrev main_cst_54 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_cst_55 : Ref sig .tc := ⟨.hbm, 316, rfl⟩
abbrev main_v204 : Ref sig .tc := ⟨.hbm, 317, rfl⟩
abbrev main_cst_56 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_cst_57 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_cst_58 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_cst_59 : Ref sig .tc := ⟨.hbm, 340, rfl⟩
abbrev main_v224 : Ref sig .tc := ⟨.hbm, 341, rfl⟩
abbrev main_cst_60 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_cst_61 : Ref sig .tc := ⟨.hbm, 347, rfl⟩
abbrev main_v229 : Ref sig .tc := ⟨.hbm, 348, rfl⟩
abbrev main_cst_62 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_cst_63 : Ref sig .tc := ⟨.hbm, 353, rfl⟩
abbrev main_v233 : Ref sig .tc := ⟨.hbm, 354, rfl⟩
abbrev main_cst_64 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩

abbrev nD : Nat := 1
abbrev τ : Topo := Topo.v7x

variable {F : FTy → Type} [FloatOps F]
-- ==== Proof.Tile.lean ====
module

public import proofs.«01_k».proof.Proof.Gen.KernelIdeal.Frame

/-!
What one grid point of the kernel computes, written as a few definitions over whole vectors (the image gradients, the 0/1 matrices that
subsample or sum windows, the orientation tests, the selection tree, the error sums, the accumulated tile), and the proof that the two branches
of the kernel's run store exactly this.
-/

@[expose] public section

set_option maxRecDepth 65536

noncomputable section

namespace Cert.Hog

open Idealize.ShloMosaic Idealize.ShloMosaic.TcCoe Idealize.SL.Sem Cert.KernelIdeal Cert.KernelIdeal.Gen

variable {F : FTy → Type} [FloatOps F] [Named F]

/-! ### Gradients -/

/-- The rows moved down by one, the first row taken from the second (reflection). -/
def rowPrev (x : FVec F S224x224 .f32) : FVec F S224x224 .f32 :=
  concatenate S224x224 0 [⟨S1x224, extractStridedSlice S1x224 ![1, 0] x slices_S224x224_o1_0_S1x224⟩,
    ⟨S223x224, extractStridedSlice S223x224 ![0, 0] x slices_S224x224_o0_0_S223x224⟩] concatenates_S1x224_S223x224_S224x224_d0

/-- The rows moved up by one, the last row taken from the one before it (reflection). -/
def rowNext (x : FVec F S224x224 .f32) : FVec F S224x224 .f32 :=
  concatenate S224x224 0 [⟨S223x224, extractStridedSlice S223x224 ![1, 0] x slices_S224x224_o1_0_S223x224⟩,
    ⟨S1x224, extractStridedSlice S1x224 ![222, 0] x slices_S224x224_o222_0_S1x224⟩] concatenates_S223x224_S1x224_S224x224_d0

/-- The columns moved right by one, the first column taken from the second. -/
def colPrev (x : FVec F S224x224 .f32) : FVec F S224x224 .f32 :=
  concatenate S224x224 1 [⟨S224x1, extractStridedSlice S224x1 ![0, 1] x slices_S224x224_o0_1_S224x1⟩,
    ⟨S224x223, extractStridedSlice S224x223 ![0, 0] x slices_S224x224_o0_0_S224x223⟩] concatenates_S224x1_S224x223_S224x224_d1

/-- The columns moved left by one, the last column taken from the one before it. -/
def colNext (x : FVec F S224x224 .f32) : FVec F S224x224 .f32 :=
  concatenate S224x224 1 [⟨S224x223, extractStridedSlice S224x223 ![0, 1] x slices_S224x224_o0_1_S224x223⟩,
    ⟨S224x1, extractStridedSlice S224x1 ![0, 222] x slices_S224x224_o0_222_S224x1⟩] concatenates_S224x223_S224x1_S224x224_d1

/-- Weights 1, 2, 1 over three shifted copies. -/
def smooth (p x n : FVec F S224x224 .f32) : FVec F S224x224 .f32 :=
  addf (addf p (mulf (broadcast S224x224 (Scalar.ofBits .f32 0x40000000#32)) x)) n

/-- The horizontal gradient of one channel. -/
def grad0 (x : FVec F S224x224 .f32) : FVec F S224x224 .f32 :=
  subf (colPrev (smooth (rowPrev x) x (rowNext x))) (colNext (smooth (rowPrev x) x (rowNext x)))

/-- The vertical gradient of one channel. -/
def grad1 (x : FVec F S224x224 .f32) : FVec F S224x224 .f32 :=
  subf (rowPrev (smooth (colPrev x) x (colNext x))) (rowNext (smooth (colPrev x) x (colNext x)))

/-! ### Orientation -/

section Shaped
variable {S : Shape}

/-- The zero vector the comparisons use. -/
def zeros (S : Shape) : FVec F S .f32 := broadcast S (Scalar.ofBits .f32 0x00000000#32)

/-- The gradient magnitude. -/
def magV (a b : FVec F S .f32) : FVec F S .f32 := sqrt (addf (mulf a a) (mulf b b))

/-- `b`, with its sign changed where `a` is negative. -/
def foldV (a b : FVec F S .f32) : FVec F S .f32 := select (cmpf .olt a (zeros S)) (subf (zeros S) b) b

/-- The second component of the folded vector; its absolute value where the first component is zero. -/
def foldAbs (a b : FVec F S .f32) : FVec F S .f32 :=
  select (cmpf .oeq (foldV a a) (zeros S)) (absf (foldV a b)) (foldV a b)

/-- Whether the folded angle is at least the one whose cotangent is `k`. -/
def testV (a b : FVec F S .f32) (k : F .f32) : IVec S 1 := cmpf .ole (foldAbs a b) (mulf (foldV a a) (broadcast S k))

/-- The cotangent of a named angle. -/
def cotOf (name : String) (bits : BitVec 32) : F .f32 :=
  Scalar.divf (Scalar.ofBits .f32 0x3F800000#32) (Scalar.tan (Named.named κ name bits))

/-- The eight tests. -/
def tests (a b : FVec F S .f32) : Fin 8 → IVec S 1 := ![testV a b (cotOf "angle1" 0x3EB2B8C2#32), testV a b (cotOf "angle2" 0x3F32B8C2#32),
  testV a b (cotOf "angle3" 0x3F860A92#32), testV a b (cotOf "angle4" 0x3FB2B8C2#32), testV a b (cotOf "angle5" 0x3FDF66F3#32),
  testV a b (cotOf "angle6" 0x40060A92#32), testV a b (cotOf "angle7" 0x401C61AA#32), testV a b (cotOf "angle8" 0x4032B8C2#32)]

/-- The selection tree over nine vectors. -/
def treeV {φ : FTy} (t : Fin 8 → IVec S 1) (w : Fin 9 → FVec F S φ) : FVec F S φ :=
  select (t 3) (select (t 5) (select (t 6) (select (t 7) (w 8) (w 7)) (w 6)) (select (t 4) (w 5) (w 4)))
    (select (t 1) (select (t 2) (w 3) (w 2)) (select (t 0) (w 1) (w 0)))

/-- One output channel whose weights pass through the half-width format. -/
def hogHalf (a b : FVec F S .f32) (w : Fin 9 → F .f32) (p : F .f32) : FVec F S .f32 :=
  addf (broadcast S p) (mulf (magV a b) (extf .f32 (treeV (tests a b) (fun k => truncf .bf16 (broadcast S (w k))))))

/-- The output channel whose weights stay whole. -/
def hogWhole (a b : FVec F S .f32) (w : Fin 9 → F .f32) (p : F .f32) : FVec F S .f32 :=
  addf (broadcast S p) (mulf (magV a b) (treeV (tests a b) (fun k => broadcast S (w k))))

/-- The nine output channels. -/
def hogs (a b : FVec F S .f32) (W : Fin 9 → Fin 9 → F .f32) (B : Fin 9 → F .f32) (o : Fin 9) : FVec F S .f32 :=
  if o.val = 8 then hogWhole a b (W o) (B o) else hogHalf a b (W o) (B o)

/-- The reciprocal of the clamped norm of nine channels. -/
def invNorm (h : Fin 9 → FVec F S .f32) : FVec F S .f32 :=
  divf (broadcast S (Scalar.ofBits .f32 0x3F800000#32))
    (maximumf (sqrt (addf (addf (addf (addf (addf (addf (addf (addf (mulf (h 0) (h 0)) (mulf (h 1) (h 1))) (mulf (h 2) (h 2))) (mulf (h 3) (h 3)))
      (mulf (h 4) (h 4))) (mulf (h 5) (h 5))) (mulf (h 6) (h 6))) (mulf (h 7) (h 7))) (mulf (h 8) (h 8))))
      (broadcast S (Scalar.ofBits .f32 0x2B8CBCCC#32)))

/-- One more squared difference added to the running error. -/
def addErr (e p h v : FVec F S .f32) : FVec F S .f32 := addf e (mulf (subf p (mulf h v)) (subf p (mulf h v)))

/-- The squared differences of one channel's nine outputs added to the running error. -/
def chanErr (e : FVec F S .f32) (h : Fin 9 → FVec F S .f32) (P : Fin 9 → FVec F S .f32) : FVec F S .f32 :=
  addErr (addErr (addErr (addErr (addErr (addErr (addErr (addErr (addErr e (P 0) (h 0) (invNorm h)) (P 1) (h 1) (invNorm h)) (P 2) (h 2) (invNorm h))
    (P 3) (h 3) (invNorm h)) (P 4) (h 4) (invNorm h)) (P 5) (h 5) (invNorm h)) (P 6) (h 6) (invNorm h)) (P 7) (h 7) (invNorm h)) (P 8) (h 8) (invNorm h)

/-- The error of the three channels at each position. -/
def errV (G H : Fin 3 → FVec F S .f32) (W : Fin 9 → Fin 9 → F .f32) (B : Fin 9 → F .f32) (P : Fin 3 → Fin 9 → FVec F S .f32) : FVec F S .f32 :=
  chanErr (chanErr (chanErr (zeros S) (hogs (G 0) (H 0) W B) (P 0)) (hogs (G 1) (H 1) W B) (P 1)) (hogs (G 2) (H 2) W B) (P 2)

/-- The sum of a matrix's elements. -/
def total {S1 : Shape} {dims : List (Fin S1.rank)} (c : S.ShapeCasts S1) (r : S1.Reduces dims Cert.KernelIdeal.S1) (x : FVec F S .f32) : F .f32 :=
  extractAt ![0, 0, 0] (shapeCast S1x1x1 (multiReduction .add dims Cert.KernelIdeal.S1 (shapeCast S1 x c) 0x00000000#32 r (.inl rfl) rfl)
    shapeCasts_S1_S1x1x1) inpos_S1x1x1_p0_0_0

/-- The pool's entry of the tile: a twenty-seventh of the masked error's sum. -/
def poolNum {S1 : Shape} {dims : List (Fin S1.rank)} (c : S.ShapeCasts S1) (r : S1.Reduces dims Cert.KernelIdeal.S1) (e M : FVec F S .f32) : F .f32 :=
  Scalar.mulf (total c r (mulf e M)) (Named.named κ "third27" 0x3D17B426#32)

/-! ### The 0/1 matrices -/

/-- Integers divided by `s`, rounded down, as the printed operations compute it. -/
def floorDiv (s : BitVec 32) (x : IVec S 32) : IVec S 32 :=
  select (andi (cmpi .ne (subi (extui 32 (cmpi .sgt x (broadcast S 0#32)) natLt_1_32) (extui 32 (cmpi .slt x (broadcast S 0#32)) natLt_1_32))
      (broadcast S (Scalar.subi (Scalar.extui (Scalar.cmpi .sgt s 0#32)) (Scalar.extui (Scalar.cmpi .slt s 0#32)))))
    (cmpi .ne (remsi x (broadcast S s)) (broadcast S 0#32))) (subi (divsi x (broadcast S s)) (broadcast S 1#32)) (divsi x (broadcast S s))

/-- Ones where two integer matrices agree, zeros elsewhere. -/
def indic (x y : IVec S 32) : FVec F S .f32 := sitofp .f32 (extui 32 (cmpi .eq x y) natLt_1_32)

end Shaped

/-- The matrix product of `A`, a square image and `B`. -/
def sandwich {A B S : Shape} (d1 : DotDims A S224x224 A) (d2 : DotDims A B S) (a : FVec F A .f32) (b : FVec F B .f32) (x : FVec F S224x224 .f32) :
    FVec F S .f32 :=
  matmul d2 none (matmul d1 none a x (constant A .f32 0x00000000#32)) b (constant S .f32 0x00000000#32)

/-- The window means of the mask: window sums by 0/1 matrices, times the reciprocal of the window's area. -/
def poolMask {A B S : Shape} (d1 : DotDims A S224x224 A) (d2 : DotDims A B S) (ia ja : IVec A 32) (ib jb : IVec B 32) (s : BitVec 32)
    (r : BitVec 32) (x : FVec F S224x224 .f32) : FVec F S .f32 :=
  mulf (sandwich d1 d2 (indic (floorDiv s ja) ia) (indic (floorDiv s ib) jb) x) (broadcast S (Scalar.ofBits .f32 r))

/-- Every `s`-th row and column of a square image, by 0/1 matrices. -/
def subsample {A B S : Shape} (d1 : DotDims A S224x224 A) (d2 : DotDims A B S) (ia ja : IVec A 32) (ib jb : IVec B 32) (s : BitVec 32)
    (x : FVec F S224x224 .f32) : FVec F S .f32 :=
  sandwich d1 d2 (indic ja (muli (broadcast A s) ia)) (indic ib (muli (broadcast B s) jb)) x

/-! ### What the body loads -/

/-- A 9×9 weight as the body loads it. -/
def wAt (m : Memref sig .tc .smem S9x9 .f32) (h : m.IsWhole) (x : Vec F S9x9 .f32) (o k : Fin 9) : F .f32 :=
  View.readAt (Elt F) m.view (Rect.unit (s := S9x9) ![o.val, k.val] S1x1.size (by decide +revert)).toLoadRect (h.unread x) (Shape.Idx.first (s := S1x1) (by decide))

/-- A bias as the body loads it. -/
def bAt (m : Memref sig .tc .smem S9 .f32) (h : m.IsWhole) (x : Vec F S9 .f32) (o : Fin 9) : F .f32 :=
  View.readAt (Elt F) m.view (Rect.unit (s := S9) ![o.val] Cert.KernelIdeal.S1.size (by decide +revert)).toLoadRect (h.unread x) (Shape.Idx.first (s := Cert.KernelIdeal.S1) (by decide))

/-- One channel of the image as the body loads it. -/
def chAt (m : Memref sig .tc .vmem S1x3x224x224 .f32) (h : m.IsWhole) (x : Vec F S1x3x224x224 .f32) (c : Fin 3) : FVec F S224x224 .f32 :=
  shapeCast S224x224 (View.readAt (Elt F) m.view (Rect.unit (s := S1x3x224x224) ![0, c.val, 0, 0] S1x1x224x224.size (by decide +revert)).toLoadRect (h.unread x))
    shapeCasts_S1x1x224x224_S224x224

/-- The mask as the body loads it. -/
def maskAt (m : Memref sig .tc .vmem S1x1x224x224 .f32) (h : m.IsWhole) (x : Vec F S1x1x224x224 .f32) : FVec F S224x224 .f32 :=
  shapeCast S224x224 (View.readAt (Elt F) m.view (Rect.unit (s := S1x1x224x224) ![0, 0, 0, 0] S1x1x224x224.size (by decide)).toLoadRect (h.unread x))
    shapeCasts_S1x1x224x224_S224x224

/-- One plane of the prediction of size 14 as the body loads it. -/
def pred14 (m : Memref sig .tc .vmem S1x27x14x14 .f32) (h : m.IsWhole) (x : Vec F S1x27x14x14 .f32) (c : Fin 3) (o : Fin 9) : FVec F S14x14 .f32 :=
  shapeCast S14x14 (View.readAt (Elt F) m.view (Rect.unit (s := S1x27x14x14) ![0, c.val * 9 + o.val, 0, 0] S1x1x14x14.size (by decide +revert)).toLoadRect (h.unread x))
    shapeCasts_S1x1x14x14_S14x14

/-- One plane of the prediction of size 28 as the body loads it. -/
def pred28 (m : Memref sig .tc .vmem S1x27x28x28 .f32) (h : m.IsWhole) (x : Vec F S1x27x28x28 .f32) (c : Fin 3) (o : Fin 9) : FVec F S28x28 .f32 :=
  shapeCast S28x28 (View.readAt (Elt F) m.view (Rect.unit (s := S1x27x28x28) ![0, c.val * 9 + o.val, 0, 0] S1x1x28x28.size (by decide +revert)).toLoadRect (h.unread x))
    shapeCasts_S1x1x28x28_S28x28

/-- One plane of the prediction of size 56 as the body loads it. -/
def pred56 (m : Memref sig .tc .vmem S1x27x56x56 .f32) (h : m.IsWhole) (x : Vec F S1x27x56x56 .f32) (c : Fin 3) (o : Fin 9) : FVec F S56x56 .f32 :=
  shapeCast S56x56 (View.readAt (Elt F) m.view (Rect.unit (s := S1x27x56x56) ![0, c.val * 9 + o.val, 0, 0] S1x1x56x56.size (by decide +revert)).toLoadRect (h.unread x))
    shapeCasts_S1x1x56x56_S56x56

/-- One plane of the prediction of size 112 as the body loads it. -/
def pred112 (m : Memref sig .tc .vmem S1x27x112x112 .f32) (h : m.IsWhole) (x : Vec F S1x27x112x112 .f32) (c : Fin 3) (o : Fin 9) : FVec F S112x112 .f32 :=
  shapeCast S112x112 (View.readAt (Elt F) m.view (Rect.unit (s := S1x27x112x112) ![0, c.val * 9 + o.val, 0, 0] S1x1x112x112.size (by decide +revert)).toLoadRect (h.unread x))
    shapeCasts_S1x1x112x112_S112x112

/-- One plane of the prediction of size 224 as the body loads it. -/
def pred224 (m : Memref sig .tc .vmem S1x27x224x224 .f32) (h : m.IsWhole) (x : Vec F S1x27x224x224 .f32) (c : Fin 3) (o : Fin 9) : FVec F S224x224 .f32 :=
  shapeCast S224x224 (View.readAt (Elt F) m.view (Rect.unit (s := S1x27x224x224) ![0, c.val * 9 + o.val, 0, 0] S1x1x224x224.size (by decide +revert)).toLoadRect (h.unread x))
    shapeCasts_S1x1x224x224_S224x224

/-! ### The five pools and the tile -/

/-- Every 16-th row and column of an image. -/
def sub14 (x : FVec F S224x224 .f32) : FVec F S14x14 .f32 := subsample dot_S14x224_S224x224_S14x224_1_0_0_1_n_n dot_S14x224_S224x14_S14x14_1_0_0_1_n_n
    (iota .tc S14x224 32 [0] iota_S14x224_d0_w32) (iota .tc S14x224 32 [1] iota_S14x224_d1_w32)
    (iota .tc S224x14 32 [0] iota_S224x14_d0_w32) (iota .tc S224x14 32 [1] iota_S224x14_d1_w32) 16#32 x

/-- The means of the mask over windows of 16 by 16. -/
def mask14 (x : FVec F S224x224 .f32) : FVec F S14x14 .f32 := poolMask dot_S14x224_S224x224_S14x224_1_0_0_1_n_n dot_S14x224_S224x14_S14x14_1_0_0_1_n_n
    (iota .tc S14x224 32 [0] iota_S14x224_d0_w32) (iota .tc S14x224 32 [1] iota_S14x224_d1_w32)
    (iota .tc S224x14 32 [0] iota_S224x14_d0_w32) (iota .tc S224x14 32 [1] iota_S224x14_d1_w32) 16#32 0x3B800000#32 x

/-- The entry of the pool with windows of 16 by 16. -/
def pool14 (X : Fin 3 → FVec F S224x224 .f32) (M : FVec F S224x224 .f32) (W : Fin 9 → Fin 9 → F .f32) (B : Fin 9 → F .f32)
    (P : Fin 3 → Fin 9 → FVec F S14x14 .f32) : F .f32 :=
  poolNum shapeCasts_S14x14_S1x14x14 reduces_S1x14x14_S1
    (errV (fun c => sub14 (grad0 (X c))) (fun c => sub14 (grad1 (X c))) W B P) (mask14 M)

/-- Every 8-th row and column of an image. -/
def sub28 (x : FVec F S224x224 .f32) : FVec F S28x28 .f32 := subsample dot_S28x224_S224x224_S28x224_1_0_0_1_n_n dot_S28x224_S224x28_S28x28_1_0_0_1_n_n
    (iota .tc S28x224 32 [0] iota_S28x224_d0_w32) (iota .tc S28x224 32 [1] iota_S28x224_d1_w32)
    (iota .tc S224x28 32 [0] iota_S224x28_d0_w32) (iota .tc S224x28 32 [1] iota_S224x28_d1_w32) 8#32 x

/-- The means of the mask over windows of 8 by 8. -/
def mask28 (x : FVec F S224x224 .f32) : FVec F S28x28 .f32 := poolMask dot_S28x224_S224x224_S28x224_1_0_0_1_n_n dot_S28x224_S224x28_S28x28_1_0_0_1_n_n
    (iota .tc S28x224 32 [0] iota_S28x224_d0_w32) (iota .tc S28x224 32 [1] iota_S28x224_d1_w32)
    (iota .tc S224x28 32 [0] iota_S224x28_d0_w32) (iota .tc S224x28 32 [1] iota_S224x28_d1_w32) 8#32 0x3C800000#32 x

/-- The entry of the pool with windows of 8 by 8. -/
def pool28 (X : Fin 3 → FVec F S224x224 .f32) (M : FVec F S224x224 .f32) (W : Fin 9 → Fin 9 → F .f32) (B : Fin 9 → F .f32)
    (P : Fin 3 → Fin 9 → FVec F S28x28 .f32) : F .f32 :=
  poolNum shapeCasts_S28x28_S1x28x28 reduces_S1x28x28_S1
    (errV (fun c => sub28 (grad0 (X c))) (fun c => sub28 (grad1 (X c))) W B P) (mask28 M)

/-- Every 4-th row and column of an image. -/
def sub56 (x : FVec F S224x224 .f32) : FVec F S56x56 .f32 := subsample dot_S56x224_S224x224_S56x224_1_0_0_1_n_n dot_S56x224_S224x56_S56x56_1_0_0_1_n_n
    (iota .tc S56x224 32 [0] iota_S56x224_d0_w32) (iota .tc S56x224 32 [1] iota_S56x224_d1_w32)
    (iota .tc S224x56 32 [0] iota_S224x56_d0_w32) (iota .tc S224x56 32 [1] iota_S224x56_d1_w32) 4#32 x

/-- The means of the mask over windows of 4 by 4. -/
def mask56 (x : FVec F S224x224 .f32) : FVec F S56x56 .f32 := poolMask dot_S56x224_S224x224_S56x224_1_0_0_1_n_n dot_S56x224_S224x56_S56x56_1_0_0_1_n_n
    (iota .tc S56x224 32 [0] iota_S56x224_d0_w32) (iota .tc S56x224 32 [1] iota_S56x224_d1_w32)
    (iota .tc S224x56 32 [0] iota_S224x56_d0_w32) (iota .tc S224x56 32 [1] iota_S224x56_d1_w32) 4#32 0x3D800000#32 x

/-- The entry of the pool with windows of 4 by 4. -/
def pool56 (X : Fin 3 → FVec F S224x224 .f32) (M : FVec F S224x224 .f32) (W : Fin 9 → Fin 9 → F .f32) (B : Fin 9 → F .f32)
    (P : Fin 3 → Fin 9 → FVec F S56x56 .f32) : F .f32 :=
  poolNum shapeCasts_S56x56_S1x56x56 reduces_S1x56x56_S1
    (errV (fun c => sub56 (grad0 (X c))) (fun c => sub56 (grad1 (X c))) W B P) (mask56 M)

/-- Every 2-th row and column of an image. -/
def sub112 (x : FVec F S224x224 .f32) : FVec F S112x112 .f32 := subsample dot_S112x224_S224x224_S112x224_1_0_0_1_n_n dot_S112x224_S224x112_S112x112_1_0_0_1_n_n
    (iota .tc S112x224 32 [0] iota_S112x224_d0_w32) (iota .tc S112x224 32 [1] iota_S112x224_d1_w32)
    (iota .tc S224x112 32 [0] iota_S224x112_d0_w32) (iota .tc S224x112 32 [1] iota_S224x112_d1_w32) 2#32 x

/-- The means of the mask over windows of 2 by 2. -/
def mask112 (x : FVec F S224x224 .f32) : FVec F S112x112 .f32 := poolMask dot_S112x224_S224x224_S112x224_1_0_0_1_n_n dot_S112x224_S224x112_S112x112_1_0_0_1_n_n
    (iota .tc S112x224 32 [0] iota_S112x224_d0_w32) (iota .tc S112x224 32 [1] iota_S112x224_d1_w32)
    (iota .tc S224x112 32 [0] iota_S224x112_d0_w32) (iota .tc S224x112 32 [1] iota_S224x112_d1_w32) 2#32 0x3E800000#32 x

/-- The entry of the pool with windows of 2 by 2. -/
def pool112 (X : Fin 3 → FVec F S224x224 .f32) (M : FVec F S224x224 .f32) (W : Fin 9 → Fin 9 → F .f32) (B : Fin 9 → F .f32)
    (P : Fin 3 → Fin 9 → FVec F S112x112 .f32) : F .f32 :=
  poolNum shapeCasts_S112x112_S1x112x112 reduces_S1x112x112_S1
    (errV (fun c => sub112 (grad0 (X c))) (fun c => sub112 (grad1 (X c))) W B P) (mask112 M)

/-- The entry of the pool at full resolution. -/
def pool224 (X : Fin 3 → FVec F S224x224 .f32) (M : FVec F S224x224 .f32) (W : Fin 9 → Fin 9 → F .f32) (B : Fin 9 → F .f32)
    (P : Fin 3 → Fin 9 → FVec F S224x224 .f32) : F .f32 :=
  poolNum shapeCasts_S224x224_S1x224x224 reduces_S1x224x224_S1 (errV (fun c => grad0 (X c)) (fun c => grad1 (X c)) W B P) M

/-- The tile with six scalars in lanes 0 to 5 of each row and zeros elsewhere. -/
def tileV (a b c d e f : F .f32) : FVec F S8x128 .f32 :=
  let l : IVec S8x128 32 := iota .tc S8x128 32 [1] iota_S8x128_d1_w32
  select (cmpi .eq l (broadcast S8x128 5#32)) (broadcast S8x128 f) (select (cmpi .eq l (broadcast S8x128 4#32)) (broadcast S8x128 e)
    (select (cmpi .eq l (broadcast S8x128 3#32)) (broadcast S8x128 d) (select (cmpi .eq l (broadcast S8x128 2#32)) (broadcast S8x128 c)
      (select (cmpi .eq l (broadcast S8x128 1#32)) (broadcast S8x128 b) (select (cmpi .eq l (broadcast S8x128 0#32)) (broadcast S8x128 a)
        (zeros S8x128))))))

/-- The tile of one grid point, from what the body loads. -/
def pointTile (X : Fin 3 → FVec F S224x224 .f32) (M : FVec F S224x224 .f32)
    (W0 : Fin 9 → Fin 9 → F .f32) (B0 : Fin 9 → F .f32) (W1 : Fin 9 → Fin 9 → F .f32) (B1 : Fin 9 → F .f32)
    (W2 : Fin 9 → Fin 9 → F .f32) (B2 : Fin 9 → F .f32) (W3 : Fin 9 → Fin 9 → F .f32) (B3 : Fin 9 → F .f32)
    (W4 : Fin 9 → Fin 9 → F .f32) (B4 : Fin 9 → F .f32)
    (P0 : Fin 3 → Fin 9 → FVec F S14x14 .f32) (P1 : Fin 3 → Fin 9 → FVec F S28x28 .f32) (P2 : Fin 3 → Fin 9 → FVec F S56x56 .f32)
    (P3 : Fin 3 → Fin 9 → FVec F S112x112 .f32) (P4 : Fin 3 → Fin 9 → FVec F S224x224 .f32) : FVec F S8x128 .f32 :=
  tileV (pool14 X M W0 B0 P0) (pool28 X M W1 B1 P1) (pool56 X M W2 B2 P2) (pool112 X M W3 B3 P3) (pool224 X M W4 B4 P4)
    (total shapeCasts_S224x224_S1x224x224 reduces_S1x224x224_S1 M)

end Cert.Hog

end
-- ==== Proof.Angle.lean ====
module

public import proofs.«01_k».proof.Proof.Tile
public import proofs.«01_k».proof.Proof.Gen.ReferenceIdeal.Read
public import Idealize.ShloMosaic.PureOps.Ideal.Laws

/-!
The orientation of a gradient. The reference takes the angle by the two-argument arctangent and rounds it down to a ninth of the half turn;
the kernel compares with eight cotangents. Both name the same bin, except where the gradient is zero.
-/

@[expose] public section

noncomputable section

namespace Cert.Hog

open Idealize.ShloMosaic Real

/-- The angle of the point with first coordinate `x` and second coordinate `y`. -/
def angle (y x : ℝ) : ℝ :=
  if 0 < x then arctan (y / x)
  else if x < 0 then (if 0 ≤ y then arctan (y / x) + π else arctan (y / x) - π)
  else if 0 < y then π / 2 else if y < 0 then -(π / 2) else 0

/-- The angle's ninth of the half turn, as an integer between -9 and 9. -/
def ninth (y x : ℝ) : ℤ := ⌊angle y x / π * 9⌋

/-- The angle above the horizontal axis as an arc cotangent. -/
theorem angle_of_pos {y x : ℝ} (h : 0 < y) : angle y x = π / 2 - arctan (x / y) := by
  unfold angle
  rcases lt_trichotomy x 0 with hx | hx | hx
  · rw [if_neg (by linarith), if_pos hx, if_pos h.le, show x / y = (y / x)⁻¹ from (inv_div _ _).symm,
      arctan_inv_of_neg (div_neg_of_pos_of_neg h hx)]
    ring
  · subst hx
    simp [h]
  · rw [if_pos hx, show x / y = (y / x)⁻¹ from (inv_div _ _).symm, arctan_inv_of_pos (div_pos h hx)]
    ring

/-- The angle below the horizontal axis as an arc cotangent. -/
theorem angle_of_neg {y x : ℝ} (h : y < 0) : angle y x = -(π / 2) - arctan (x / y) := by
  unfold angle
  rcases lt_trichotomy x 0 with hx | hx | hx
  · rw [if_neg (by linarith), if_pos hx, if_neg (by linarith), show x / y = (y / x)⁻¹ from (inv_div _ _).symm,
      arctan_inv_of_pos (div_pos_of_neg_of_neg h hx)]
    ring
  · subst hx
    simp [h, h.le]
  · rw [if_pos hx, show x / y = (y / x)⁻¹ from (inv_div _ _).symm, arctan_inv_of_neg (div_neg_of_neg_of_pos h hx)]
    ring

/-- The ninth of the half turn an arc cotangent falls in. -/
def slot (t : ℝ) : ℤ := ⌊(π / 2 - arctan t) / π * 9⌋

/-- An arc cotangent lies strictly between zero and the half turn. -/
theorem slot_range (t : ℝ) : 0 ≤ slot t ∧ slot t ≤ 8 := by
  have h1 := arctan_lt_pi_div_two t
  have h2 := neg_pi_div_two_lt_arctan t
  have hp := pi_pos
  constructor
  · exact Int.floor_nonneg.2 (mul_nonneg (div_nonneg (by linarith) hp.le) (by norm_num))
  · have : slot t < 9 := by
      unfold slot
      rw [Int.floor_lt]
      push_cast
      rw [div_mul_eq_mul_div, div_lt_iff₀ hp]
      nlinarith
    omega

/-- The cotangent comparison says whether the ninth is at least `k`. -/
theorem le_slot_iff {a b : ℝ} (ha : 0 < a) {k : ℕ} (h0 : 0 < k) (h9 : k < 9) :
    (k : ℤ) ≤ slot (b / a) ↔ b ≤ a * (Real.tan ((k : ℝ) / 9 * π))⁻¹ := by
  have hp := pi_pos
  have hk0 : (0 : ℝ) < k := by exact_mod_cast h0
  have hk9 : (k : ℝ) < 9 := by exact_mod_cast h9
  rw [← tan_pi_div_two_sub, mul_comm, ← div_le_iff₀ ha, slot, Int.le_floor]
  have e : arctan (Real.tan (π / 2 - k / 9 * π)) = π / 2 - k / 9 * π := arctan_tan (by nlinarith) (by nlinarith)
  rw [← arctan_le_arctan_iff (y := Real.tan _), e, div_mul_eq_mul_div, le_div_iff₀ hp]
  push_cast
  constructor <;> intro h <;> nlinarith

/-- The ninths of the angle on either side of the horizontal axis. -/
theorem ninth_emod {a b : ℝ} (ha : a ≠ 0) : ninth a b % 9 = slot (b / a) := by
  have hr := slot_range (b / a)
  have hp := pi_pos
  rcases lt_or_gt_of_ne ha with h | h
  · have : ninth a b = slot (b / a) - 9 := by
      unfold ninth slot
      rw [angle_of_neg h, ← Int.floor_sub_ofNat]
      congr 1
      field_simp
      push_cast
      ring
    omega
  · have : ninth a b = slot (b / a) := by unfold ninth slot; rw [angle_of_pos h]
    omega

/-- On the horizontal axis the bin is the first. -/
theorem ninth_zero (b : ℝ) : ninth 0 b % 9 = 0 := by
  unfold ninth angle
  have hp := pi_pos.ne'
  split_ifs <;> simp_all

/-- The angle's ninth lies between -9 and 9. -/
theorem ninth_range (a b : ℝ) : -9 ≤ ninth a b ∧ ninth a b ≤ 9 := by
  have hp := pi_pos
  have h1 := arctan_lt_pi_div_two (b / a)
  have h2 := neg_pi_div_two_lt_arctan (b / a)
  have key : -π ≤ angle a b ∧ angle a b ≤ π := by
    rcases lt_trichotomy a 0 with h | h | h
    · rw [angle_of_neg h]; constructor <;> linarith
    · subst h
      unfold angle
      split_ifs <;> simp_all <;> linarith
    · rw [angle_of_pos h]; constructor <;> linarith
  constructor
  · unfold ninth
    rw [Int.le_floor, div_mul_eq_mul_div, le_div_iff₀ hp]
    push_cast
    linarith [key.1]
  · have : ninth a b < 10 := by
      unfold ninth
      rw [Int.floor_lt, div_mul_eq_mul_div, div_lt_iff₀ hp]
      push_cast
      linarith [key.2]
    omega

/-- The reference's bin. -/
def binOf (a b : ℝ) : Fin 9 := ⟨(ninth a b % 9).toNat, by omega⟩

end Cert.Hog

end
-- ==== Proof.Pixel.lean ====
module

public import proofs.«01_k».proof.Proof.Angle

/-!
The kernel's orientation histogram and its error at one position, over extended reals.
-/

@[expose] public section

noncomputable section

namespace Cert.Hog

open Idealize.ShloMosaic Idealize.ShloMosaic.TcCoe Real Cert.KernelIdeal

/-- One projected orientation channel: the bias plus the magnitude times the weight of the bin. -/
def hog (x y : ℝ) (W : Fin 9 → Fin 9 → EReal) (B : Fin 9 → EReal) (o : Fin 9) : EReal :=
  B o + ((√(x * x + y * y) : ℝ) : EReal) * W o (binOf x y)

/-- The clamped norm of nine channels. -/
def clamped (h : Fin 9 → EReal) : EReal := max (Ideal.sqrt (∑ o, h o * h o)) (Ideal.ofBits .f32 0x2B8CBCCC#32)

/-- The squared difference of two numbers. -/
def sqDiff (p t : EReal) : EReal := (p - t) * (p - t)

/-- The squared error of the nine normalized channels. -/
def chanSq (h P : Fin 9 → EReal) : EReal := ∑ o, sqDiff (P o) (Ideal.div (h o) (clamped h))

/-- The squared error of three image channels at one position, from the gradients there. -/
def pixErr (x y : Fin 3 → ℝ) (W : Fin 9 → Fin 9 → EReal) (B : Fin 9 → EReal) (P : Fin 3 → Fin 9 → EReal) : EReal :=
  ∑ c, chanSq (hog (x c) (y c) W B) (P c)

/-- The single-precision word of one. -/
theorem one_word : Ideal.ofBits .f32 0x3F800000#32 = 1 := by
  simp [Ideal.ofBits, Ideal.ieee]
  rw [← EReal.coe_mul]
  norm_num

/-- The clamp is a positive real. -/
theorem clamp_pos : (0 : EReal) < Ideal.ofBits .f32 0x2B8CBCCC#32 := by
  simp [Ideal.ofBits, Ideal.ieee]
  rw [← EReal.coe_mul]
  norm_num

/-- The tangent of a ninth of the half turn is not zero. -/
theorem tan_ne {k : ℕ} (h0 : 0 < k) (h9 : k < 9) : Real.tan ((k : ℝ) / 9 * π) ≠ 0 := by
  have hp := pi_pos
  rcases Nat.lt_or_ge k 5 with h | h
  · have : (k : ℝ) ≤ 4 := by exact_mod_cast (by omega : k ≤ 4)
    have : (0 : ℝ) < k := by exact_mod_cast h0
    exact (tan_pos_of_pos_of_lt_pi_div_two (by positivity) (by nlinarith)).ne'
  · have h5 : (5 : ℝ) ≤ k := by exact_mod_cast h
    have h8 : (k : ℝ) ≤ 8 := by exact_mod_cast (by omega : k ≤ 8)
    rw [← tan_sub_pi]
    exact (tan_neg_of_neg_of_pi_div_two_lt (by nlinarith) (by nlinarith)).ne

/-- A named angle's cotangent. -/
theorem cotOf_val {k : ℕ} (h0 : 0 < k) (h9 : k < 9) (name : String) (bits : BitVec 32)
    (h : κ name = some (((k : ℝ) / 9 * π : ℝ) : EReal)) :
    cotOf (F := Ideal) name bits = (((Real.tan ((k : ℝ) / 9 * π))⁻¹ : ℝ) : EReal) := by
  have e : cotOf (F := Ideal) name bits = Ideal.div (Ideal.ofBits .f32 0x3F800000#32) (Ideal.tan ((κ name).getD (Ideal.ofBits .f32 bits))) := rfl
  rw [e, h, one_word]
  show Ideal.div 1 ((Real.tan _ : ℝ) : EReal) = _
  unfold Ideal.div
  rw [if_neg (by exact_mod_cast tan_ne h0 h9), one_mul, EReal.coe_inv]

variable {S : Shape}

/-- A sum over nine. -/
theorem sum_nine (f : Fin 9 → EReal) : ∑ o, f o = f 0 + f 1 + f 2 + f 3 + f 4 + f 5 + f 6 + f 7 + f 8 := by
  rw [Fin.sum_univ_castSucc, Fin.sum_univ_eight]
  rfl

/-- The vector of zeros at a position. -/
theorem zeros_apply (i : S.Idx) : zeros (F := Ideal) S i = 0 := by
  show Ideal.ofBits .f32 0x00000000#32 = 0
  exact Ideal.ofBits_zero_f32

/-- A gradient component with the sign of the first removed. -/
theorem foldV_apply (a b : FVec Ideal S .f32) (i : S.Idx) : foldV a b i = if a i < 0 then 0 - b i else b i := by
  show Scalar.select (Ideal.cmp .olt (a i) (zeros (F := Ideal) S i)) (zeros (F := Ideal) S i - b i) (b i) = _
  rw [zeros_apply]
  by_cases h : a i < 0 <;> simp [Ideal.cmp, Scalar.select, h]

/-- The folded second component; its absolute value on the horizontal axis. -/
theorem foldAbs_apply (a b : FVec Ideal S .f32) (i : S.Idx) :
    foldAbs a b i = if foldV a a i = 0 then max (foldV a b i) (-foldV a b i) else foldV a b i := by
  show Scalar.select (Ideal.cmp .oeq (foldV a a i) (zeros (F := Ideal) S i)) (max (foldV a b i) (-foldV a b i)) (foldV a b i) = _
  rw [zeros_apply]
  by_cases h : foldV a a i = 0 <;> simp [Ideal.cmp, Scalar.select, h]

/-- A test at a position. -/
theorem testV_apply (a b : FVec Ideal S .f32) (k : EReal) (i : S.Idx) :
    testV (F := Ideal) a b k i = BitVec.ofBool (decide (foldAbs a b i ≤ foldV a a i * k)) := rfl

/-- A test says whether the bin is at least `k`, where the gradient is not zero. -/
theorem testV_val (a b : FVec Ideal S .f32) (i : S.Idx) {x y : ℝ} (hx : a i = x) (hy : b i = y) (hne : x ≠ 0 ∨ y ≠ 0)
    {k : ℕ} (h0 : 0 < k) (h9 : k < 9) :
    testV (F := Ideal) a b (((Real.tan ((k : ℝ) / 9 * π))⁻¹ : ℝ) : EReal) i = BitVec.ofBool (decide (k ≤ (binOf x y).val)) := by
  rw [testV_apply]
  refine congrArg BitVec.ofBool (decide_eq_decide.2 ?_)
  have hr := slot_range (y / x)
  rcases eq_or_ne x 0 with rfl | hx0
  · have hy0 : y ≠ 0 := by simpa using hne
    have e1 : foldV a a i = 0 := by rw [foldV_apply, hx]; simp
    have e2 : foldV a b i = y := by rw [foldV_apply, hx, hy]; simp
    rw [foldAbs_apply, e1, e2, if_pos rfl, zero_mul]
    have e3 : (binOf 0 y).val = 0 := by simp [binOf, ninth_zero]
    rw [e3]
    constructor
    · intro h
      exfalso
      have h1 : (y : EReal) ≤ 0 := (le_max_left _ _).trans h
      have h2 : -(y : EReal) ≤ 0 := (le_max_right _ _).trans h
      have h3 : y ≤ 0 := by exact_mod_cast h1
      have h4 : -y ≤ 0 := by exact_mod_cast h2
      exact hy0 (by linarith)
    · intro h; omega
  · have eb : ((binOf x y).val : ℤ) = slot (y / x) := by
      show (((ninth x y % 9).toNat : ℕ) : ℤ) = _
      rw [ninth_emod hx0]
      exact Int.toNat_of_nonneg hr.1
    have main : ∀ {a' b' : ℝ}, 0 < a' → b' / a' = y / x → foldV a a i = a' → foldV a b i = b' →
        (foldAbs a b i ≤ foldV a a i * (((Real.tan ((k : ℝ) / 9 * π))⁻¹ : ℝ) : EReal) ↔ k ≤ (binOf x y).val) := by
      intro a' b' ha' hq e1 e2
      rw [foldAbs_apply, e1, e2, if_neg (by exact_mod_cast ha'.ne'), ← EReal.coe_mul, EReal.coe_le_coe_iff, ← le_slot_iff ha' h0 h9, hq, ← eb]
      exact Int.ofNat_le
    rcases lt_or_gt_of_ne hx0 with h | h
    · refine main (a' := -x) (b' := -y) (by linarith) (by rw [neg_div_neg_eq]) ?_ ?_
      · rw [foldV_apply, hx, if_pos (by exact_mod_cast h)]; simp
      · rw [foldV_apply, hx, hy, if_pos (by exact_mod_cast h)]; simp
    · refine main (a' := x) (b' := y) h rfl ?_ ?_
      · rw [foldV_apply, hx, if_neg (by exact_mod_cast h.le.not_gt)]
      · rw [foldV_apply, hx, hy, if_neg (by exact_mod_cast h.le.not_gt)]

/-- The eight tests say how the bin compares with 1 to 8. -/
theorem tests_val (a b : FVec Ideal S .f32) (i : S.Idx) {x y : ℝ} (hx : a i = x) (hy : b i = y) (hne : x ≠ 0 ∨ y ≠ 0) (j : Fin 8) :
    tests (F := Ideal) a b j i = BitVec.ofBool (decide (j.val < (binOf x y).val)) := by
  have key : ∀ (k : ℕ) (h0 : 0 < k) (h9 : k < 9) (name : String) (bits : BitVec 32) (_ : κ name = some (((k : ℝ) / 9 * π : ℝ) : EReal)),
      testV (F := Ideal) a b (cotOf name bits) i = BitVec.ofBool (decide (k ≤ (binOf x y).val)) := fun k h0 h9 name bits h => by
    rw [cotOf_val h0 h9 name bits h, testV_val a b i hx hy hne h0 h9]
  fin_cases j
  · exact key 1 (by norm_num) (by norm_num) "angle1" _ (by simp [κ])
  · exact key 2 (by norm_num) (by norm_num) "angle2" _ (by simp [κ])
  · exact key 3 (by norm_num) (by norm_num) "angle3" _ (by simp [κ]; norm_num)
  · exact key 4 (by norm_num) (by norm_num) "angle4" _ (by simp [κ])
  · exact key 5 (by norm_num) (by norm_num) "angle5" _ (by simp [κ])
  · exact key 6 (by norm_num) (by norm_num) "angle6" _ (by simp [κ]; norm_num)
  · exact key 7 (by norm_num) (by norm_num) "angle7" _ (by simp [κ])
  · exact key 8 (by norm_num) (by norm_num) "angle8" _ (by simp [κ])

/-- The selection tree picks the bin's entry. -/
theorem treeV_val {φ : FTy} (t : Fin 8 → IVec S 1) (w : Fin 9 → FVec Ideal S φ) (i : S.Idx) (k : Fin 9)
    (h : ∀ j : Fin 8, t j i = BitVec.ofBool (decide (j.val < k.val))) : treeV t w i = w k i := by
  show Scalar.select (t 3 i) (Scalar.select (t 5 i) (Scalar.select (t 6 i) (Scalar.select (t 7 i) (w 8 i) (w 7 i)) (w 6 i)) (Scalar.select (t 4 i) (w 5 i) (w 4 i)))
    (Scalar.select (t 1 i) (Scalar.select (t 2 i) (w 3 i) (w 2 i)) (Scalar.select (t 0 i) (w 1 i) (w 0 i))) = _
  simp only [h]
  fin_cases k <;> rfl

/-- The magnitude at a position. -/
theorem magV_val (a b : FVec Ideal S .f32) (i : S.Idx) {x y : ℝ} (hx : a i = x) (hy : b i = y) :
    magV (F := Ideal) a b i = ((√(x * x + y * y) : ℝ) : EReal) := by
  show Ideal.sqrt (a i * a i + b i * b i) = _
  rw [hx, hy, ← EReal.coe_mul, ← EReal.coe_mul, ← EReal.coe_add]
  show (if x * x + y * y < 0 then ⊥ else _) = _
  rw [if_neg (by nlinarith [mul_self_nonneg x, mul_self_nonneg y])]

/-- The kernel's projected channels. -/
theorem hogs_val (a b : FVec Ideal S .f32) (W : Fin 9 → Fin 9 → EReal) (B : Fin 9 → EReal) (o : Fin 9) (i : S.Idx) {x y : ℝ}
    (hx : a i = x) (hy : b i = y) : hogs (F := Ideal) a b W B o i = hog x y W B o := by
  have hm := magV_val a b i hx hy
  have key : ∀ v : EReal, ((x ≠ 0 ∨ y ≠ 0) → v = W o (binOf x y)) → B o + magV (F := Ideal) a b i * v = hog x y W B o := by
    intro v hv
    unfold hog
    rw [hm]
    by_cases hne : x ≠ 0 ∨ y ≠ 0
    · rw [hv hne]
    · push Not at hne
      obtain ⟨rfl, rfl⟩ := hne
      simp
  unfold hogs
  split_ifs
  · let w : Fin 9 → FVec Ideal S .f32 := fun k => broadcast S (W o k)
    exact key (treeV (tests (F := Ideal) a b) w i) fun hne => treeV_val _ w i (binOf x y) (tests_val a b i hx hy hne)
  · let w : Fin 9 → FVec Ideal S .bf16 := fun k => truncf (F := Ideal) (φ := .f32) .bf16 (broadcast S (W o k)) (by decide)
    exact key (treeV (tests (F := Ideal) a b) w i) fun hne => treeV_val _ w i (binOf x y) (tests_val a b i hx hy hne)

/-- The reciprocal the kernel multiplies by. -/
theorem invNorm_val (h : Fin 9 → FVec Ideal S .f32) (i : S.Idx) :
    invNorm (F := Ideal) h i = Ideal.div 1 (clamped fun o => h o i) := by
  unfold clamped
  rw [sum_nine, ← one_word]
  rfl

/-- Dividing one by a positive number and multiplying is dividing. -/
theorem mul_one_div (x y : EReal) (hy : 0 < y) : x * Ideal.div 1 y = Ideal.div x y := by
  unfold Ideal.div
  rw [if_neg hy.ne', if_neg hy.ne', one_mul]

/-- The clamped norm is positive. -/
theorem clamped_pos (h : Fin 9 → EReal) : 0 < clamped h := clamp_pos.trans_le (le_max_right _ _)

/-- The kernel's running error of one channel. -/
theorem chanErr_val (e : FVec Ideal S .f32) (h P : Fin 9 → FVec Ideal S .f32) (i : S.Idx) :
    chanErr (F := Ideal) e h P i = e i + chanSq (fun o => h o i) (fun o => P o i) := by
  have e1 : ∀ o, h o i * invNorm (F := Ideal) h i = Ideal.div (h o i) (clamped fun o => h o i) := fun o => by
    rw [invNorm_val, mul_one_div _ _ (clamped_pos _)]
  unfold chanSq
  rw [sum_nine]
  simp only [← e1, ← add_assoc]
  rfl

/-- The kernel's error at a position. -/
theorem errV_val (G H : Fin 3 → FVec Ideal S .f32) (W : Fin 9 → Fin 9 → EReal) (B : Fin 9 → EReal) (P : Fin 3 → Fin 9 → FVec Ideal S .f32)
    (i : S.Idx) {x y : Fin 3 → ℝ} (hx : ∀ c, G c i = x c) (hy : ∀ c, H c i = y c) :
    errV (F := Ideal) G H W B P i = pixErr x y W B fun c o => P c o i := by
  unfold errV pixErr
  rw [chanErr_val, chanErr_val, chanErr_val, zeros_apply, zero_add, Fin.sum_univ_three]
  simp only [fun c o => hogs_val (G c) (H c) W B o i (hx c) (hy c)]

end Cert.Hog

end
-- ==== Proof.Grad.lean ====
module

public import proofs.«01_k».proof.Proof.Pixel
public import Idealize.ShloMosaic.Lib.WholeRead
public import Idealize.ShloMosaic.Lib.Pipeline.Value
public import Idealize.ShloMosaic.Lib.ValueIdx

/-!
The image gradients, with the reflecting border, over real images; the kernel computes them.
-/

@[expose] public section

noncomputable section

namespace Cert.Hog

open Idealize.ShloMosaic Idealize.ShloMosaic.TcCoe Idealize.ShloMosaic.ValueIdx Cert.KernelIdeal Cert.KernelIdeal.Gen

/-- The position before, reflected at the border. -/
def prv (i : Fin 224) : Fin 224 := if h : i.val = 0 then ⟨1, by decide⟩ else ⟨i.val - 1, by omega⟩

/-- The position after, reflected at the border. -/
def nxt (i : Fin 224) : Fin 224 := if h : i.val = 223 then ⟨222, by decide⟩ else ⟨i.val + 1, by omega⟩

/-- The horizontal gradient of a real image. -/
def gradX (f : Fin 224 → Fin 224 → ℝ) (i j : Fin 224) : ℝ :=
  (f (prv i) (prv j) + 2 * f i (prv j) + f (nxt i) (prv j)) - (f (prv i) (nxt j) + 2 * f i (nxt j) + f (nxt i) (nxt j))

/-- The vertical gradient of a real image. -/
def gradY (f : Fin 224 → Fin 224 → ℝ) (i j : Fin 224) : ℝ :=
  (f (prv i) (prv j) + 2 * f (prv i) j + f (prv i) (nxt j)) - (f (nxt i) (prv j) + 2 * f (nxt i) j + f (nxt i) (nxt j))

/-- Rows moved down. -/
theorem rowPrev_apply (x : FVec Ideal S224x224 .f32) (i j : Fin 224) : rowPrev x (ix2 i j) = x (ix2 (prv i) j) := by
  unfold rowPrev prv
  by_cases h : i.val = 0
  · rw [dif_pos h]
    refine Eq.trans (concatenate_pair_apply_left _ _ _ _ _ (by rfl) (ix2 (⟨0, by decide⟩ : Fin 1) j) ?_) ?_
    · exact (Fin.forall_fin_two.2 ⟨h.symm, rfl⟩)
    exact extractStridedSlice_apply _ _ _ _ _ (Fin.forall_fin_two.2 ⟨rfl, (Nat.zero_add _).symm⟩)
  · rw [dif_neg h]
    refine Eq.trans (concatenate_pair_apply_right _ _ _ _ _ (by rfl) (by rfl) (ix2 (⟨i.val - 1, by omega⟩ : Fin 223) j) ?_ ?_) ?_
    · exact (Fin.forall_fin_two.2 ⟨fun h => absurd rfl h, fun _ => rfl⟩)
    · show i.val - 1 + 1 = i.val; omega
    exact extractStridedSlice_apply _ _ _ _ _ (Fin.forall_fin_two.2 ⟨(Nat.zero_add _).symm, (Nat.zero_add _).symm⟩)

/-- Rows moved up. -/
theorem rowNext_apply (x : FVec Ideal S224x224 .f32) (i j : Fin 224) : rowNext x (ix2 i j) = x (ix2 (nxt i) j) := by
  unfold rowNext nxt
  by_cases h : i.val = 223
  · rw [dif_pos h]
    refine Eq.trans (concatenate_pair_apply_right _ _ _ _ _ (by rfl) (by rfl) (ix2 (⟨0, by decide⟩ : Fin 1) j) ?_ ?_) ?_
    · exact (Fin.forall_fin_two.2 ⟨fun h => absurd rfl h, fun _ => rfl⟩)
    · show 0 + 223 = i.val; omega
    exact extractStridedSlice_apply _ _ _ _ _ (Fin.forall_fin_two.2 ⟨rfl, (Nat.zero_add _).symm⟩)
  · rw [dif_neg h]
    refine Eq.trans (concatenate_pair_apply_left _ _ _ _ _ (by rfl) (ix2 (⟨i.val, by omega⟩ : Fin 223) j) ?_) ?_
    · exact (Fin.forall_fin_two.2 ⟨rfl, rfl⟩)
    exact extractStridedSlice_apply _ _ _ _ _ (Fin.forall_fin_two.2 ⟨Nat.add_comm _ _, (Nat.zero_add _).symm⟩)

/-- Columns moved right. -/
theorem colPrev_apply (x : FVec Ideal S224x224 .f32) (i j : Fin 224) : colPrev x (ix2 i j) = x (ix2 i (prv j)) := by
  unfold colPrev prv
  by_cases h : j.val = 0
  · rw [dif_pos h]
    refine Eq.trans (concatenate_pair_apply_left _ _ _ _ _ (by rfl) (ix2 i (⟨0, by decide⟩ : Fin 1)) ?_) ?_
    · exact (Fin.forall_fin_two.2 ⟨rfl, h.symm⟩)
    exact extractStridedSlice_apply _ _ _ _ _ (Fin.forall_fin_two.2 ⟨(Nat.zero_add _).symm, rfl⟩)
  · rw [dif_neg h]
    refine Eq.trans (concatenate_pair_apply_right _ _ _ _ _ (by rfl) (by rfl) (ix2 i (⟨j.val - 1, by omega⟩ : Fin 223)) ?_ ?_) ?_
    · exact (Fin.forall_fin_two.2 ⟨fun _ => rfl, fun h => absurd rfl h⟩)
    · show j.val - 1 + 1 = j.val; omega
    exact extractStridedSlice_apply _ _ _ _ _ (Fin.forall_fin_two.2 ⟨(Nat.zero_add _).symm, (Nat.zero_add _).symm⟩)

/-- Columns moved left. -/
theorem colNext_apply (x : FVec Ideal S224x224 .f32) (i j : Fin 224) : colNext x (ix2 i j) = x (ix2 i (nxt j)) := by
  unfold colNext nxt
  by_cases h : j.val = 223
  · rw [dif_pos h]
    refine Eq.trans (concatenate_pair_apply_right _ _ _ _ _ (by rfl) (by rfl) (ix2 i (⟨0, by decide⟩ : Fin 1)) ?_ ?_) ?_
    · exact (Fin.forall_fin_two.2 ⟨fun _ => rfl, fun h => absurd rfl h⟩)
    · show 0 + 223 = j.val; omega
    exact extractStridedSlice_apply _ _ _ _ _ (Fin.forall_fin_two.2 ⟨(Nat.zero_add _).symm, rfl⟩)
  · rw [dif_neg h]
    refine Eq.trans (concatenate_pair_apply_left _ _ _ _ _ (by rfl) (ix2 i (⟨j.val, by omega⟩ : Fin 223)) ?_) ?_
    · exact (Fin.forall_fin_two.2 ⟨rfl, rfl⟩)
    exact extractStridedSlice_apply _ _ _ _ _ (Fin.forall_fin_two.2 ⟨(Nat.zero_add _).symm, Nat.add_comm _ _⟩)

/-- The single-precision word of two. -/
theorem two_word : Ideal.ofBits .f32 0x40000000#32 = ((2 : ℝ) : EReal) := by
  simp [Ideal.ofBits, Ideal.ieee]
  rw [← EReal.coe_mul]
  norm_num

/-- The smoothing at a position. -/
theorem smooth_apply (p x n : FVec Ideal S224x224 .f32) (i : S224x224.Idx) : smooth p x n i = p i + ((2 : ℝ) : EReal) * x i + n i := by
  rw [← two_word]
  rfl

/-- The kernel's horizontal gradient. -/
theorem grad0_val (x : FVec Ideal S224x224 .f32) (f : Fin 224 → Fin 224 → ℝ) (h : ∀ i j, x (ix2 i j) = f i j) (i j : Fin 224) :
    grad0 x (ix2 i j) = gradX f i j := by
  show colPrev _ _ - colNext _ _ = _
  rw [colPrev_apply, colNext_apply, smooth_apply, smooth_apply]
  simp only [rowPrev_apply, rowNext_apply, h]
  unfold gradX
  norm_cast

/-- The kernel's vertical gradient. -/
theorem grad1_val (x : FVec Ideal S224x224 .f32) (f : Fin 224 → Fin 224 → ℝ) (h : ∀ i j, x (ix2 i j) = f i j) (i j : Fin 224) :
    grad1 x (ix2 i j) = gradY f i j := by
  show rowPrev _ _ - rowNext _ _ = _
  rw [rowPrev_apply, rowNext_apply, smooth_apply, smooth_apply]
  simp only [colPrev_apply, colNext_apply, h]
  unfold gradY
  norm_cast

end Cert.Hog

end
-- ==== Proof.Pool.lean ====
module

public import proofs.«01_k».proof.Proof.Grad
public import Idealize.ShloMosaic.Lib.MatmulPlain
public import Idealize.ShloMosaic.Lib.ValueLayout

/-!
The 0/1 matrices of the pooled gradients and of the pooled mask, as subsampling and window sums.
-/

@[expose] public section

noncomputable section

namespace Cert.Hog

open Idealize.ShloMosaic Idealize.ShloMosaic.TcCoe Idealize.ShloMosaic.ValueIdx Cert.KernelIdeal Cert.KernelIdeal.Gen

/-- The place of offset `p` in window `r`. -/
def place {n h s : ℕ} (hn : n = h * s) (r : Fin h) (p : Fin s) : Fin n :=
  ⟨r.val * s + p.val, by subst hn; calc r.val * s + p.val < r.val * s + s := by omega
    _ = (r.val + 1) * s := by ring
    _ ≤ h * s := Nat.mul_le_mul_right _ r.isLt⟩

/-- A sum over the line, window by window. -/
theorem sum_place {n h s : ℕ} (hn : n = h * s) (f : Fin n → EReal) : ∑ l, f l = ∑ r : Fin h, ∑ p : Fin s, f (place hn r p) := by
  subst hn
  rw [← Equiv.sum_comp finProdFinEquiv f, Fintype.sum_prod_type]
  refine Finset.sum_congr rfl fun r _ => Finset.sum_congr rfl fun p _ => congrArg f (Fin.ext ?_)
  simp only [finProdFinEquiv_apply_val, place]; ring

/-- The sum over one window, as a sum weighted by zeros and ones. -/
theorem sum_window {n h s : ℕ} (hs : 0 < s) (hn : n = h * s) (r : Fin h) (f : Fin n → EReal) :
    ∑ l, (if l.val / s = r.val then (1 : EReal) else 0) * f l = ∑ p : Fin s, f (place hn r p) := by
  rw [sum_place hn]
  rw [Finset.sum_eq_single r]
  · refine Finset.sum_congr rfl fun p _ => ?_
    rw [if_pos, one_mul]
    simp only [place]
    rw [Nat.add_comm, Nat.add_mul_div_right _ _ hs, Nat.div_eq_of_lt p.isLt, Nat.zero_add]
  · intro q _ hq
    refine Finset.sum_eq_zero fun p _ => ?_
    rw [if_neg, zero_mul]
    simp only [place]
    rw [Nat.add_comm, Nat.add_mul_div_right _ _ hs, Nat.div_eq_of_lt p.isLt, Nat.zero_add]
    exact fun e => hq (Fin.ext e)
  · exact fun h => absurd (Finset.mem_univ _) h

/-- The sum picking one place. -/
theorem sum_pick {n : ℕ} (r : Fin n) (f : Fin n → EReal) : ∑ l, (if l.val = r.val then (1 : EReal) else 0) * f l = f r := by
  rw [Finset.sum_eq_single r]
  · rw [if_pos rfl, one_mul]
  · intro q _ hq
    rw [if_neg (fun e => hq (Fin.ext e)), zero_mul]
  · exact fun h => absurd (Finset.mem_univ _) h

/-- The sum over the window `r, c` of an image. -/
def winSum {n h s : ℕ} (hn : n = h * s) (x : Fin n → Fin n → EReal) (r c : Fin h) : EReal :=
  ∑ p : Fin s, ∑ q : Fin s, x (place hn r p) (place hn c q)

/-- The windows together cover the image. -/
theorem sum_winSum {n h s : ℕ} (hn : n = h * s) (x : Fin n → Fin n → EReal) :
    ∑ r, ∑ c, winSum hn x r c = ∑ i, ∑ j, x i j := by
  simp only [winSum]
  rw [sum_place hn]
  refine Finset.sum_congr rfl fun r _ => ?_
  rw [Finset.sum_comm]
  refine Finset.sum_congr rfl fun p _ => ?_
  rw [sum_place hn]

/-! ### The 0/1 matrices -/

/-- An entry of a 0/1 matrix. -/
theorem indic_val {S : Shape} (x y : IVec S 32) (i : S.Idx) : indic (F := Ideal) x y i = if x i = y i then 1 else 0 := by
  simp only [indic, sitofp_apply, extui_apply]
  show (((BitVec.zeroExtend 32 (BitVec.ofBool (x i == y i))).toInt : ℝ) : EReal) = _
  by_cases h : x i = y i
  · rw [if_pos h, beq_iff_eq.mpr h, show (BitVec.zeroExtend 32 (BitVec.ofBool true)).toInt = 1 by decide]; norm_num
  · rw [if_neg h, beq_eq_false_iff_ne.mpr h, show (BitVec.zeroExtend 32 (BitVec.ofBool false)).toInt = 0 by decide]; norm_num

/-- Small numbers are told apart by their words. -/
theorem word_eq_iff (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => h ▸ rfl

/-- The division of one position's word. -/
def divWord (s l : BitVec 32) : BitVec 32 :=
  floorDiv (S := S1x1) s (broadcast S1x1 l) (ix2 0 0)

/-- Positions divided by 16. -/
theorem divWord16 : ∀ l : Fin 224, divWord 16#32 (BitVec.ofNat 32 l.val) = BitVec.ofNat 32 (l.val / 16) := by decide +kernel
/-- Positions divided by 8. -/
theorem divWord8 : ∀ l : Fin 224, divWord 8#32 (BitVec.ofNat 32 l.val) = BitVec.ofNat 32 (l.val / 8) := by decide +kernel
/-- Positions divided by 4. -/
theorem divWord4 : ∀ l : Fin 224, divWord 4#32 (BitVec.ofNat 32 l.val) = BitVec.ofNat 32 (l.val / 4) := by decide +kernel
/-- Positions divided by 2. -/
theorem divWord2 : ∀ l : Fin 224, divWord 2#32 (BitVec.ofNat 32 l.val) = BitVec.ofNat 32 (l.val / 2) := by decide +kernel

/-- The division acts place by place. -/
theorem floorDiv_apply {S : Shape} (s : BitVec 32) (x : IVec S 32) (i : S.Idx) : floorDiv s x i = divWord s (x i) := rfl

/-- The product with a matrix on each side. -/
theorem sandwich_val {h : ℕ} (a : FVec Ideal ⟨2, ![h, 224]⟩ .f32) (b : FVec Ideal ⟨2, ![224, h]⟩ .f32) (x : FVec Ideal S224x224 .f32)
    (r c : Fin h) : sandwich (A := ⟨2, ![h, 224]⟩) (B := ⟨2, ![224, h]⟩) (S := ⟨2, ![h, h]⟩) (DotDims.plain h 224 224) (DotDims.plain h 224 h) a b x (ix2 r c)
      = ∑ k : Fin 224, (∑ l : Fin 224, a (ix2 r l) * x (ix2 l k)) * b (ix2 k c) := by
  simp only [sandwich, matmul]
  have z0 : (Ideal.ofBits .f32 0x00000000#32 : EReal) = 0 := Ideal.ofBits_zero_f32
  refine (Ideal.matmul_plain_apply none _ _ _ r c).trans ?_
  rw [show (constant (F := Ideal) ⟨2, ![h, h]⟩ .f32 0x00000000#32) (ix2 r c) = (0 : EReal) from z0, zero_add]
  refine Finset.sum_congr rfl fun k _ => ?_
  refine congrArg (· * b (ix2 k c)) ?_
  refine (Ideal.matmul_plain_apply none _ _ _ r k).trans ?_
  rw [show (constant (F := Ideal) ⟨2, ![h, 224]⟩ .f32 0x00000000#32) (ix2 r k) = (0 : EReal) from z0, zero_add]

/-- Window sums by 0/1 matrices. -/
theorem sandwich_window {h s : ℕ} (hs : 0 < s) (hn : 224 = h * s) (a : FVec Ideal ⟨2, ![h, 224]⟩ .f32) (b : FVec Ideal ⟨2, ![224, h]⟩ .f32)
    (x : FVec Ideal S224x224 .f32) (r c : Fin h)
    (ha : ∀ l, a (ix2 r l) = if l.val / s = r.val then 1 else 0) (hb : ∀ k, b (ix2 k c) = if k.val / s = c.val then 1 else 0) :
    sandwich (A := ⟨2, ![h, 224]⟩) (B := ⟨2, ![224, h]⟩) (S := ⟨2, ![h, h]⟩) (DotDims.plain h 224 224) (DotDims.plain h 224 h) a b x (ix2 r c)
      = winSum hn (fun i j => x (ix2 i j)) r c := by
  rw [sandwich_val]
  simp only [ha, hb, sum_window hs hn r, mul_comm _ (ite _ _ _)]
  rw [sum_window hs hn c (fun k => ∑ p, x (ix2 (place hn r p) k))]
  exact Finset.sum_comm

/-- Subsampling by 0/1 matrices. -/
theorem sandwich_pick {h : ℕ} (a : FVec Ideal ⟨2, ![h, 224]⟩ .f32) (b : FVec Ideal ⟨2, ![224, h]⟩ .f32)
    (x : FVec Ideal S224x224 .f32) (r c : Fin h) (r' c' : Fin 224)
    (ha : ∀ l : Fin 224, a (ix2 r l) = if l.val = r'.val then 1 else 0) (hb : ∀ k : Fin 224, b (ix2 k c) = if k.val = c'.val then 1 else 0) :
    sandwich (A := ⟨2, ![h, 224]⟩) (B := ⟨2, ![224, h]⟩) (S := ⟨2, ![h, h]⟩) (DotDims.plain h 224 224) (DotDims.plain h 224 h) a b x (ix2 r c)
      = x (ix2 r' c') := by
  rw [sandwich_val]
  simp only [ha, hb, sum_pick, mul_comm _ (ite _ _ _)]

/-- The first place of a window. -/
def head {n h s : ℕ} (hs : 0 < s) (hn : n = h * s) (r : Fin h) : Fin n := place hn r ⟨0, hs⟩

/-- The word of a window's first place. -/
theorem scaled_word {h s : ℕ} (hs : 0 < s) (hn : 224 = h * s) (r : Fin h) (l : Fin 224) :
    BitVec.ofNat 32 l.val = BitVec.ofNat 32 s * BitVec.ofNat 32 r.val ↔ l.val = (head hs hn r).val := by
  have hr : (head hs hn r).val = r.val * s := by simp [head, place]
  have hlt := (head hs hn r).isLt
  rw [← BitVec.ofNat_mul, hr, Nat.mul_comm s]
  have hl := l.isLt
  exact word_eq_iff _ _ (by omega) (by omega)

/-- The kernel's subsampling. -/
theorem subsample_val {h s : ℕ} (hs : 0 < s) (hn : 224 = h * s) (i0 i1 : _) (j0 j1 : _) (x : FVec Ideal S224x224 .f32) (r c : Fin h) :
    subsample (F := Ideal) (A := ⟨2, ![h, 224]⟩) (B := ⟨2, ![224, h]⟩) (S := ⟨2, ![h, h]⟩) (DotDims.plain h 224 224) (DotDims.plain h 224 h)
      (iota .tc ⟨2, ![h, 224]⟩ 32 [0] i0) (iota .tc ⟨2, ![h, 224]⟩ 32 [1] i1) (iota .tc ⟨2, ![224, h]⟩ 32 [0] j0) (iota .tc ⟨2, ![224, h]⟩ 32 [1] j1)
      (BitVec.ofNat 32 s) x (ix2 r c) = x (ix2 (head hs hn r) (head hs hn c)) := by
  unfold subsample
  apply sandwich_pick
  · intro l
    rw [indic_val]
    refine if_congr ?_ rfl rfl
    rw [← scaled_word hs hn r l]
    show iota .tc ⟨2, ![h, 224]⟩ 32 [1] i1 (ix2 r l) = BitVec.ofNat 32 s * iota .tc ⟨2, ![h, 224]⟩ 32 [0] i0 (ix2 r l) ↔ _
    rw [iota_single_apply, iota_single_apply]
    exact Iff.rfl
  · intro l
    rw [indic_val]
    refine if_congr ?_ rfl rfl
    rw [← scaled_word hs hn c l]
    show iota .tc ⟨2, ![224, h]⟩ 32 [0] j0 (ix2 l c) = BitVec.ofNat 32 s * iota .tc ⟨2, ![224, h]⟩ 32 [1] j1 (ix2 l c) ↔ _
    rw [iota_single_apply, iota_single_apply]
    exact Iff.rfl

/-- The kernel's window means: window sums times the constant. -/
theorem poolMask_val {h s : ℕ} (hs : 0 < s) (hn : 224 = h * s) (hd : ∀ l : Fin 224, divWord (BitVec.ofNat 32 s) (BitVec.ofNat 32 l.val) = BitVec.ofNat 32 (l.val / s))
    (hh : h < 2 ^ 32) (i0 i1 : _) (j0 j1 : _) (w : BitVec 32) (x : FVec Ideal S224x224 .f32) (r c : Fin h) :
    poolMask (F := Ideal) (A := ⟨2, ![h, 224]⟩) (B := ⟨2, ![224, h]⟩) (S := ⟨2, ![h, h]⟩) (DotDims.plain h 224 224) (DotDims.plain h 224 h)
      (iota .tc ⟨2, ![h, 224]⟩ 32 [0] i0) (iota .tc ⟨2, ![h, 224]⟩ 32 [1] i1) (iota .tc ⟨2, ![224, h]⟩ 32 [0] j0) (iota .tc ⟨2, ![224, h]⟩ 32 [1] j1)
      (BitVec.ofNat 32 s) w x (ix2 r c) = winSum hn (fun i j => x (ix2 i j)) r c * Ideal.ofBits .f32 w := by
  have hq : ∀ (q : Fin h) (l : Fin 224), BitVec.ofNat 32 (l.val / s) = BitVec.ofNat 32 q.val ↔ l.val / s = q.val := fun q l =>
    word_eq_iff _ _ (lt_of_le_of_lt (Nat.div_le_self _ _) (by have := l.isLt; omega)) (by have := q.isLt; omega)
  unfold poolMask
  refine congrArg (· * Ideal.ofBits .f32 w) ?_
  apply sandwich_window hs hn
  · intro l
    rw [indic_val, floorDiv_apply, iota_single_apply, iota_single_apply]
    refine if_congr ?_ rfl rfl
    rw [← hq r l, ← hd l]
    exact Iff.rfl
  · intro l
    rw [indic_val, floorDiv_apply, iota_single_apply, iota_single_apply]
    refine if_congr ?_ rfl rfl
    rw [← hq c l, ← hd l]
    exact Iff.rfl

/-- A sum over a three-axis shape is three sums. -/
theorem sum_three {n0 n1 n2 : ℕ} (g : (⟨3, ![n0, n1, n2]⟩ : Shape).Idx → EReal) : ∑ i, g i = ∑ a : Fin n0, ∑ b : Fin n1, ∑ c : Fin n2, g (ix3 a b c) := by
  have e : ∑ i, g i = ∑ p : Fin n0 × Fin n1 × Fin n2, g (ix3 p.1 p.2.1 p.2.2) := by
    refine Fintype.sum_equiv ⟨fun i => (i 0, i 1, i 2), fun p => ix3 p.1 p.2.1 p.2.2, fun i => (eq_ix3 i).symm, fun p => rfl⟩ _ _ fun i => ?_
    exact congrArg g (eq_ix3 i)
  rw [e, Fintype.sum_prod_type]
  exact Finset.sum_congr rfl fun a _ => Fintype.sum_prod_type _

/-- The kernel's total of a square. -/
theorem total_val {h : ℕ} (x : FVec Ideal ⟨2, ![h, h]⟩ .f32) (c : (⟨2, ![h, h]⟩ : Shape).ShapeCasts ⟨3, ![1, h, h]⟩)
    (r : (⟨3, ![1, h, h]⟩ : Shape).Reduces [1, 2] Cert.KernelIdeal.S1) : total c r x = ∑ i, ∑ j, x (ix2 i j) := by
  unfold total
  have hc : ∀ (v : FVec Ideal Cert.KernelIdeal.S1 .f32), extractAt ![0, 0, 0] (shapeCast S1x1x1 v shapeCasts_S1_S1x1x1) inpos_S1x1x1_p0_0_0 = v (ix1 0) := fun v => by
    refine congrArg v (funext fun a => ?_)
    match a with
    | ⟨0, _⟩ => exact Subsingleton.elim (α := Fin 1) _ _
  rw [hc]
  refine (Ideal.multiReduction_add_total _ _ r (fun b => by match b with | ⟨0, _⟩ => rfl) _ _ _).trans ?_
  rw [sum_three, Fin.sum_univ_one]
  exact Finset.sum_congr rfl fun i _ => Finset.sum_congr rfl fun j _ => shapeCast_ab_1ab_apply x c _ i j

/-- A pool's sum: the error of each pooled pixel times the mask there. -/
def poolSum {h s : ℕ} (hs : 0 < s) (hn : 224 = h * s) (f : Fin 3 → Fin 224 → Fin 224 → ℝ) (W : Fin 9 → Fin 9 → EReal) (B : Fin 9 → EReal)
    (P : Fin 3 → Fin 9 → Fin h → Fin h → EReal) (m : Fin h → Fin h → EReal) : EReal :=
  ∑ r, ∑ c, pixErr (fun k => gradX (f k) (head hs hn r) (head hs hn c)) (fun k => gradY (f k) (head hs hn r) (head hs hn c)) W B
    (fun k o => P k o r c) * m r c

/-- The named twenty-seventh. -/
theorem third27_val : Named.named (F := Ideal) (φ := .f32) κ "third27" 0x3D17B426#32 = ((1 / 27 : ℝ) : EReal) := by
  show (κ "third27").getD _ = _
  simp [κ]

/-- One pool's entry, the error and mask given place by place. -/
theorem poolNum_val {h s : ℕ} (hs : 0 < s) (hn : 224 = h * s) (f : Fin 3 → Fin 224 → Fin 224 → ℝ) (W : Fin 9 → Fin 9 → EReal) (B : Fin 9 → EReal)
    (P : Fin 3 → Fin 9 → FVec Ideal ⟨2, ![h, h]⟩ .f32) (M : FVec Ideal ⟨2, ![h, h]⟩ .f32) (G H : Fin 3 → FVec Ideal ⟨2, ![h, h]⟩ .f32)
    (c : (⟨2, ![h, h]⟩ : Shape).ShapeCasts ⟨3, ![1, h, h]⟩) (r : (⟨3, ![1, h, h]⟩ : Shape).Reduces [1, 2] Cert.KernelIdeal.S1)
    (hG : ∀ k i j, G k (ix2 i j) = ((gradX (f k) (head hs hn i) (head hs hn j) : ℝ) : EReal))
    (hH : ∀ k i j, H k (ix2 i j) = ((gradY (f k) (head hs hn i) (head hs hn j) : ℝ) : EReal)) :
    poolNum c r (errV G H W B P) M
      = poolSum hs hn f W B (fun k o i j => P k o (ix2 i j)) (fun i j => M (ix2 i j)) * ((1 / 27 : ℝ) : EReal) := by
  unfold poolNum
  refine congrArg₂ (fun a b : EReal => a * b) ?_ third27_val
  rw [total_val]
  refine Finset.sum_congr rfl fun i _ => Finset.sum_congr rfl fun j _ => ?_
  rw [mulf_apply, errV_val _ _ _ _ _ _ (fun k => hG k i j) (fun k => hH k i j)]

/-- The kernel's pool with 14 windows a side. -/
theorem pool14_val (f : Fin 3 → Fin 224 → Fin 224 → ℝ) (X : Fin 3 → FVec Ideal S224x224 .f32) (M : FVec Ideal S224x224 .f32)
    (W : Fin 9 → Fin 9 → EReal) (B : Fin 9 → EReal) (P : Fin 3 → Fin 9 → FVec Ideal S14x14 .f32) (hX : ∀ k i j, X k (ix2 i j) = f k i j) :
    pool14 (F := Ideal) X M W B P = poolSum (s := 16) (by decide) (by decide) f W B (fun k o i j => P k o (ix2 i j))
      (fun i j => winSum (h := 14) (s := 16) (by decide) (fun a b => M (ix2 a b)) i j * ((1 / 256 : ℝ) : EReal)) * ((1 / 27 : ℝ) : EReal) := by
  have hw : Ideal.ofBits .f32 0x3B800000#32 = ((1 / 256 : ℝ) : EReal) := by
    simp [Ideal.ofBits, Ideal.ieee]; rw [← EReal.coe_mul]; norm_num
  unfold pool14
  refine (poolNum_val (s := 16) (by decide) (by decide) f W B P _ _ _ _ _ (fun k i j => ?_) (fun k i j => ?_)).trans ?_
  · exact (subsample_val (h := 14) (s := 16) (by decide) (by decide) _ _ _ _ _ i j).trans (grad0_val _ _ (hX k) _ _)
  · exact (subsample_val (h := 14) (s := 16) (by decide) (by decide) _ _ _ _ _ i j).trans (grad1_val _ _ (hX k) _ _)
  · refine congrArg (fun m => poolSum (s := 16) (by decide) (by decide) f W B (fun k o i j => P k o (ix2 i j)) m * ((1 / 27 : ℝ) : EReal)) ?_
    funext i j
    refine (poolMask_val (h := 14) (s := 16) (by decide) (by decide) divWord16 (by decide) _ _ _ _ _ M i j).trans ?_
    rw [hw]

/-- The kernel's pool with 28 windows a side. -/
theorem pool28_val (f : Fin 3 → Fin 224 → Fin 224 → ℝ) (X : Fin 3 → FVec Ideal S224x224 .f32) (M : FVec Ideal S224x224 .f32)
    (W : Fin 9 → Fin 9 → EReal) (B : Fin 9 → EReal) (P : Fin 3 → Fin 9 → FVec Ideal S28x28 .f32) (hX : ∀ k i j, X k (ix2 i j) = f k i j) :
    pool28 (F := Ideal) X M W B P = poolSum (s := 8) (by decide) (by decide) f W B (fun k o i j => P k o (ix2 i j))
      (fun i j => winSum (h := 28) (s := 8) (by decide) (fun a b => M (ix2 a b)) i j * ((1 / 64 : ℝ) : EReal)) * ((1 / 27 : ℝ) : EReal) := by
  have hw : Ideal.ofBits .f32 0x3C800000#32 = ((1 / 64 : ℝ) : EReal) := by
    simp [Ideal.ofBits, Ideal.ieee]; rw [← EReal.coe_mul]; norm_num
  unfold pool28
  refine (poolNum_val (s := 8) (by decide) (by decide) f W B P _ _ _ _ _ (fun k i j => ?_) (fun k i j => ?_)).trans ?_
  · exact (subsample_val (h := 28) (s := 8) (by decide) (by decide) _ _ _ _ _ i j).trans (grad0_val _ _ (hX k) _ _)
  · exact (subsample_val (h := 28) (s := 8) (by decide) (by decide) _ _ _ _ _ i j).trans (grad1_val _ _ (hX k) _ _)
  · refine congrArg (fun m => poolSum (s := 8) (by decide) (by decide) f W B (fun k o i j => P k o (ix2 i j)) m * ((1 / 27 : ℝ) : EReal)) ?_
    funext i j
    refine (poolMask_val (h := 28) (s := 8) (by decide) (by decide) divWord8 (by decide) _ _ _ _ _ M i j).trans ?_
    rw [hw]

/-- The kernel's pool with 56 windows a side. -/
theorem pool56_val (f : Fin 3 → Fin 224 → Fin 224 → ℝ) (X : Fin 3 → FVec Ideal S224x224 .f32) (M : FVec Ideal S224x224 .f32)
    (W : Fin 9 → Fin 9 → EReal) (B : Fin 9 → EReal) (P : Fin 3 → Fin 9 → FVec Ideal S56x56 .f32) (hX : ∀ k i j, X k (ix2 i j) = f k i j) :
    pool56 (F := Ideal) X M W B P = poolSum (s := 4) (by decide) (by decide) f W B (fun k o i j => P k o (ix2 i j))
      (fun i j => winSum (h := 56) (s := 4) (by decide) (fun a b => M (ix2 a b)) i j * ((1 / 16 : ℝ) : EReal)) * ((1 / 27 : ℝ) : EReal) := by
  have hw : Ideal.ofBits .f32 0x3D800000#32 = ((1 / 16 : ℝ) : EReal) := by
    simp [Ideal.ofBits, Ideal.ieee]; rw [← EReal.coe_mul]; norm_num
  unfold pool56
  refine (poolNum_val (s := 4) (by decide) (by decide) f W B P _ _ _ _ _ (fun k i j => ?_) (fun k i j => ?_)).trans ?_
  · exact (subsample_val (h := 56) (s := 4) (by decide) (by decide) _ _ _ _ _ i j).trans (grad0_val _ _ (hX k) _ _)
  · exact (subsample_val (h := 56) (s := 4) (by decide) (by decide) _ _ _ _ _ i j).trans (grad1_val _ _ (hX k) _ _)
  · refine congrArg (fun m => poolSum (s := 4) (by decide) (by decide) f W B (fun k o i j => P k o (ix2 i j)) m * ((1 / 27 : ℝ) : EReal)) ?_
    funext i j
    refine (poolMask_val (h := 56) (s := 4) (by decide) (by decide) divWord4 (by decide) _ _ _ _ _ M i j).trans ?_
    rw [hw]

/-- The kernel's pool with 112 windows a side. -/
theorem pool112_val (f : Fin 3 → Fin 224 → Fin 224 → ℝ) (X : Fin 3 → FVec Ideal S224x224 .f32) (M : FVec Ideal S224x224 .f32)
    (W : Fin 9 → Fin 9 → EReal) (B : Fin 9 → EReal) (P : Fin 3 → Fin 9 → FVec Ideal S112x112 .f32) (hX : ∀ k i j, X k (ix2 i j) = f k i j) :
    pool112 (F := Ideal) X M W B P = poolSum (s := 2) (by decide) (by decide) f W B (fun k o i j => P k o (ix2 i j))
      (fun i j => winSum (h := 112) (s := 2) (by decide) (fun a b => M (ix2 a b)) i j * ((1 / 4 : ℝ) : EReal)) * ((1 / 27 : ℝ) : EReal) := by
  have hw : Ideal.ofBits .f32 0x3E800000#32 = ((1 / 4 : ℝ) : EReal) := by
    simp [Ideal.ofBits, Ideal.ieee]; rw [← EReal.coe_mul]; norm_num
  unfold pool112
  refine (poolNum_val (s := 2) (by decide) (by decide) f W B P _ _ _ _ _ (fun k i j => ?_) (fun k i j => ?_)).trans ?_
  · exact (subsample_val (h := 112) (s := 2) (by decide) (by decide) _ _ _ _ _ i j).trans (grad0_val _ _ (hX k) _ _)
  · exact (subsample_val (h := 112) (s := 2) (by decide) (by decide) _ _ _ _ _ i j).trans (grad1_val _ _ (hX k) _ _)
  · refine congrArg (fun m => poolSum (s := 2) (by decide) (by decide) f W B (fun k o i j => P k o (ix2 i j)) m * ((1 / 27 : ℝ) : EReal)) ?_
    funext i j
    refine (poolMask_val (h := 112) (s := 2) (by decide) (by decide) divWord2 (by decide) _ _ _ _ _ M i j).trans ?_
    rw [hw]

/-- At full resolution a window is one place. -/
theorem head_one (r : Fin 224) : head (s := 1) (by decide) (by decide) r = r := Fin.ext (by simp [head, place])

/-- The kernel's pool at full resolution. -/
theorem pool224_val (f : Fin 3 → Fin 224 → Fin 224 → ℝ) (X : Fin 3 → FVec Ideal S224x224 .f32) (M : FVec Ideal S224x224 .f32)
    (W : Fin 9 → Fin 9 → EReal) (B : Fin 9 → EReal) (P : Fin 3 → Fin 9 → FVec Ideal S224x224 .f32) (hX : ∀ k i j, X k (ix2 i j) = f k i j) :
    pool224 (F := Ideal) X M W B P = poolSum (s := 1) (by decide) (by decide) f W B (fun k o i j => P k o (ix2 i j))
      (fun i j => M (ix2 i j)) * ((1 / 27 : ℝ) : EReal) := by
  unfold pool224
  refine poolNum_val (s := 1) (by decide) (by decide) f W B P _ _ _ _ _ (fun k i j => ?_) (fun k i j => ?_)
  · rw [head_one, head_one]; exact grad0_val _ _ (hX k) _ _
  · rw [head_one, head_one]; exact grad1_val _ _ (hX k) _ _

end Cert.Hog

end
-- ==== Proof.StageA.lean ====
module

public import proofs.«01_k».proof.Proof.Tile
public import proofs.«01_k».proof.Proof.Gen.KernelIdeal.Frame

/-!
The values of the kernel's run at the first grid point, each equal to a structured definition.
-/

@[expose] public section

set_option maxRecDepth 65536

noncomputable section

namespace Cert.Hog

open Idealize.ShloMosaic Idealize.ShloMosaic.TcCoe Idealize.SL.Sem Cert.KernelIdeal Cert.KernelIdeal.Gen

variable {F : FTy → Type} [FloatOps F] [Named F]

variable (c : Dev nD)
  (i : grid0.Coords)
  (arg1 : Memref sig .tc .smem S9x9 .f32)
  (harg1 : arg1.IsWhole)
  (arg2 : Memref sig .tc .smem S9 .f32)
  (harg2 : arg2.IsWhole)
  (arg3 : Memref sig .tc .smem S9x9 .f32)
  (harg3 : arg3.IsWhole)
  (arg4 : Memref sig .tc .smem S9 .f32)
  (harg4 : arg4.IsWhole)
  (arg5 : Memref sig .tc .smem S9x9 .f32)
  (harg5 : arg5.IsWhole)
  (arg6 : Memref sig .tc .smem S9 .f32)
  (harg6 : arg6.IsWhole)
  (arg7 : Memref sig .tc .smem S9x9 .f32)
  (harg7 : arg7.IsWhole)
  (arg8 : Memref sig .tc .smem S9 .f32)
  (harg8 : arg8.IsWhole)
  (arg9 : Memref sig .tc .smem S9x9 .f32)
  (harg9 : arg9.IsWhole)
  (arg10 : Memref sig .tc .smem S9 .f32)
  (harg10 : arg10.IsWhole)
  (arg11 : Memref sig .tc .vmem S1x3x224x224 .f32)
  (harg11 : arg11.IsWhole)
  (arg12 : Memref sig .tc .vmem S1x1x224x224 .f32)
  (harg12 : arg12.IsWhole)
  (arg13 : Memref sig .tc .vmem S1x27x14x14 .f32)
  (harg13 : arg13.IsWhole)
  (arg14 : Memref sig .tc .vmem S1x27x28x28 .f32)
  (harg14 : arg14.IsWhole)
  (arg15 : Memref sig .tc .vmem S1x27x56x56 .f32)
  (harg15 : arg15.IsWhole)
  (arg16 : Memref sig .tc .vmem S1x27x112x112 .f32)
  (harg16 : arg16.IsWhole)
  (arg17 : Memref sig .tc .vmem S1x27x224x224 .f32)
  (harg17 : arg17.IsWhole)
  (arg18 : Memref sig .tc .vmem S8x128 .f32)
  (harg18 : arg18.IsWhole)
  (hc0 : cond0_0 i)
  (hc1 : ¬cond0_1 i)
  (x0 : Vec F S9x9 .f32)
  (x1 : Vec F S9 .f32)
  (x2 : Vec F S9x9 .f32)
  (x3 : Vec F S9 .f32)
  (x4 : Vec F S9x9 .f32)
  (x5 : Vec F S9 .f32)
  (x6 : Vec F S9x9 .f32)
  (x7 : Vec F S9 .f32)
  (x8 : Vec F S9x9 .f32)
  (x9 : Vec F S9 .f32)
  (x10 : Vec F S1x3x224x224 .f32)
  (x11 : Vec F S1x1x224x224 .f32)
  (x12 : Vec F S1x27x14x14 .f32)
  (x13 : Vec F S1x27x28x28 .f32)
  (x14 : Vec F S1x27x56x56 .f32)
  (x15 : Vec F S1x27x112x112 .f32)
  (x16 : Vec F S1x27x224x224 .f32)

/-- Horizontal gradient of pool 14, channel 0. -/
theorem g0_14_0_A :
    (kernelRun0_A.sl.v208 c arg11 harg11 x10) = (sub14 (grad0 (chAt arg11 harg11 x10 0))) := rfl

/-- Vertical gradient of pool 14, channel 0. -/
theorem g1_14_0_A :
    (kernelRun0_A.sl.v210 c arg11 harg11 x10) = (sub14 (grad1 (chAt arg11 harg11 x10 0))) := rfl

/-- Projection 0 of pool 14, channel 0. -/
theorem h0_14_0_A :
    (kernelRun0_A.sl.v313 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 0 := rfl

/-- Projection 1 of pool 14, channel 0. -/
theorem h1_14_0_A :
    (kernelRun0_A.sl.v317 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 1 := rfl

/-- Projection 2 of pool 14, channel 0. -/
theorem h2_14_0_A :
    (kernelRun0_A.sl.v380 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 2 := rfl

/-- Projection 3 of pool 14, channel 0. -/
theorem h3_14_0_A :
    (kernelRun0_A.sl.v384 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 3 := rfl

/-- Projection 4 of pool 14, channel 0. -/
theorem h4_14_0_A :
    (kernelRun0_A.sl.v447 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 4 := rfl

/-- Projection 5 of pool 14, channel 0. -/
theorem h5_14_0_A :
    (kernelRun0_A.sl.v451 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 5 := rfl

/-- Projection 6 of pool 14, channel 0. -/
theorem h6_14_0_A :
    (kernelRun0_A.sl.v514 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 6 := rfl

/-- Projection 7 of pool 14, channel 0. -/
theorem h7_14_0_A :
    (kernelRun0_A.sl.v518 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 7 := rfl

/-- Projection 8 of pool 14, channel 0. -/
theorem h8_14_0_A :
    (kernelRun0_A.sl.v548 c arg1 harg1 arg2 harg2 arg11 harg11 x0 x1 x10) = hogs (kernelRun0_A.sl.v208 c arg11 harg11 x10) (kernelRun0_A.sl.v210 c arg11 harg11 x10) (wAt arg1 harg1 x0) (bAt arg2 harg2 x1) 8 := rfl

/-- All nine projections of pool 14, channel 0. -/
theorem hv_14_0_A :
    ![(kernelRun0_A.sl.v313 c arg1 harg1 arg2 harg2 arg11 harg11 x0 x1 x10), (kernelRun0_A.sl.v317 c arg1 harg1 arg2 harg2 arg11 harg11 x0 x1 x10), (kernelRun0_A.sl.v380 c arg1 harg1 arg2 harg2 arg11 harg11 x0 x1 x10), (kernelRun0_A.sl.v384 c arg1 harg1 arg2 harg2 arg11 harg11 x0 x1 x10), (kernelRun0_A.sl.v447 c arg1 harg1 arg2 harg2 arg11 harg11 x0 x1 x10), (kernelRun0_A.sl.v451 c arg1 harg1 arg2 harg2 arg11 harg11 x0 x1 x10), (kernelRun0_A.sl.v514 c arg1 harg1 arg2 harg2 arg11 harg11 x0 x1 x10), (kernelRun0_A.sl.v518 c arg1 harg1 arg2 harg2 arg11 harg11 x0 x1 x10), (kernelRun0_A.sl.v548 c arg1 harg1 arg2 harg2 arg11 harg11 x0 x1 x10)] = (hogs (sub14 (grad0 (chAt arg11 harg11 x10 0))) (sub14 (grad1 (chAt arg11 harg11 x10 0))) (wAt arg1 harg1 x0) (bAt arg2 harg2 x1)) := by
  funext o
  fin_cases o
  · exact (h0_14_0_A ..).trans (by rw [g0_14_0_A, g1_14_0_A] <;> rfl)
  · exact (h1_14_0_A ..).trans (by rw [g0_14_0_A, g1_14_0_A] <;> rfl)
  · exact (h2_14_0_A ..).trans (by rw [g0_14_0_A, g1_14_0_A] <;> rfl)
  · exact (h3_14_0_A ..).trans (by rw [g0_14_0_A, g1_14_0_A] <;> rfl)
  · exact (h4_14_0_A ..).trans (by rw [g0_14_0_A, g1_14_0_A] <;> rfl)
  · exact (h5_14_0_A ..).trans (by rw [g0_14_0_A, g1_14_0_A] <;> rfl)
  · exact (h6_14_0_A ..).trans (by rw [g0_14_0_A, g1_14_0_A] <;> rfl)
  · exact (h7_14_0_A ..).trans (by rw [g0_14_0_A, g1_14_0_A] <;> rfl)
  · exact (h8_14_0_A ..).trans (by rw [g0_14_0_A, g1_14_0_A] <;> rfl)

/-- Norm factor of pool 14, channel 0. -/
theorem i_14_0_A :
    (kernelRun0_A.sl.v570 c arg1 harg1 arg2 harg2 arg11 harg11 x0 x1 x10) = invNorm ![(kernelRun0_A.sl.v313 c arg1 harg1 arg2 harg2 arg11 harg11 x0 x1 x10), (kernelRun0_A.sl.v317 c arg1 harg1 arg2 harg2 arg11 harg11 x0 x1 x10), (kernelRun0_A.sl.v380 c arg1 harg1 arg2 harg2 arg11 harg11 x0 x1 x10), (kernelRun0_A.sl.v384 c arg1 harg1 arg2 harg2 arg11 harg11 x0 x1 x10), (kernelRun0_A.sl.v447 c arg1 harg1 arg2 harg2 arg11 harg11 x0 x1 x10), (kernelRun0_A.sl.v451 c arg1 harg1 arg2 harg2 arg11 harg11 x0 x1 x10), (kernelRun0_A.sl.v514 c arg1 harg1 arg2 harg2 arg11 harg11 x0 x1 x10), (kernelRun0_A.sl.v518 c arg1 harg1 arg2 harg2 arg11 harg11 x0 x1 x10), (kernelRun0_A.sl.v548 c arg1 harg1 arg2 harg2 arg11 harg11 x0 x1 x10)] := rfl

/-- Error so far of pool 14, channel 0. -/
theorem e_14_0_A :
    (kernelRun0_A.sl.v624 c arg1 harg1 arg2 harg2 arg11 harg11 arg13 harg13 x0 x1 x10 x12) = chanErr (zeros S14x14) (hogs (sub14 (grad0 (chAt arg11 harg11 x10 0))) (sub14 (grad1 (chAt arg11 harg11 x10 0))) (wAt arg1 harg1 x0) (bAt arg2 harg2 x1)) (pred14 arg13 harg13 x12 0) := by
  rw [← hv_14_0_A (c := c)]
  unfold chanErr
  rw [← i_14_0_A (c := c)]
  rfl

/-- Horizontal gradient of pool 14, channel 1. -/
theorem g0_14_1_A :
    (kernelRun0_A.sl.v626 c arg11 harg11 x10) = (sub14 (grad0 (chAt arg11 harg11 x10 1))) := rfl

/-- Vertical gradient of pool 14, channel 1. -/
theorem g1_14_1_A :
    (kernelRun0_A.sl.v628 c arg11 harg11 x10) = (sub14 (grad1 (chAt arg11 harg11 x10 1))) := rfl

/-- Projection 0 of pool 14, channel 1. -/
theorem h0_14_1_A :
    (kernelRun0_A.sl.v731 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 0 := rfl

/-- Projection 1 of pool 14, channel 1. -/
theorem h1_14_1_A :
    (kernelRun0_A.sl.v735 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 1 := rfl

/-- Projection 2 of pool 14, channel 1. -/
theorem h2_14_1_A :
    (kernelRun0_A.sl.v798 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 2 := rfl

/-- Projection 3 of pool 14, channel 1. -/
theorem h3_14_1_A :
    (kernelRun0_A.sl.v802 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 3 := rfl

/-- Projection 4 of pool 14, channel 1. -/
theorem h4_14_1_A :
    (kernelRun0_A.sl.v865 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 4 := rfl

/-- Projection 5 of pool 14, channel 1. -/
theorem h5_14_1_A :
    (kernelRun0_A.sl.v869 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 5 := rfl

/-- Projection 6 of pool 14, channel 1. -/
theorem h6_14_1_A :
    (kernelRun0_A.sl.v932 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 6 := rfl

/-- Projection 7 of pool 14, channel 1. -/
theorem h7_14_1_A :
    (kernelRun0_A.sl.v936 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 7 := rfl

/-- Projection 8 of pool 14, channel 1. -/
theorem h8_14_1_A :
    (kernelRun0_A.sl.v966 c arg1 harg1 arg2 harg2 arg11 harg11 x0 x1 x10) = hogs (kernelRun0_A.sl.v626 c arg11 harg11 x10) (kernelRun0_A.sl.v628 c arg11 harg11 x10) (wAt arg1 harg1 x0) (bAt arg2 harg2 x1) 8 := rfl

/-- All nine projections of pool 14, channel 1. -/
theorem hv_14_1_A :
    ![(kernelRun0_A.sl.v731 c arg1 harg1 arg2 harg2 arg11 harg11 x0 x1 x10), (kernelRun0_A.sl.v735 c arg1 harg1 arg2 harg2 arg11 harg11 x0 x1 x10), (kernelRun0_A.sl.v798 c arg1 harg1 arg2 harg2 arg11 harg11 x0 x1 x10), (kernelRun0_A.sl.v802 c arg1 harg1 arg2 harg2 arg11 harg11 x0 x1 x10), (kernelRun0_A.sl.v865 c arg1 harg1 arg2 harg2 arg11 harg11 x0 x1 x10), (kernelRun0_A.sl.v869 c arg1 harg1 arg2 harg2 arg11 harg11 x0 x1 x10), (kernelRun0_A.sl.v932 c arg1 harg1 arg2 harg2 arg11 harg11 x0 x1 x10), (kernelRun0_A.sl.v936 c arg1 harg1 arg2 harg2 arg11 harg11 x0 x1 x10), (kernelRun0_A.sl.v966 c arg1 harg1 arg2 harg2 arg11 harg11 x0 x1 x10)] = (hogs (sub14 (grad0 (chAt arg11 harg11 x10 1))) (sub14 (grad1 (chAt arg11 harg11 x10 1))) (wAt arg1 harg1 x0) (bAt arg2 harg2 x1)) := by
  funext o
  fin_cases o
  · exact (h0_14_1_A ..).trans (by rw [g0_14_1_A, g1_14_1_A] <;> rfl)
  · exact (h1_14_1_A ..).trans (by rw [g0_14_1_A, g1_14_1_A] <;> rfl)
  · exact (h2_14_1_A ..).trans (by rw [g0_14_1_A, g1_14_1_A] <;> rfl)
  · exact (h3_14_1_A ..).trans (by rw [g0_14_1_A, g1_14_1_A] <;> rfl)
  · exact (h4_14_1_A ..).trans (by rw [g0_14_1_A, g1_14_1_A] <;> rfl)
  · exact (h5_14_1_A ..).trans (by rw [g0_14_1_A, g1_14_1_A] <;> rfl)
  · exact (h6_14_1_A ..).trans (by rw [g0_14_1_A, g1_14_1_A] <;> rfl)
  · exact (h7_14_1_A ..).trans (by rw [g0_14_1_A, g1_14_1_A] <;> rfl)
  · exact (h8_14_1_A ..).trans (by rw [g0_14_1_A, g1_14_1_A] <;> rfl)

/-- Norm factor of pool 14, channel 1. -/
theorem i_14_1_A :
    (kernelRun0_A.sl.v988 c arg1 harg1 arg2 harg2 arg11 harg11 x0 x1 x10) = invNorm ![(kernelRun0_A.sl.v731 c arg1 harg1 arg2 harg2 arg11 harg11 x0 x1 x10), (kernelRun0_A.sl.v735 c arg1 harg1 arg2 harg2 arg11 harg11 x0 x1 x10), (kernelRun0_A.sl.v798 c arg1 harg1 arg2 harg2 arg11 harg11 x0 x1 x10), (kernelRun0_A.sl.v802 c arg1 harg1 arg2 harg2 arg11 harg11 x0 x1 x10), (kernelRun0_A.sl.v865 c arg1 harg1 arg2 harg2 arg11 harg11 x0 x1 x10), (kernelRun0_A.sl.v869 c arg1 harg1 arg2 harg2 arg11 harg11 x0 x1 x10), (kernelRun0_A.sl.v932 c arg1 harg1 arg2 harg2 arg11 harg11 x0 x1 x10), (kernelRun0_A.sl.v936 c arg1 harg1 arg2 harg2 arg11 harg11 x0 x1 x10), (kernelRun0_A.sl.v966 c arg1 harg1 arg2 harg2 arg11 harg11 x0 x1 x10)] := rfl

/-- Error so far of pool 14, channel 1. -/
theorem e_14_1_A :
    (kernelRun0_A.sl.v1042 c arg1 harg1 arg2 harg2 arg11 harg11 arg13 harg13 x0 x1 x10 x12) = chanErr (kernelRun0_A.sl.v624 c arg1 harg1 arg2 harg2 arg11 harg11 arg13 harg13 x0 x1 x10 x12) (hogs (sub14 (grad0 (chAt arg11 harg11 x10 1))) (sub14 (grad1 (chAt arg11 harg11 x10 1))) (wAt arg1 harg1 x0) (bAt arg2 harg2 x1)) (pred14 arg13 harg13 x12 1) := by
  rw [← hv_14_1_A (c := c)]
  unfold chanErr
  rw [← i_14_1_A (c := c)]
  rfl

/-- Horizontal gradient of pool 14, channel 2. -/
theorem g0_14_2_A :
    (kernelRun0_A.sl.v1044 c arg11 harg11 x10) = (sub14 (grad0 (chAt arg11 harg11 x10 2))) := rfl

/-- Vertical gradient of pool 14, channel 2. -/
theorem g1_14_2_A :
    (kernelRun0_A.sl.v1046 c arg11 harg11 x10) = (sub14 (grad1 (chAt arg11 harg11 x10 2))) := rfl

/-- Projection 0 of pool 14, channel 2. -/
theorem h0_14_2_A :
    (kernelRun0_A.sl.v1149 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 0 := rfl

/-- Projection 1 of pool 14, channel 2. -/
theorem h1_14_2_A :
    (kernelRun0_A.sl.v1153 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 1 := rfl

/-- Projection 2 of pool 14, channel 2. -/
theorem h2_14_2_A :
    (kernelRun0_A.sl.v1216 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 2 := rfl

/-- Projection 3 of pool 14, channel 2. -/
theorem h3_14_2_A :
    (kernelRun0_A.sl.v1220 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 3 := rfl

/-- Projection 4 of pool 14, channel 2. -/
theorem h4_14_2_A :
    (kernelRun0_A.sl.v1283 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 4 := rfl

/-- Projection 5 of pool 14, channel 2. -/
theorem h5_14_2_A :
    (kernelRun0_A.sl.v1287 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 5 := rfl

/-- Projection 6 of pool 14, channel 2. -/
theorem h6_14_2_A :
    (kernelRun0_A.sl.v1350 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 6 := rfl

/-- Projection 7 of pool 14, channel 2. -/
theorem h7_14_2_A :
    (kernelRun0_A.sl.v1354 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 7 := rfl

/-- Projection 8 of pool 14, channel 2. -/
theorem h8_14_2_A :
    (kernelRun0_A.sl.v1384 c arg1 harg1 arg2 harg2 arg11 harg11 x0 x1 x10) = hogs (kernelRun0_A.sl.v1044 c arg11 harg11 x10) (kernelRun0_A.sl.v1046 c arg11 harg11 x10) (wAt arg1 harg1 x0) (bAt arg2 harg2 x1) 8 := rfl

/-- All nine projections of pool 14, channel 2. -/
theorem hv_14_2_A :
    ![(kernelRun0_A.sl.v1149 c arg1 harg1 arg2 harg2 arg11 harg11 x0 x1 x10), (kernelRun0_A.sl.v1153 c arg1 harg1 arg2 harg2 arg11 harg11 x0 x1 x10), (kernelRun0_A.sl.v1216 c arg1 harg1 arg2 harg2 arg11 harg11 x0 x1 x10), (kernelRun0_A.sl.v1220 c arg1 harg1 arg2 harg2 arg11 harg11 x0 x1 x10), (kernelRun0_A.sl.v1283 c arg1 harg1 arg2 harg2 arg11 harg11 x0 x1 x10), (kernelRun0_A.sl.v1287 c arg1 harg1 arg2 harg2 arg11 harg11 x0 x1 x10), (kernelRun0_A.sl.v1350 c arg1 harg1 arg2 harg2 arg11 harg11 x0 x1 x10), (kernelRun0_A.sl.v1354 c arg1 harg1 arg2 harg2 arg11 harg11 x0 x1 x10), (kernelRun0_A.sl.v1384 c arg1 harg1 arg2 harg2 arg11 harg11 x0 x1 x10)] = (hogs (sub14 (grad0 (chAt arg11 harg11 x10 2))) (sub14 (grad1 (chAt arg11 harg11 x10 2))) (wAt arg1 harg1 x0) (bAt arg2 harg2 x1)) := by
  funext o
  fin_cases o
  · exact (h0_14_2_A ..).trans (by rw [g0_14_2_A, g1_14_2_A] <;> rfl)
  · exact (h1_14_2_A ..).trans (by rw [g0_14_2_A, g1_14_2_A] <;> rfl)
  · exact (h2_14_2_A ..).trans (by rw [g0_14_2_A, g1_14_2_A] <;> rfl)
  · exact (h3_14_2_A ..).trans (by rw [g0_14_2_A, g1_14_2_A] <;> rfl)
  · exact (h4_14_2_A ..).trans (by rw [g0_14_2_A, g1_14_2_A] <;> rfl)
  · exact (h5_14_2_A ..).trans (by rw [g0_14_2_A, g1_14_2_A] <;> rfl)
  · exact (h6_14_2_A ..).trans (by rw [g0_14_2_A, g1_14_2_A] <;> rfl)
  · exact (h7_14_2_A ..).trans (by rw [g0_14_2_A, g1_14_2_A] <;> rfl)
  · exact (h8_14_2_A ..).trans (by rw [g0_14_2_A, g1_14_2_A] <;> rfl)

/-- Norm factor of pool 14, channel 2. -/
theorem i_14_2_A :
    (kernelRun0_A.sl.v1406 c arg1 harg1 arg2 harg2 arg11 harg11 x0 x1 x10) = invNorm ![(kernelRun0_A.sl.v1149 c arg1 harg1 arg2 harg2 arg11 harg11 x0 x1 x10), (kernelRun0_A.sl.v1153 c arg1 harg1 arg2 harg2 arg11 harg11 x0 x1 x10), (kernelRun0_A.sl.v1216 c arg1 harg1 arg2 harg2 arg11 harg11 x0 x1 x10), (kernelRun0_A.sl.v1220 c arg1 harg1 arg2 harg2 arg11 harg11 x0 x1 x10), (kernelRun0_A.sl.v1283 c arg1 harg1 arg2 harg2 arg11 harg11 x0 x1 x10), (kernelRun0_A.sl.v1287 c arg1 harg1 arg2 harg2 arg11 harg11 x0 x1 x10), (kernelRun0_A.sl.v1350 c arg1 harg1 arg2 harg2 arg11 harg11 x0 x1 x10), (kernelRun0_A.sl.v1354 c arg1 harg1 arg2 harg2 arg11 harg11 x0 x1 x10), (kernelRun0_A.sl.v1384 c arg1 harg1 arg2 harg2 arg11 harg11 x0 x1 x10)] := rfl

/-- Mask of pool 14. -/
theorem mk_14_A :
    (kernelRun0_A.sl.v191 c arg12 harg12 x11) = mask14 (maskAt arg12 harg12 x11) := rfl

/-- Numerator of pool 14. -/
theorem n_14_A :
    (kernelRun0_A.sl.r_93 c arg1 harg1 arg2 harg2 arg11 harg11 arg12 harg12 arg13 harg13 x0 x1 x10 x11 x12) = pool14 (chAt arg11 harg11 x10) (maskAt arg12 harg12 x11) (wAt arg1 harg1 x0) (bAt arg2 harg2 x1) (pred14 arg13 harg13 x12) := by
  unfold pool14 errV
  dsimp only
  rw [← e_14_0_A (c := c), ← e_14_1_A (c := c), ← hv_14_2_A (c := c), ← mk_14_A (c := c)]
  unfold chanErr
  rw [← i_14_2_A (c := c)]
  rfl

/-- Horizontal gradient of pool 28, channel 0. -/
theorem g0_28_0_A :
    (kernelRun0_A.sl.v1545 c arg11 harg11 x10) = (sub28 (grad0 (chAt arg11 harg11 x10 0))) := rfl

/-- Vertical gradient of pool 28, channel 0. -/
theorem g1_28_0_A :
    (kernelRun0_A.sl.v1547 c arg11 harg11 x10) = (sub28 (grad1 (chAt arg11 harg11 x10 0))) := rfl

/-- Projection 0 of pool 28, channel 0. -/
theorem h0_28_0_A :
    (kernelRun0_A.sl.v1650 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 0 := rfl

/-- Projection 1 of pool 28, channel 0. -/
theorem h1_28_0_A :
    (kernelRun0_A.sl.v1654 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 1 := rfl

/-- Projection 2 of pool 28, channel 0. -/
theorem h2_28_0_A :
    (kernelRun0_A.sl.v1717 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 2 := rfl

/-- Projection 3 of pool 28, channel 0. -/
theorem h3_28_0_A :
    (kernelRun0_A.sl.v1721 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 3 := rfl

/-- Projection 4 of pool 28, channel 0. -/
theorem h4_28_0_A :
    (kernelRun0_A.sl.v1784 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 4 := rfl

/-- Projection 5 of pool 28, channel 0. -/
theorem h5_28_0_A :
    (kernelRun0_A.sl.v1788 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 5 := rfl

/-- Projection 6 of pool 28, channel 0. -/
theorem h6_28_0_A :
    (kernelRun0_A.sl.v1851 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 6 := rfl

/-- Projection 7 of pool 28, channel 0. -/
theorem h7_28_0_A :
    (kernelRun0_A.sl.v1855 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 7 := rfl

/-- Projection 8 of pool 28, channel 0. -/
theorem h8_28_0_A :
    (kernelRun0_A.sl.v1885 c arg3 harg3 arg4 harg4 arg11 harg11 x2 x3 x10) = hogs (kernelRun0_A.sl.v1545 c arg11 harg11 x10) (kernelRun0_A.sl.v1547 c arg11 harg11 x10) (wAt arg3 harg3 x2) (bAt arg4 harg4 x3) 8 := rfl

/-- All nine projections of pool 28, channel 0. -/
theorem hv_28_0_A :
    ![(kernelRun0_A.sl.v1650 c arg3 harg3 arg4 harg4 arg11 harg11 x2 x3 x10), (kernelRun0_A.sl.v1654 c arg3 harg3 arg4 harg4 arg11 harg11 x2 x3 x10), (kernelRun0_A.sl.v1717 c arg3 harg3 arg4 harg4 arg11 harg11 x2 x3 x10), (kernelRun0_A.sl.v1721 c arg3 harg3 arg4 harg4 arg11 harg11 x2 x3 x10), (kernelRun0_A.sl.v1784 c arg3 harg3 arg4 harg4 arg11 harg11 x2 x3 x10), (kernelRun0_A.sl.v1788 c arg3 harg3 arg4 harg4 arg11 harg11 x2 x3 x10), (kernelRun0_A.sl.v1851 c arg3 harg3 arg4 harg4 arg11 harg11 x2 x3 x10), (kernelRun0_A.sl.v1855 c arg3 harg3 arg4 harg4 arg11 harg11 x2 x3 x10), (kernelRun0_A.sl.v1885 c arg3 harg3 arg4 harg4 arg11 harg11 x2 x3 x10)] = (hogs (sub28 (grad0 (chAt arg11 harg11 x10 0))) (sub28 (grad1 (chAt arg11 harg11 x10 0))) (wAt arg3 harg3 x2) (bAt arg4 harg4 x3)) := by
  funext o
  fin_cases o
  · exact (h0_28_0_A ..).trans (by rw [g0_28_0_A, g1_28_0_A] <;> rfl)
  · exact (h1_28_0_A ..).trans (by rw [g0_28_0_A, g1_28_0_A] <;> rfl)
  · exact (h2_28_0_A ..).trans (by rw [g0_28_0_A, g1_28_0_A] <;> rfl)
  · exact (h3_28_0_A ..).trans (by rw [g0_28_0_A, g1_28_0_A] <;> rfl)
  · exact (h4_28_0_A ..).trans (by rw [g0_28_0_A, g1_28_0_A] <;> rfl)
  · exact (h5_28_0_A ..).trans (by rw [g0_28_0_A, g1_28_0_A] <;> rfl)
  · exact (h6_28_0_A ..).trans (by rw [g0_28_0_A, g1_28_0_A] <;> rfl)
  · exact (h7_28_0_A ..).trans (by rw [g0_28_0_A, g1_28_0_A] <;> rfl)
  · exact (h8_28_0_A ..).trans (by rw [g0_28_0_A, g1_28_0_A] <;> rfl)

/-- Norm factor of pool 28, channel 0. -/
theorem i_28_0_A :
    (kernelRun0_A.sl.v1907 c arg3 harg3 arg4 harg4 arg11 harg11 x2 x3 x10) = invNorm ![(kernelRun0_A.sl.v1650 c arg3 harg3 arg4 harg4 arg11 harg11 x2 x3 x10), (kernelRun0_A.sl.v1654 c arg3 harg3 arg4 harg4 arg11 harg11 x2 x3 x10), (kernelRun0_A.sl.v1717 c arg3 harg3 arg4 harg4 arg11 harg11 x2 x3 x10), (kernelRun0_A.sl.v1721 c arg3 harg3 arg4 harg4 arg11 harg11 x2 x3 x10), (kernelRun0_A.sl.v1784 c arg3 harg3 arg4 harg4 arg11 harg11 x2 x3 x10), (kernelRun0_A.sl.v1788 c arg3 harg3 arg4 harg4 arg11 harg11 x2 x3 x10), (kernelRun0_A.sl.v1851 c arg3 harg3 arg4 harg4 arg11 harg11 x2 x3 x10), (kernelRun0_A.sl.v1855 c arg3 harg3 arg4 harg4 arg11 harg11 x2 x3 x10), (kernelRun0_A.sl.v1885 c arg3 harg3 arg4 harg4 arg11 harg11 x2 x3 x10)] := rfl

/-- Error so far of pool 28, channel 0. -/
theorem e_28_0_A :
    (kernelRun0_A.sl.v1961 c arg3 harg3 arg4 harg4 arg11 harg11 arg14 harg14 x2 x3 x10 x13) = chanErr (zeros S28x28) (hogs (sub28 (grad0 (chAt arg11 harg11 x10 0))) (sub28 (grad1 (chAt arg11 harg11 x10 0))) (wAt arg3 harg3 x2) (bAt arg4 harg4 x3)) (pred28 arg14 harg14 x13 0) := by
  rw [← hv_28_0_A (c := c)]
  unfold chanErr
  rw [← i_28_0_A (c := c)]
  rfl

/-- Horizontal gradient of pool 28, channel 1. -/
theorem g0_28_1_A :
    (kernelRun0_A.sl.v1963 c arg11 harg11 x10) = (sub28 (grad0 (chAt arg11 harg11 x10 1))) := rfl

/-- Vertical gradient of pool 28, channel 1. -/
theorem g1_28_1_A :
    (kernelRun0_A.sl.v1965 c arg11 harg11 x10) = (sub28 (grad1 (chAt arg11 harg11 x10 1))) := rfl

/-- Projection 0 of pool 28, channel 1. -/
theorem h0_28_1_A :
    (kernelRun0_A.sl.v2068 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 0 := rfl

/-- Projection 1 of pool 28, channel 1. -/
theorem h1_28_1_A :
    (kernelRun0_A.sl.v2072 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 1 := rfl

/-- Projection 2 of pool 28, channel 1. -/
theorem h2_28_1_A :
    (kernelRun0_A.sl.v2135 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 2 := rfl

/-- Projection 3 of pool 28, channel 1. -/
theorem h3_28_1_A :
    (kernelRun0_A.sl.v2139 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 3 := rfl

/-- Projection 4 of pool 28, channel 1. -/
theorem h4_28_1_A :
    (kernelRun0_A.sl.v2202 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 4 := rfl

/-- Projection 5 of pool 28, channel 1. -/
theorem h5_28_1_A :
    (kernelRun0_A.sl.v2206 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 5 := rfl

/-- Projection 6 of pool 28, channel 1. -/
theorem h6_28_1_A :
    (kernelRun0_A.sl.v2269 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 6 := rfl

/-- Projection 7 of pool 28, channel 1. -/
theorem h7_28_1_A :
    (kernelRun0_A.sl.v2273 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 7 := rfl

/-- Projection 8 of pool 28, channel 1. -/
theorem h8_28_1_A :
    (kernelRun0_A.sl.v2303 c arg3 harg3 arg4 harg4 arg11 harg11 x2 x3 x10) = hogs (kernelRun0_A.sl.v1963 c arg11 harg11 x10) (kernelRun0_A.sl.v1965 c arg11 harg11 x10) (wAt arg3 harg3 x2) (bAt arg4 harg4 x3) 8 := rfl

/-- All nine projections of pool 28, channel 1. -/
theorem hv_28_1_A :
    ![(kernelRun0_A.sl.v2068 c arg3 harg3 arg4 harg4 arg11 harg11 x2 x3 x10), (kernelRun0_A.sl.v2072 c arg3 harg3 arg4 harg4 arg11 harg11 x2 x3 x10), (kernelRun0_A.sl.v2135 c arg3 harg3 arg4 harg4 arg11 harg11 x2 x3 x10), (kernelRun0_A.sl.v2139 c arg3 harg3 arg4 harg4 arg11 harg11 x2 x3 x10), (kernelRun0_A.sl.v2202 c arg3 harg3 arg4 harg4 arg11 harg11 x2 x3 x10), (kernelRun0_A.sl.v2206 c arg3 harg3 arg4 harg4 arg11 harg11 x2 x3 x10), (kernelRun0_A.sl.v2269 c arg3 harg3 arg4 harg4 arg11 harg11 x2 x3 x10), (kernelRun0_A.sl.v2273 c arg3 harg3 arg4 harg4 arg11 harg11 x2 x3 x10), (kernelRun0_A.sl.v2303 c arg3 harg3 arg4 harg4 arg11 harg11 x2 x3 x10)] = (hogs (sub28 (grad0 (chAt arg11 harg11 x10 1))) (sub28 (grad1 (chAt arg11 harg11 x10 1))) (wAt arg3 harg3 x2) (bAt arg4 harg4 x3)) := by
  funext o
  fin_cases o
  · exact (h0_28_1_A ..).trans (by rw [g0_28_1_A, g1_28_1_A] <;> rfl)
  · exact (h1_28_1_A ..).trans (by rw [g0_28_1_A, g1_28_1_A] <;> rfl)
  · exact (h2_28_1_A ..).trans (by rw [g0_28_1_A, g1_28_1_A] <;> rfl)
  · exact (h3_28_1_A ..).trans (by rw [g0_28_1_A, g1_28_1_A] <;> rfl)
  · exact (h4_28_1_A ..).trans (by rw [g0_28_1_A, g1_28_1_A] <;> rfl)
  · exact (h5_28_1_A ..).trans (by rw [g0_28_1_A, g1_28_1_A] <;> rfl)
  · exact (h6_28_1_A ..).trans (by rw [g0_28_1_A, g1_28_1_A] <;> rfl)
  · exact (h7_28_1_A ..).trans (by rw [g0_28_1_A, g1_28_1_A] <;> rfl)
  · exact (h8_28_1_A ..).trans (by rw [g0_28_1_A, g1_28_1_A] <;> rfl)

/-- Norm factor of pool 28, channel 1. -/
theorem i_28_1_A :
    (kernelRun0_A.sl.v2325 c arg3 harg3 arg4 harg4 arg11 harg11 x2 x3 x10) = invNorm ![(kernelRun0_A.sl.v2068 c arg3 harg3 arg4 harg4 arg11 harg11 x2 x3 x10), (kernelRun0_A.sl.v2072 c arg3 harg3 arg4 harg4 arg11 harg11 x2 x3 x10), (kernelRun0_A.sl.v2135 c arg3 harg3 arg4 harg4 arg11 harg11 x2 x3 x10), (kernelRun0_A.sl.v2139 c arg3 harg3 arg4 harg4 arg11 harg11 x2 x3 x10), (kernelRun0_A.sl.v2202 c arg3 harg3 arg4 harg4 arg11 harg11 x2 x3 x10), (kernelRun0_A.sl.v2206 c arg3 harg3 arg4 harg4 arg11 harg11 x2 x3 x10), (kernelRun0_A.sl.v2269 c arg3 harg3 arg4 harg4 arg11 harg11 x2 x3 x10), (kernelRun0_A.sl.v2273 c arg3 harg3 arg4 harg4 arg11 harg11 x2 x3 x10), (kernelRun0_A.sl.v2303 c arg3 harg3 arg4 harg4 arg11 harg11 x2 x3 x10)] := rfl

/-- Error so far of pool 28, channel 1. -/
theorem e_28_1_A :
    (kernelRun0_A.sl.v2379 c arg3 harg3 arg4 harg4 arg11 harg11 arg14 harg14 x2 x3 x10 x13) = chanErr (kernelRun0_A.sl.v1961 c arg3 harg3 arg4 harg4 arg11 harg11 arg14 harg14 x2 x3 x10 x13) (hogs (sub28 (grad0 (chAt arg11 harg11 x10 1))) (sub28 (grad1 (chAt arg11 harg11 x10 1))) (wAt arg3 harg3 x2) (bAt arg4 harg4 x3)) (pred28 arg14 harg14 x13 1) := by
  rw [← hv_28_1_A (c := c)]
  unfold chanErr
  rw [← i_28_1_A (c := c)]
  rfl

/-- Horizontal gradient of pool 28, channel 2. -/
theorem g0_28_2_A :
    (kernelRun0_A.sl.v2381 c arg11 harg11 x10) = (sub28 (grad0 (chAt arg11 harg11 x10 2))) := rfl

/-- Vertical gradient of pool 28, channel 2. -/
theorem g1_28_2_A :
    (kernelRun0_A.sl.v2383 c arg11 harg11 x10) = (sub28 (grad1 (chAt arg11 harg11 x10 2))) := rfl

/-- Projection 0 of pool 28, channel 2. -/
theorem h0_28_2_A :
    (kernelRun0_A.sl.v2486 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 0 := rfl

/-- Projection 1 of pool 28, channel 2. -/
theorem h1_28_2_A :
    (kernelRun0_A.sl.v2490 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 1 := rfl

/-- Projection 2 of pool 28, channel 2. -/
theorem h2_28_2_A :
    (kernelRun0_A.sl.v2553 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 2 := rfl

/-- Projection 3 of pool 28, channel 2. -/
theorem h3_28_2_A :
    (kernelRun0_A.sl.v2557 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 3 := rfl

/-- Projection 4 of pool 28, channel 2. -/
theorem h4_28_2_A :
    (kernelRun0_A.sl.v2620 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 4 := rfl

/-- Projection 5 of pool 28, channel 2. -/
theorem h5_28_2_A :
    (kernelRun0_A.sl.v2624 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 5 := rfl

/-- Projection 6 of pool 28, channel 2. -/
theorem h6_28_2_A :
    (kernelRun0_A.sl.v2687 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 6 := rfl

/-- Projection 7 of pool 28, channel 2. -/
theorem h7_28_2_A :
    (kernelRun0_A.sl.v2691 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 7 := rfl

/-- Projection 8 of pool 28, channel 2. -/
theorem h8_28_2_A :
    (kernelRun0_A.sl.v2721 c arg3 harg3 arg4 harg4 arg11 harg11 x2 x3 x10) = hogs (kernelRun0_A.sl.v2381 c arg11 harg11 x10) (kernelRun0_A.sl.v2383 c arg11 harg11 x10) (wAt arg3 harg3 x2) (bAt arg4 harg4 x3) 8 := rfl

/-- All nine projections of pool 28, channel 2. -/
theorem hv_28_2_A :
    ![(kernelRun0_A.sl.v2486 c arg3 harg3 arg4 harg4 arg11 harg11 x2 x3 x10), (kernelRun0_A.sl.v2490 c arg3 harg3 arg4 harg4 arg11 harg11 x2 x3 x10), (kernelRun0_A.sl.v2553 c arg3 harg3 arg4 harg4 arg11 harg11 x2 x3 x10), (kernelRun0_A.sl.v2557 c arg3 harg3 arg4 harg4 arg11 harg11 x2 x3 x10), (kernelRun0_A.sl.v2620 c arg3 harg3 arg4 harg4 arg11 harg11 x2 x3 x10), (kernelRun0_A.sl.v2624 c arg3 harg3 arg4 harg4 arg11 harg11 x2 x3 x10), (kernelRun0_A.sl.v2687 c arg3 harg3 arg4 harg4 arg11 harg11 x2 x3 x10), (kernelRun0_A.sl.v2691 c arg3 harg3 arg4 harg4 arg11 harg11 x2 x3 x10), (kernelRun0_A.sl.v2721 c arg3 harg3 arg4 harg4 arg11 harg11 x2 x3 x10)] = (hogs (sub28 (grad0 (chAt arg11 harg11 x10 2))) (sub28 (grad1 (chAt arg11 harg11 x10 2))) (wAt arg3 harg3 x2) (bAt arg4 harg4 x3)) := by
  funext o
  fin_cases o
  · exact (h0_28_2_A ..).trans (by rw [g0_28_2_A, g1_28_2_A] <;> rfl)
  · exact (h1_28_2_A ..).trans (by rw [g0_28_2_A, g1_28_2_A] <;> rfl)
  · exact (h2_28_2_A ..).trans (by rw [g0_28_2_A, g1_28_2_A] <;> rfl)
  · exact (h3_28_2_A ..).trans (by rw [g0_28_2_A, g1_28_2_A] <;> rfl)
  · exact (h4_28_2_A ..).trans (by rw [g0_28_2_A, g1_28_2_A] <;> rfl)
  · exact (h5_28_2_A ..).trans (by rw [g0_28_2_A, g1_28_2_A] <;> rfl)
  · exact (h6_28_2_A ..).trans (by rw [g0_28_2_A, g1_28_2_A] <;> rfl)
  · exact (h7_28_2_A ..).trans (by rw [g0_28_2_A, g1_28_2_A] <;> rfl)
  · exact (h8_28_2_A ..).trans (by rw [g0_28_2_A, g1_28_2_A] <;> rfl)

/-- Norm factor of pool 28, channel 2. -/
theorem i_28_2_A :
    (kernelRun0_A.sl.v2743 c arg3 harg3 arg4 harg4 arg11 harg11 x2 x3 x10) = invNorm ![(kernelRun0_A.sl.v2486 c arg3 harg3 arg4 harg4 arg11 harg11 x2 x3 x10), (kernelRun0_A.sl.v2490 c arg3 harg3 arg4 harg4 arg11 harg11 x2 x3 x10), (kernelRun0_A.sl.v2553 c arg3 harg3 arg4 harg4 arg11 harg11 x2 x3 x10), (kernelRun0_A.sl.v2557 c arg3 harg3 arg4 harg4 arg11 harg11 x2 x3 x10), (kernelRun0_A.sl.v2620 c arg3 harg3 arg4 harg4 arg11 harg11 x2 x3 x10), (kernelRun0_A.sl.v2624 c arg3 harg3 arg4 harg4 arg11 harg11 x2 x3 x10), (kernelRun0_A.sl.v2687 c arg3 harg3 arg4 harg4 arg11 harg11 x2 x3 x10), (kernelRun0_A.sl.v2691 c arg3 harg3 arg4 harg4 arg11 harg11 x2 x3 x10), (kernelRun0_A.sl.v2721 c arg3 harg3 arg4 harg4 arg11 harg11 x2 x3 x10)] := rfl

/-- Mask of pool 28. -/
theorem mk_28_A :
    (kernelRun0_A.sl.v1528 c arg12 harg12 x11) = mask28 (maskAt arg12 harg12 x11) := rfl

/-- Numerator of pool 28. -/
theorem n_28_A :
    (kernelRun0_A.sl.r_184 c arg3 harg3 arg4 harg4 arg11 harg11 arg12 harg12 arg14 harg14 x2 x3 x10 x11 x13) = pool28 (chAt arg11 harg11 x10) (maskAt arg12 harg12 x11) (wAt arg3 harg3 x2) (bAt arg4 harg4 x3) (pred28 arg14 harg14 x13) := by
  unfold pool28 errV
  dsimp only
  rw [← e_28_0_A (c := c), ← e_28_1_A (c := c), ← hv_28_2_A (c := c), ← mk_28_A (c := c)]
  unfold chanErr
  rw [← i_28_2_A (c := c)]
  rfl

/-- Horizontal gradient of pool 56, channel 0. -/
theorem g0_56_0_A :
    (kernelRun0_A.sl.v2882 c arg11 harg11 x10) = (sub56 (grad0 (chAt arg11 harg11 x10 0))) := rfl

/-- Vertical gradient of pool 56, channel 0. -/
theorem g1_56_0_A :
    (kernelRun0_A.sl.v2884 c arg11 harg11 x10) = (sub56 (grad1 (chAt arg11 harg11 x10 0))) := rfl

/-- Projection 0 of pool 56, channel 0. -/
theorem h0_56_0_A :
    (kernelRun0_A.sl.v2987 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 0 := rfl

/-- Projection 1 of pool 56, channel 0. -/
theorem h1_56_0_A :
    (kernelRun0_A.sl.v2991 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 1 := rfl

/-- Projection 2 of pool 56, channel 0. -/
theorem h2_56_0_A :
    (kernelRun0_A.sl.v3054 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 2 := rfl

/-- Projection 3 of pool 56, channel 0. -/
theorem h3_56_0_A :
    (kernelRun0_A.sl.v3058 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 3 := rfl

/-- Projection 4 of pool 56, channel 0. -/
theorem h4_56_0_A :
    (kernelRun0_A.sl.v3121 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 4 := rfl

/-- Projection 5 of pool 56, channel 0. -/
theorem h5_56_0_A :
    (kernelRun0_A.sl.v3125 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 5 := rfl

/-- Projection 6 of pool 56, channel 0. -/
theorem h6_56_0_A :
    (kernelRun0_A.sl.v3188 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 6 := rfl

/-- Projection 7 of pool 56, channel 0. -/
theorem h7_56_0_A :
    (kernelRun0_A.sl.v3192 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 7 := rfl

/-- Projection 8 of pool 56, channel 0. -/
theorem h8_56_0_A :
    (kernelRun0_A.sl.v3222 c arg5 harg5 arg6 harg6 arg11 harg11 x4 x5 x10) = hogs (kernelRun0_A.sl.v2882 c arg11 harg11 x10) (kernelRun0_A.sl.v2884 c arg11 harg11 x10) (wAt arg5 harg5 x4) (bAt arg6 harg6 x5) 8 := rfl

/-- All nine projections of pool 56, channel 0. -/
theorem hv_56_0_A :
    ![(kernelRun0_A.sl.v2987 c arg5 harg5 arg6 harg6 arg11 harg11 x4 x5 x10), (kernelRun0_A.sl.v2991 c arg5 harg5 arg6 harg6 arg11 harg11 x4 x5 x10), (kernelRun0_A.sl.v3054 c arg5 harg5 arg6 harg6 arg11 harg11 x4 x5 x10), (kernelRun0_A.sl.v3058 c arg5 harg5 arg6 harg6 arg11 harg11 x4 x5 x10), (kernelRun0_A.sl.v3121 c arg5 harg5 arg6 harg6 arg11 harg11 x4 x5 x10), (kernelRun0_A.sl.v3125 c arg5 harg5 arg6 harg6 arg11 harg11 x4 x5 x10), (kernelRun0_A.sl.v3188 c arg5 harg5 arg6 harg6 arg11 harg11 x4 x5 x10), (kernelRun0_A.sl.v3192 c arg5 harg5 arg6 harg6 arg11 harg11 x4 x5 x10), (kernelRun0_A.sl.v3222 c arg5 harg5 arg6 harg6 arg11 harg11 x4 x5 x10)] = (hogs (sub56 (grad0 (chAt arg11 harg11 x10 0))) (sub56 (grad1 (chAt arg11 harg11 x10 0))) (wAt arg5 harg5 x4) (bAt arg6 harg6 x5)) := by
  funext o
  fin_cases o
  · exact (h0_56_0_A ..).trans (by rw [g0_56_0_A, g1_56_0_A] <;> rfl)
  · exact (h1_56_0_A ..).trans (by rw [g0_56_0_A, g1_56_0_A] <;> rfl)
  · exact (h2_56_0_A ..).trans (by rw [g0_56_0_A, g1_56_0_A] <;> rfl)
  · exact (h3_56_0_A ..).trans (by rw [g0_56_0_A, g1_56_0_A] <;> rfl)
  · exact (h4_56_0_A ..).trans (by rw [g0_56_0_A, g1_56_0_A] <;> rfl)
  · exact (h5_56_0_A ..).trans (by rw [g0_56_0_A, g1_56_0_A] <;> rfl)
  · exact (h6_56_0_A ..).trans (by rw [g0_56_0_A, g1_56_0_A] <;> rfl)
  · exact (h7_56_0_A ..).trans (by rw [g0_56_0_A, g1_56_0_A] <;> rfl)
  · exact (h8_56_0_A ..).trans (by rw [g0_56_0_A, g1_56_0_A] <;> rfl)

/-- Norm factor of pool 56, channel 0. -/
theorem i_56_0_A :
    (kernelRun0_A.sl.v3244 c arg5 harg5 arg6 harg6 arg11 harg11 x4 x5 x10) = invNorm ![(kernelRun0_A.sl.v2987 c arg5 harg5 arg6 harg6 arg11 harg11 x4 x5 x10), (kernelRun0_A.sl.v2991 c arg5 harg5 arg6 harg6 arg11 harg11 x4 x5 x10), (kernelRun0_A.sl.v3054 c arg5 harg5 arg6 harg6 arg11 harg11 x4 x5 x10), (kernelRun0_A.sl.v3058 c arg5 harg5 arg6 harg6 arg11 harg11 x4 x5 x10), (kernelRun0_A.sl.v3121 c arg5 harg5 arg6 harg6 arg11 harg11 x4 x5 x10), (kernelRun0_A.sl.v3125 c arg5 harg5 arg6 harg6 arg11 harg11 x4 x5 x10), (kernelRun0_A.sl.v3188 c arg5 harg5 arg6 harg6 arg11 harg11 x4 x5 x10), (kernelRun0_A.sl.v3192 c arg5 harg5 arg6 harg6 arg11 harg11 x4 x5 x10), (kernelRun0_A.sl.v3222 c arg5 harg5 arg6 harg6 arg11 harg11 x4 x5 x10)] := rfl

/-- Error so far of pool 56, channel 0. -/
theorem e_56_0_A :
    (kernelRun0_A.sl.v3298 c arg5 harg5 arg6 harg6 arg11 harg11 arg15 harg15 x4 x5 x10 x14) = chanErr (zeros S56x56) (hogs (sub56 (grad0 (chAt arg11 harg11 x10 0))) (sub56 (grad1 (chAt arg11 harg11 x10 0))) (wAt arg5 harg5 x4) (bAt arg6 harg6 x5)) (pred56 arg15 harg15 x14 0) := by
  rw [← hv_56_0_A (c := c)]
  unfold chanErr
  rw [← i_56_0_A (c := c)]
  rfl

/-- Horizontal gradient of pool 56, channel 1. -/
theorem g0_56_1_A :
    (kernelRun0_A.sl.v3300 c arg11 harg11 x10) = (sub56 (grad0 (chAt arg11 harg11 x10 1))) := rfl

/-- Vertical gradient of pool 56, channel 1. -/
theorem g1_56_1_A :
    (kernelRun0_A.sl.v3302 c arg11 harg11 x10) = (sub56 (grad1 (chAt arg11 harg11 x10 1))) := rfl

/-- Projection 0 of pool 56, channel 1. -/
theorem h0_56_1_A :
    (kernelRun0_A.sl.v3405 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 0 := rfl

/-- Projection 1 of pool 56, channel 1. -/
theorem h1_56_1_A :
    (kernelRun0_A.sl.v3409 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 1 := rfl

/-- Projection 2 of pool 56, channel 1. -/
theorem h2_56_1_A :
    (kernelRun0_A.sl.v3472 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 2 := rfl

/-- Projection 3 of pool 56, channel 1. -/
theorem h3_56_1_A :
    (kernelRun0_A.sl.v3476 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 3 := rfl

/-- Projection 4 of pool 56, channel 1. -/
theorem h4_56_1_A :
    (kernelRun0_A.sl.v3539 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 4 := rfl

/-- Projection 5 of pool 56, channel 1. -/
theorem h5_56_1_A :
    (kernelRun0_A.sl.v3543 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 5 := rfl

/-- Projection 6 of pool 56, channel 1. -/
theorem h6_56_1_A :
    (kernelRun0_A.sl.v3606 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 6 := rfl

/-- Projection 7 of pool 56, channel 1. -/
theorem h7_56_1_A :
    (kernelRun0_A.sl.v3610 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 7 := rfl

/-- Projection 8 of pool 56, channel 1. -/
theorem h8_56_1_A :
    (kernelRun0_A.sl.v3640 c arg5 harg5 arg6 harg6 arg11 harg11 x4 x5 x10) = hogs (kernelRun0_A.sl.v3300 c arg11 harg11 x10) (kernelRun0_A.sl.v3302 c arg11 harg11 x10) (wAt arg5 harg5 x4) (bAt arg6 harg6 x5) 8 := rfl

/-- All nine projections of pool 56, channel 1. -/
theorem hv_56_1_A :
    ![(kernelRun0_A.sl.v3405 c arg5 harg5 arg6 harg6 arg11 harg11 x4 x5 x10), (kernelRun0_A.sl.v3409 c arg5 harg5 arg6 harg6 arg11 harg11 x4 x5 x10), (kernelRun0_A.sl.v3472 c arg5 harg5 arg6 harg6 arg11 harg11 x4 x5 x10), (kernelRun0_A.sl.v3476 c arg5 harg5 arg6 harg6 arg11 harg11 x4 x5 x10), (kernelRun0_A.sl.v3539 c arg5 harg5 arg6 harg6 arg11 harg11 x4 x5 x10), (kernelRun0_A.sl.v3543 c arg5 harg5 arg6 harg6 arg11 harg11 x4 x5 x10), (kernelRun0_A.sl.v3606 c arg5 harg5 arg6 harg6 arg11 harg11 x4 x5 x10), (kernelRun0_A.sl.v3610 c arg5 harg5 arg6 harg6 arg11 harg11 x4 x5 x10), (kernelRun0_A.sl.v3640 c arg5 harg5 arg6 harg6 arg11 harg11 x4 x5 x10)] = (hogs (sub56 (grad0 (chAt arg11 harg11 x10 1))) (sub56 (grad1 (chAt arg11 harg11 x10 1))) (wAt arg5 harg5 x4) (bAt arg6 harg6 x5)) := by
  funext o
  fin_cases o
  · exact (h0_56_1_A ..).trans (by rw [g0_56_1_A, g1_56_1_A] <;> rfl)
  · exact (h1_56_1_A ..).trans (by rw [g0_56_1_A, g1_56_1_A] <;> rfl)
  · exact (h2_56_1_A ..).trans (by rw [g0_56_1_A, g1_56_1_A] <;> rfl)
  · exact (h3_56_1_A ..).trans (by rw [g0_56_1_A, g1_56_1_A] <;> rfl)
  · exact (h4_56_1_A ..).trans (by rw [g0_56_1_A, g1_56_1_A] <;> rfl)
  · exact (h5_56_1_A ..).trans (by rw [g0_56_1_A, g1_56_1_A] <;> rfl)
  · exact (h6_56_1_A ..).trans (by rw [g0_56_1_A, g1_56_1_A] <;> rfl)
  · exact (h7_56_1_A ..).trans (by rw [g0_56_1_A, g1_56_1_A] <;> rfl)
  · exact (h8_56_1_A ..).trans (by rw [g0_56_1_A, g1_56_1_A] <;> rfl)

/-- Norm factor of pool 56, channel 1. -/
theorem i_56_1_A :
    (kernelRun0_A.sl.v3662 c arg5 harg5 arg6 harg6 arg11 harg11 x4 x5 x10) = invNorm ![(kernelRun0_A.sl.v3405 c arg5 harg5 arg6 harg6 arg11 harg11 x4 x5 x10), (kernelRun0_A.sl.v3409 c arg5 harg5 arg6 harg6 arg11 harg11 x4 x5 x10), (kernelRun0_A.sl.v3472 c arg5 harg5 arg6 harg6 arg11 harg11 x4 x5 x10), (kernelRun0_A.sl.v3476 c arg5 harg5 arg6 harg6 arg11 harg11 x4 x5 x10), (kernelRun0_A.sl.v3539 c arg5 harg5 arg6 harg6 arg11 harg11 x4 x5 x10), (kernelRun0_A.sl.v3543 c arg5 harg5 arg6 harg6 arg11 harg11 x4 x5 x10), (kernelRun0_A.sl.v3606 c arg5 harg5 arg6 harg6 arg11 harg11 x4 x5 x10), (kernelRun0_A.sl.v3610 c arg5 harg5 arg6 harg6 arg11 harg11 x4 x5 x10), (kernelRun0_A.sl.v3640 c arg5 harg5 arg6 harg6 arg11 harg11 x4 x5 x10)] := rfl

/-- Error so far of pool 56, channel 1. -/
theorem e_56_1_A :
    (kernelRun0_A.sl.v3716 c arg5 harg5 arg6 harg6 arg11 harg11 arg15 harg15 x4 x5 x10 x14) = chanErr (kernelRun0_A.sl.v3298 c arg5 harg5 arg6 harg6 arg11 harg11 arg15 harg15 x4 x5 x10 x14) (hogs (sub56 (grad0 (chAt arg11 harg11 x10 1))) (sub56 (grad1 (chAt arg11 harg11 x10 1))) (wAt arg5 harg5 x4) (bAt arg6 harg6 x5)) (pred56 arg15 harg15 x14 1) := by
  rw [← hv_56_1_A (c := c)]
  unfold chanErr
  rw [← i_56_1_A (c := c)]
  rfl

/-- Horizontal gradient of pool 56, channel 2. -/
theorem g0_56_2_A :
    (kernelRun0_A.sl.v3718 c arg11 harg11 x10) = (sub56 (grad0 (chAt arg11 harg11 x10 2))) := rfl

/-- Vertical gradient of pool 56, channel 2. -/
theorem g1_56_2_A :
    (kernelRun0_A.sl.v3720 c arg11 harg11 x10) = (sub56 (grad1 (chAt arg11 harg11 x10 2))) := rfl

/-- Projection 0 of pool 56, channel 2. -/
theorem h0_56_2_A :
    (kernelRun0_A.sl.v3823 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 0 := rfl

/-- Projection 1 of pool 56, channel 2. -/
theorem h1_56_2_A :
    (kernelRun0_A.sl.v3827 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 1 := rfl

/-- Projection 2 of pool 56, channel 2. -/
theorem h2_56_2_A :
    (kernelRun0_A.sl.v3890 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 2 := rfl

/-- Projection 3 of pool 56, channel 2. -/
theorem h3_56_2_A :
    (kernelRun0_A.sl.v3894 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 3 := rfl

/-- Projection 4 of pool 56, channel 2. -/
theorem h4_56_2_A :
    (kernelRun0_A.sl.v3957 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 4 := rfl

/-- Projection 5 of pool 56, channel 2. -/
theorem h5_56_2_A :
    (kernelRun0_A.sl.v3961 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 5 := rfl

/-- Projection 6 of pool 56, channel 2. -/
theorem h6_56_2_A :
    (kernelRun0_A.sl.v4024 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 6 := rfl

/-- Projection 7 of pool 56, channel 2. -/
theorem h7_56_2_A :
    (kernelRun0_A.sl.v4028 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 7 := rfl

/-- Projection 8 of pool 56, channel 2. -/
theorem h8_56_2_A :
    (kernelRun0_A.sl.v4058 c arg5 harg5 arg6 harg6 arg11 harg11 x4 x5 x10) = hogs (kernelRun0_A.sl.v3718 c arg11 harg11 x10) (kernelRun0_A.sl.v3720 c arg11 harg11 x10) (wAt arg5 harg5 x4) (bAt arg6 harg6 x5) 8 := rfl

/-- All nine projections of pool 56, channel 2. -/
theorem hv_56_2_A :
    ![(kernelRun0_A.sl.v3823 c arg5 harg5 arg6 harg6 arg11 harg11 x4 x5 x10), (kernelRun0_A.sl.v3827 c arg5 harg5 arg6 harg6 arg11 harg11 x4 x5 x10), (kernelRun0_A.sl.v3890 c arg5 harg5 arg6 harg6 arg11 harg11 x4 x5 x10), (kernelRun0_A.sl.v3894 c arg5 harg5 arg6 harg6 arg11 harg11 x4 x5 x10), (kernelRun0_A.sl.v3957 c arg5 harg5 arg6 harg6 arg11 harg11 x4 x5 x10), (kernelRun0_A.sl.v3961 c arg5 harg5 arg6 harg6 arg11 harg11 x4 x5 x10), (kernelRun0_A.sl.v4024 c arg5 harg5 arg6 harg6 arg11 harg11 x4 x5 x10), (kernelRun0_A.sl.v4028 c arg5 harg5 arg6 harg6 arg11 harg11 x4 x5 x10), (kernelRun0_A.sl.v4058 c arg5 harg5 arg6 harg6 arg11 harg11 x4 x5 x10)] = (hogs (sub56 (grad0 (chAt arg11 harg11 x10 2))) (sub56 (grad1 (chAt arg11 harg11 x10 2))) (wAt arg5 harg5 x4) (bAt arg6 harg6 x5)) := by
  funext o
  fin_cases o
  · exact (h0_56_2_A ..).trans (by rw [g0_56_2_A, g1_56_2_A] <;> rfl)
  · exact (h1_56_2_A ..).trans (by rw [g0_56_2_A, g1_56_2_A] <;> rfl)
  · exact (h2_56_2_A ..).trans (by rw [g0_56_2_A, g1_56_2_A] <;> rfl)
  · exact (h3_56_2_A ..).trans (by rw [g0_56_2_A, g1_56_2_A] <;> rfl)
  · exact (h4_56_2_A ..).trans (by rw [g0_56_2_A, g1_56_2_A] <;> rfl)
  · exact (h5_56_2_A ..).trans (by rw [g0_56_2_A, g1_56_2_A] <;> rfl)
  · exact (h6_56_2_A ..).trans (by rw [g0_56_2_A, g1_56_2_A] <;> rfl)
  · exact (h7_56_2_A ..).trans (by rw [g0_56_2_A, g1_56_2_A] <;> rfl)
  · exact (h8_56_2_A ..).trans (by rw [g0_56_2_A, g1_56_2_A] <;> rfl)

/-- Norm factor of pool 56, channel 2. -/
theorem i_56_2_A :
    (kernelRun0_A.sl.v4080 c arg5 harg5 arg6 harg6 arg11 harg11 x4 x5 x10) = invNorm ![(kernelRun0_A.sl.v3823 c arg5 harg5 arg6 harg6 arg11 harg11 x4 x5 x10), (kernelRun0_A.sl.v3827 c arg5 harg5 arg6 harg6 arg11 harg11 x4 x5 x10), (kernelRun0_A.sl.v3890 c arg5 harg5 arg6 harg6 arg11 harg11 x4 x5 x10), (kernelRun0_A.sl.v3894 c arg5 harg5 arg6 harg6 arg11 harg11 x4 x5 x10), (kernelRun0_A.sl.v3957 c arg5 harg5 arg6 harg6 arg11 harg11 x4 x5 x10), (kernelRun0_A.sl.v3961 c arg5 harg5 arg6 harg6 arg11 harg11 x4 x5 x10), (kernelRun0_A.sl.v4024 c arg5 harg5 arg6 harg6 arg11 harg11 x4 x5 x10), (kernelRun0_A.sl.v4028 c arg5 harg5 arg6 harg6 arg11 harg11 x4 x5 x10), (kernelRun0_A.sl.v4058 c arg5 harg5 arg6 harg6 arg11 harg11 x4 x5 x10)] := rfl

/-- Mask of pool 56. -/
theorem mk_56_A :
    (kernelRun0_A.sl.v2865 c arg12 harg12 x11) = mask56 (maskAt arg12 harg12 x11) := rfl

/-- Numerator of pool 56. -/
theorem n_56_A :
    (kernelRun0_A.sl.r_275 c arg5 harg5 arg6 harg6 arg11 harg11 arg12 harg12 arg15 harg15 x4 x5 x10 x11 x14) = pool56 (chAt arg11 harg11 x10) (maskAt arg12 harg12 x11) (wAt arg5 harg5 x4) (bAt arg6 harg6 x5) (pred56 arg15 harg15 x14) := by
  unfold pool56 errV
  dsimp only
  rw [← e_56_0_A (c := c), ← e_56_1_A (c := c), ← hv_56_2_A (c := c), ← mk_56_A (c := c)]
  unfold chanErr
  rw [← i_56_2_A (c := c)]
  rfl

/-- Horizontal gradient of pool 112, channel 0. -/
theorem g0_112_0_A :
    (kernelRun0_A.sl.v4219 c arg11 harg11 x10) = (sub112 (grad0 (chAt arg11 harg11 x10 0))) := rfl

/-- Vertical gradient of pool 112, channel 0. -/
theorem g1_112_0_A :
    (kernelRun0_A.sl.v4221 c arg11 harg11 x10) = (sub112 (grad1 (chAt arg11 harg11 x10 0))) := rfl

/-- Projection 0 of pool 112, channel 0. -/
theorem h0_112_0_A :
    (kernelRun0_A.sl.v4324 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 0 := rfl

/-- Projection 1 of pool 112, channel 0. -/
theorem h1_112_0_A :
    (kernelRun0_A.sl.v4328 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 1 := rfl

/-- Projection 2 of pool 112, channel 0. -/
theorem h2_112_0_A :
    (kernelRun0_A.sl.v4391 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 2 := rfl

/-- Projection 3 of pool 112, channel 0. -/
theorem h3_112_0_A :
    (kernelRun0_A.sl.v4395 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 3 := rfl

/-- Projection 4 of pool 112, channel 0. -/
theorem h4_112_0_A :
    (kernelRun0_A.sl.v4458 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 4 := rfl

/-- Projection 5 of pool 112, channel 0. -/
theorem h5_112_0_A :
    (kernelRun0_A.sl.v4462 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 5 := rfl

/-- Projection 6 of pool 112, channel 0. -/
theorem h6_112_0_A :
    (kernelRun0_A.sl.v4525 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 6 := rfl

/-- Projection 7 of pool 112, channel 0. -/
theorem h7_112_0_A :
    (kernelRun0_A.sl.v4529 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 7 := rfl

/-- Projection 8 of pool 112, channel 0. -/
theorem h8_112_0_A :
    (kernelRun0_A.sl.v4559 c arg7 harg7 arg8 harg8 arg11 harg11 x6 x7 x10) = hogs (kernelRun0_A.sl.v4219 c arg11 harg11 x10) (kernelRun0_A.sl.v4221 c arg11 harg11 x10) (wAt arg7 harg7 x6) (bAt arg8 harg8 x7) 8 := rfl

/-- All nine projections of pool 112, channel 0. -/
theorem hv_112_0_A :
    ![(kernelRun0_A.sl.v4324 c arg7 harg7 arg8 harg8 arg11 harg11 x6 x7 x10), (kernelRun0_A.sl.v4328 c arg7 harg7 arg8 harg8 arg11 harg11 x6 x7 x10), (kernelRun0_A.sl.v4391 c arg7 harg7 arg8 harg8 arg11 harg11 x6 x7 x10), (kernelRun0_A.sl.v4395 c arg7 harg7 arg8 harg8 arg11 harg11 x6 x7 x10), (kernelRun0_A.sl.v4458 c arg7 harg7 arg8 harg8 arg11 harg11 x6 x7 x10), (kernelRun0_A.sl.v4462 c arg7 harg7 arg8 harg8 arg11 harg11 x6 x7 x10), (kernelRun0_A.sl.v4525 c arg7 harg7 arg8 harg8 arg11 harg11 x6 x7 x10), (kernelRun0_A.sl.v4529 c arg7 harg7 arg8 harg8 arg11 harg11 x6 x7 x10), (kernelRun0_A.sl.v4559 c arg7 harg7 arg8 harg8 arg11 harg11 x6 x7 x10)] = (hogs (sub112 (grad0 (chAt arg11 harg11 x10 0))) (sub112 (grad1 (chAt arg11 harg11 x10 0))) (wAt arg7 harg7 x6) (bAt arg8 harg8 x7)) := by
  funext o
  fin_cases o
  · exact (h0_112_0_A ..).trans (by rw [g0_112_0_A, g1_112_0_A] <;> rfl)
  · exact (h1_112_0_A ..).trans (by rw [g0_112_0_A, g1_112_0_A] <;> rfl)
  · exact (h2_112_0_A ..).trans (by rw [g0_112_0_A, g1_112_0_A] <;> rfl)
  · exact (h3_112_0_A ..).trans (by rw [g0_112_0_A, g1_112_0_A] <;> rfl)
  · exact (h4_112_0_A ..).trans (by rw [g0_112_0_A, g1_112_0_A] <;> rfl)
  · exact (h5_112_0_A ..).trans (by rw [g0_112_0_A, g1_112_0_A] <;> rfl)
  · exact (h6_112_0_A ..).trans (by rw [g0_112_0_A, g1_112_0_A] <;> rfl)
  · exact (h7_112_0_A ..).trans (by rw [g0_112_0_A, g1_112_0_A] <;> rfl)
  · exact (h8_112_0_A ..).trans (by rw [g0_112_0_A, g1_112_0_A] <;> rfl)

/-- Norm factor of pool 112, channel 0. -/
theorem i_112_0_A :
    (kernelRun0_A.sl.v4581 c arg7 harg7 arg8 harg8 arg11 harg11 x6 x7 x10) = invNorm ![(kernelRun0_A.sl.v4324 c arg7 harg7 arg8 harg8 arg11 harg11 x6 x7 x10), (kernelRun0_A.sl.v4328 c arg7 harg7 arg8 harg8 arg11 harg11 x6 x7 x10), (kernelRun0_A.sl.v4391 c arg7 harg7 arg8 harg8 arg11 harg11 x6 x7 x10), (kernelRun0_A.sl.v4395 c arg7 harg7 arg8 harg8 arg11 harg11 x6 x7 x10), (kernelRun0_A.sl.v4458 c arg7 harg7 arg8 harg8 arg11 harg11 x6 x7 x10), (kernelRun0_A.sl.v4462 c arg7 harg7 arg8 harg8 arg11 harg11 x6 x7 x10), (kernelRun0_A.sl.v4525 c arg7 harg7 arg8 harg8 arg11 harg11 x6 x7 x10), (kernelRun0_A.sl.v4529 c arg7 harg7 arg8 harg8 arg11 harg11 x6 x7 x10), (kernelRun0_A.sl.v4559 c arg7 harg7 arg8 harg8 arg11 harg11 x6 x7 x10)] := rfl

/-- Error so far of pool 112, channel 0. -/
theorem e_112_0_A :
    (kernelRun0_A.sl.v4635 c arg7 harg7 arg8 harg8 arg11 harg11 arg16 harg16 x6 x7 x10 x15) = chanErr (zeros S112x112) (hogs (sub112 (grad0 (chAt arg11 harg11 x10 0))) (sub112 (grad1 (chAt arg11 harg11 x10 0))) (wAt arg7 harg7 x6) (bAt arg8 harg8 x7)) (pred112 arg16 harg16 x15 0) := by
  rw [← hv_112_0_A (c := c)]
  unfold chanErr
  rw [← i_112_0_A (c := c)]
  rfl

/-- Horizontal gradient of pool 112, channel 1. -/
theorem g0_112_1_A :
    (kernelRun0_A.sl.v4637 c arg11 harg11 x10) = (sub112 (grad0 (chAt arg11 harg11 x10 1))) := rfl

/-- Vertical gradient of pool 112, channel 1. -/
theorem g1_112_1_A :
    (kernelRun0_A.sl.v4639 c arg11 harg11 x10) = (sub112 (grad1 (chAt arg11 harg11 x10 1))) := rfl

/-- Projection 0 of pool 112, channel 1. -/
theorem h0_112_1_A :
    (kernelRun0_A.sl.v4742 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 0 := rfl

/-- Projection 1 of pool 112, channel 1. -/
theorem h1_112_1_A :
    (kernelRun0_A.sl.v4746 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 1 := rfl

/-- Projection 2 of pool 112, channel 1. -/
theorem h2_112_1_A :
    (kernelRun0_A.sl.v4809 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 2 := rfl

/-- Projection 3 of pool 112, channel 1. -/
theorem h3_112_1_A :
    (kernelRun0_A.sl.v4813 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 3 := rfl

/-- Projection 4 of pool 112, channel 1. -/
theorem h4_112_1_A :
    (kernelRun0_A.sl.v4876 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 4 := rfl

/-- Projection 5 of pool 112, channel 1. -/
theorem h5_112_1_A :
    (kernelRun0_A.sl.v4880 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 5 := rfl

/-- Projection 6 of pool 112, channel 1. -/
theorem h6_112_1_A :
    (kernelRun0_A.sl.v4943 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 6 := rfl

/-- Projection 7 of pool 112, channel 1. -/
theorem h7_112_1_A :
    (kernelRun0_A.sl.v4947 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 7 := rfl

/-- Projection 8 of pool 112, channel 1. -/
theorem h8_112_1_A :
    (kernelRun0_A.sl.v4977 c arg7 harg7 arg8 harg8 arg11 harg11 x6 x7 x10) = hogs (kernelRun0_A.sl.v4637 c arg11 harg11 x10) (kernelRun0_A.sl.v4639 c arg11 harg11 x10) (wAt arg7 harg7 x6) (bAt arg8 harg8 x7) 8 := rfl

/-- All nine projections of pool 112, channel 1. -/
theorem hv_112_1_A :
    ![(kernelRun0_A.sl.v4742 c arg7 harg7 arg8 harg8 arg11 harg11 x6 x7 x10), (kernelRun0_A.sl.v4746 c arg7 harg7 arg8 harg8 arg11 harg11 x6 x7 x10), (kernelRun0_A.sl.v4809 c arg7 harg7 arg8 harg8 arg11 harg11 x6 x7 x10), (kernelRun0_A.sl.v4813 c arg7 harg7 arg8 harg8 arg11 harg11 x6 x7 x10), (kernelRun0_A.sl.v4876 c arg7 harg7 arg8 harg8 arg11 harg11 x6 x7 x10), (kernelRun0_A.sl.v4880 c arg7 harg7 arg8 harg8 arg11 harg11 x6 x7 x10), (kernelRun0_A.sl.v4943 c arg7 harg7 arg8 harg8 arg11 harg11 x6 x7 x10), (kernelRun0_A.sl.v4947 c arg7 harg7 arg8 harg8 arg11 harg11 x6 x7 x10), (kernelRun0_A.sl.v4977 c arg7 harg7 arg8 harg8 arg11 harg11 x6 x7 x10)] = (hogs (sub112 (grad0 (chAt arg11 harg11 x10 1))) (sub112 (grad1 (chAt arg11 harg11 x10 1))) (wAt arg7 harg7 x6) (bAt arg8 harg8 x7)) := by
  funext o
  fin_cases o
  · exact (h0_112_1_A ..).trans (by rw [g0_112_1_A, g1_112_1_A] <;> rfl)
  · exact (h1_112_1_A ..).trans (by rw [g0_112_1_A, g1_112_1_A] <;> rfl)
  · exact (h2_112_1_A ..).trans (by rw [g0_112_1_A, g1_112_1_A] <;> rfl)
  · exact (h3_112_1_A ..).trans (by rw [g0_112_1_A, g1_112_1_A] <;> rfl)
  · exact (h4_112_1_A ..).trans (by rw [g0_112_1_A, g1_112_1_A] <;> rfl)
  · exact (h5_112_1_A ..).trans (by rw [g0_112_1_A, g1_112_1_A] <;> rfl)
  · exact (h6_112_1_A ..).trans (by rw [g0_112_1_A, g1_112_1_A] <;> rfl)
  · exact (h7_112_1_A ..).trans (by rw [g0_112_1_A, g1_112_1_A] <;> rfl)
  · exact (h8_112_1_A ..).trans (by rw [g0_112_1_A, g1_112_1_A] <;> rfl)

/-- Norm factor of pool 112, channel 1. -/
theorem i_112_1_A :
    (kernelRun0_A.sl.v4999 c arg7 harg7 arg8 harg8 arg11 harg11 x6 x7 x10) = invNorm ![(kernelRun0_A.sl.v4742 c arg7 harg7 arg8 harg8 arg11 harg11 x6 x7 x10), (kernelRun0_A.sl.v4746 c arg7 harg7 arg8 harg8 arg11 harg11 x6 x7 x10), (kernelRun0_A.sl.v4809 c arg7 harg7 arg8 harg8 arg11 harg11 x6 x7 x10), (kernelRun0_A.sl.v4813 c arg7 harg7 arg8 harg8 arg11 harg11 x6 x7 x10), (kernelRun0_A.sl.v4876 c arg7 harg7 arg8 harg8 arg11 harg11 x6 x7 x10), (kernelRun0_A.sl.v4880 c arg7 harg7 arg8 harg8 arg11 harg11 x6 x7 x10), (kernelRun0_A.sl.v4943 c arg7 harg7 arg8 harg8 arg11 harg11 x6 x7 x10), (kernelRun0_A.sl.v4947 c arg7 harg7 arg8 harg8 arg11 harg11 x6 x7 x10), (kernelRun0_A.sl.v4977 c arg7 harg7 arg8 harg8 arg11 harg11 x6 x7 x10)] := rfl

/-- Error so far of pool 112, channel 1. -/
theorem e_112_1_A :
    (kernelRun0_A.sl.v5053 c arg7 harg7 arg8 harg8 arg11 harg11 arg16 harg16 x6 x7 x10 x15) = chanErr (kernelRun0_A.sl.v4635 c arg7 harg7 arg8 harg8 arg11 harg11 arg16 harg16 x6 x7 x10 x15) (hogs (sub112 (grad0 (chAt arg11 harg11 x10 1))) (sub112 (grad1 (chAt arg11 harg11 x10 1))) (wAt arg7 harg7 x6) (bAt arg8 harg8 x7)) (pred112 arg16 harg16 x15 1) := by
  rw [← hv_112_1_A (c := c)]
  unfold chanErr
  rw [← i_112_1_A (c := c)]
  rfl

/-- Horizontal gradient of pool 112, channel 2. -/
theorem g0_112_2_A :
    (kernelRun0_A.sl.v5055 c arg11 harg11 x10) = (sub112 (grad0 (chAt arg11 harg11 x10 2))) := rfl

/-- Vertical gradient of pool 112, channel 2. -/
theorem g1_112_2_A :
    (kernelRun0_A.sl.v5057 c arg11 harg11 x10) = (sub112 (grad1 (chAt arg11 harg11 x10 2))) := rfl

/-- Projection 0 of pool 112, channel 2. -/
theorem h0_112_2_A :
    (kernelRun0_A.sl.v5160 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 0 := rfl

/-- Projection 1 of pool 112, channel 2. -/
theorem h1_112_2_A :
    (kernelRun0_A.sl.v5164 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 1 := rfl

/-- Projection 2 of pool 112, channel 2. -/
theorem h2_112_2_A :
    (kernelRun0_A.sl.v5227 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 2 := rfl

/-- Projection 3 of pool 112, channel 2. -/
theorem h3_112_2_A :
    (kernelRun0_A.sl.v5231 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 3 := rfl

/-- Projection 4 of pool 112, channel 2. -/
theorem h4_112_2_A :
    (kernelRun0_A.sl.v5294 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 4 := rfl

/-- Projection 5 of pool 112, channel 2. -/
theorem h5_112_2_A :
    (kernelRun0_A.sl.v5298 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 5 := rfl

/-- Projection 6 of pool 112, channel 2. -/
theorem h6_112_2_A :
    (kernelRun0_A.sl.v5361 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 6 := rfl

/-- Projection 7 of pool 112, channel 2. -/
theorem h7_112_2_A :
    (kernelRun0_A.sl.v5365 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 7 := rfl

/-- Projection 8 of pool 112, channel 2. -/
theorem h8_112_2_A :
    (kernelRun0_A.sl.v5395 c arg7 harg7 arg8 harg8 arg11 harg11 x6 x7 x10) = hogs (kernelRun0_A.sl.v5055 c arg11 harg11 x10) (kernelRun0_A.sl.v5057 c arg11 harg11 x10) (wAt arg7 harg7 x6) (bAt arg8 harg8 x7) 8 := rfl

/-- All nine projections of pool 112, channel 2. -/
theorem hv_112_2_A :
    ![(kernelRun0_A.sl.v5160 c arg7 harg7 arg8 harg8 arg11 harg11 x6 x7 x10), (kernelRun0_A.sl.v5164 c arg7 harg7 arg8 harg8 arg11 harg11 x6 x7 x10), (kernelRun0_A.sl.v5227 c arg7 harg7 arg8 harg8 arg11 harg11 x6 x7 x10), (kernelRun0_A.sl.v5231 c arg7 harg7 arg8 harg8 arg11 harg11 x6 x7 x10), (kernelRun0_A.sl.v5294 c arg7 harg7 arg8 harg8 arg11 harg11 x6 x7 x10), (kernelRun0_A.sl.v5298 c arg7 harg7 arg8 harg8 arg11 harg11 x6 x7 x10), (kernelRun0_A.sl.v5361 c arg7 harg7 arg8 harg8 arg11 harg11 x6 x7 x10), (kernelRun0_A.sl.v5365 c arg7 harg7 arg8 harg8 arg11 harg11 x6 x7 x10), (kernelRun0_A.sl.v5395 c arg7 harg7 arg8 harg8 arg11 harg11 x6 x7 x10)] = (hogs (sub112 (grad0 (chAt arg11 harg11 x10 2))) (sub112 (grad1 (chAt arg11 harg11 x10 2))) (wAt arg7 harg7 x6) (bAt arg8 harg8 x7)) := by
  funext o
  fin_cases o
  · exact (h0_112_2_A ..).trans (by rw [g0_112_2_A, g1_112_2_A] <;> rfl)
  · exact (h1_112_2_A ..).trans (by rw [g0_112_2_A, g1_112_2_A] <;> rfl)
  · exact (h2_112_2_A ..).trans (by rw [g0_112_2_A, g1_112_2_A] <;> rfl)
  · exact (h3_112_2_A ..).trans (by rw [g0_112_2_A, g1_112_2_A] <;> rfl)
  · exact (h4_112_2_A ..).trans (by rw [g0_112_2_A, g1_112_2_A] <;> rfl)
  · exact (h5_112_2_A ..).trans (by rw [g0_112_2_A, g1_112_2_A] <;> rfl)
  · exact (h6_112_2_A ..).trans (by rw [g0_112_2_A, g1_112_2_A] <;> rfl)
  · exact (h7_112_2_A ..).trans (by rw [g0_112_2_A, g1_112_2_A] <;> rfl)
  · exact (h8_112_2_A ..).trans (by rw [g0_112_2_A, g1_112_2_A] <;> rfl)

/-- Norm factor of pool 112, channel 2. -/
theorem i_112_2_A :
    (kernelRun0_A.sl.v5417 c arg7 harg7 arg8 harg8 arg11 harg11 x6 x7 x10) = invNorm ![(kernelRun0_A.sl.v5160 c arg7 harg7 arg8 harg8 arg11 harg11 x6 x7 x10), (kernelRun0_A.sl.v5164 c arg7 harg7 arg8 harg8 arg11 harg11 x6 x7 x10), (kernelRun0_A.sl.v5227 c arg7 harg7 arg8 harg8 arg11 harg11 x6 x7 x10), (kernelRun0_A.sl.v5231 c arg7 harg7 arg8 harg8 arg11 harg11 x6 x7 x10), (kernelRun0_A.sl.v5294 c arg7 harg7 arg8 harg8 arg11 harg11 x6 x7 x10), (kernelRun0_A.sl.v5298 c arg7 harg7 arg8 harg8 arg11 harg11 x6 x7 x10), (kernelRun0_A.sl.v5361 c arg7 harg7 arg8 harg8 arg11 harg11 x6 x7 x10), (kernelRun0_A.sl.v5365 c arg7 harg7 arg8 harg8 arg11 harg11 x6 x7 x10), (kernelRun0_A.sl.v5395 c arg7 harg7 arg8 harg8 arg11 harg11 x6 x7 x10)] := rfl

/-- Mask of pool 112. -/
theorem mk_112_A :
    (kernelRun0_A.sl.v4202 c arg12 harg12 x11) = mask112 (maskAt arg12 harg12 x11) := rfl

/-- Numerator of pool 112. -/
theorem n_112_A :
    (kernelRun0_A.sl.r_367 c arg7 harg7 arg8 harg8 arg11 harg11 arg12 harg12 arg16 harg16 x6 x7 x10 x11 x15) = pool112 (chAt arg11 harg11 x10) (maskAt arg12 harg12 x11) (wAt arg7 harg7 x6) (bAt arg8 harg8 x7) (pred112 arg16 harg16 x15) := by
  unfold pool112 errV
  dsimp only
  rw [← e_112_0_A (c := c), ← e_112_1_A (c := c), ← hv_112_2_A (c := c), ← mk_112_A (c := c)]
  unfold chanErr
  rw [← i_112_2_A (c := c)]
  rfl

/-- Horizontal gradient of pool 224, channel 0. -/
theorem g0_224_0_A :
    (kernelRun0_A.sl.v28 c arg11 harg11 x10) = grad0 (chAt arg11 harg11 x10 0) := rfl

/-- Vertical gradient of pool 224, channel 0. -/
theorem g1_224_0_A :
    (kernelRun0_A.sl.v35 c arg11 harg11 x10) = grad1 (chAt arg11 harg11 x10 0) := rfl

/-- Projection 0 of pool 224, channel 0. -/
theorem h0_224_0_A :
    (kernelRun0_A.sl.v5581 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 0 := rfl

/-- Projection 1 of pool 224, channel 0. -/
theorem h1_224_0_A :
    (kernelRun0_A.sl.v5585 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 1 := rfl

/-- Projection 2 of pool 224, channel 0. -/
theorem h2_224_0_A :
    (kernelRun0_A.sl.v5648 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 2 := rfl

/-- Projection 3 of pool 224, channel 0. -/
theorem h3_224_0_A :
    (kernelRun0_A.sl.v5652 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 3 := rfl

/-- Projection 4 of pool 224, channel 0. -/
theorem h4_224_0_A :
    (kernelRun0_A.sl.v5715 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 4 := rfl

/-- Projection 5 of pool 224, channel 0. -/
theorem h5_224_0_A :
    (kernelRun0_A.sl.v5719 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 5 := rfl

/-- Projection 6 of pool 224, channel 0. -/
theorem h6_224_0_A :
    (kernelRun0_A.sl.v5782 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 6 := rfl

/-- Projection 7 of pool 224, channel 0. -/
theorem h7_224_0_A :
    (kernelRun0_A.sl.v5786 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 7 := rfl

/-- Projection 8 of pool 224, channel 0. -/
theorem h8_224_0_A :
    (kernelRun0_A.sl.v5816 c arg9 harg9 arg10 harg10 arg11 harg11 x8 x9 x10) = hogs (kernelRun0_A.sl.v28 c arg11 harg11 x10) (kernelRun0_A.sl.v35 c arg11 harg11 x10) (wAt arg9 harg9 x8) (bAt arg10 harg10 x9) 8 := rfl

/-- All nine projections of pool 224, channel 0. -/
theorem hv_224_0_A :
    ![(kernelRun0_A.sl.v5581 c arg9 harg9 arg10 harg10 arg11 harg11 x8 x9 x10), (kernelRun0_A.sl.v5585 c arg9 harg9 arg10 harg10 arg11 harg11 x8 x9 x10), (kernelRun0_A.sl.v5648 c arg9 harg9 arg10 harg10 arg11 harg11 x8 x9 x10), (kernelRun0_A.sl.v5652 c arg9 harg9 arg10 harg10 arg11 harg11 x8 x9 x10), (kernelRun0_A.sl.v5715 c arg9 harg9 arg10 harg10 arg11 harg11 x8 x9 x10), (kernelRun0_A.sl.v5719 c arg9 harg9 arg10 harg10 arg11 harg11 x8 x9 x10), (kernelRun0_A.sl.v5782 c arg9 harg9 arg10 harg10 arg11 harg11 x8 x9 x10), (kernelRun0_A.sl.v5786 c arg9 harg9 arg10 harg10 arg11 harg11 x8 x9 x10), (kernelRun0_A.sl.v5816 c arg9 harg9 arg10 harg10 arg11 harg11 x8 x9 x10)] = (hogs (grad0 (chAt arg11 harg11 x10 0)) (grad1 (chAt arg11 harg11 x10 0)) (wAt arg9 harg9 x8) (bAt arg10 harg10 x9)) := by
  funext o
  fin_cases o
  · exact (h0_224_0_A ..).trans (by rw [g0_224_0_A, g1_224_0_A] <;> rfl)
  · exact (h1_224_0_A ..).trans (by rw [g0_224_0_A, g1_224_0_A] <;> rfl)
  · exact (h2_224_0_A ..).trans (by rw [g0_224_0_A, g1_224_0_A] <;> rfl)
  · exact (h3_224_0_A ..).trans (by rw [g0_224_0_A, g1_224_0_A] <;> rfl)
  · exact (h4_224_0_A ..).trans (by rw [g0_224_0_A, g1_224_0_A] <;> rfl)
  · exact (h5_224_0_A ..).trans (by rw [g0_224_0_A, g1_224_0_A] <;> rfl)
  · exact (h6_224_0_A ..).trans (by rw [g0_224_0_A, g1_224_0_A] <;> rfl)
  · exact (h7_224_0_A ..).trans (by rw [g0_224_0_A, g1_224_0_A] <;> rfl)
  · exact (h8_224_0_A ..).trans (by rw [g0_224_0_A, g1_224_0_A] <;> rfl)

/-- Norm factor of pool 224, channel 0. -/
theorem i_224_0_A :
    (kernelRun0_A.sl.v5838 c arg9 harg9 arg10 harg10 arg11 harg11 x8 x9 x10) = invNorm ![(kernelRun0_A.sl.v5581 c arg9 harg9 arg10 harg10 arg11 harg11 x8 x9 x10), (kernelRun0_A.sl.v5585 c arg9 harg9 arg10 harg10 arg11 harg11 x8 x9 x10), (kernelRun0_A.sl.v5648 c arg9 harg9 arg10 harg10 arg11 harg11 x8 x9 x10), (kernelRun0_A.sl.v5652 c arg9 harg9 arg10 harg10 arg11 harg11 x8 x9 x10), (kernelRun0_A.sl.v5715 c arg9 harg9 arg10 harg10 arg11 harg11 x8 x9 x10), (kernelRun0_A.sl.v5719 c arg9 harg9 arg10 harg10 arg11 harg11 x8 x9 x10), (kernelRun0_A.sl.v5782 c arg9 harg9 arg10 harg10 arg11 harg11 x8 x9 x10), (kernelRun0_A.sl.v5786 c arg9 harg9 arg10 harg10 arg11 harg11 x8 x9 x10), (kernelRun0_A.sl.v5816 c arg9 harg9 arg10 harg10 arg11 harg11 x8 x9 x10)] := rfl

/-- Error so far of pool 224, channel 0. -/
theorem e_224_0_A :
    (kernelRun0_A.sl.v5892 c arg9 harg9 arg10 harg10 arg11 harg11 arg17 harg17 x8 x9 x10 x16) = chanErr (zeros S224x224) (hogs (grad0 (chAt arg11 harg11 x10 0)) (grad1 (chAt arg11 harg11 x10 0)) (wAt arg9 harg9 x8) (bAt arg10 harg10 x9)) (pred224 arg17 harg17 x16 0) := by
  rw [← hv_224_0_A (c := c)]
  unfold chanErr
  rw [← i_224_0_A (c := c)]
  rfl

/-- Horizontal gradient of pool 224, channel 1. -/
theorem g0_224_1_A :
    (kernelRun0_A.sl.v64 c arg11 harg11 x10) = grad0 (chAt arg11 harg11 x10 1) := rfl

/-- Vertical gradient of pool 224, channel 1. -/
theorem g1_224_1_A :
    (kernelRun0_A.sl.v71 c arg11 harg11 x10) = grad1 (chAt arg11 harg11 x10 1) := rfl

/-- Projection 0 of pool 224, channel 1. -/
theorem h0_224_1_A :
    (kernelRun0_A.sl.v5995 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 0 := rfl

/-- Projection 1 of pool 224, channel 1. -/
theorem h1_224_1_A :
    (kernelRun0_A.sl.v5999 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 1 := rfl

/-- Projection 2 of pool 224, channel 1. -/
theorem h2_224_1_A :
    (kernelRun0_A.sl.v6062 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 2 := rfl

/-- Projection 3 of pool 224, channel 1. -/
theorem h3_224_1_A :
    (kernelRun0_A.sl.v6066 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 3 := rfl

/-- Projection 4 of pool 224, channel 1. -/
theorem h4_224_1_A :
    (kernelRun0_A.sl.v6129 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 4 := rfl

/-- Projection 5 of pool 224, channel 1. -/
theorem h5_224_1_A :
    (kernelRun0_A.sl.v6133 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 5 := rfl

/-- Projection 6 of pool 224, channel 1. -/
theorem h6_224_1_A :
    (kernelRun0_A.sl.v6196 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 6 := rfl

/-- Projection 7 of pool 224, channel 1. -/
theorem h7_224_1_A :
    (kernelRun0_A.sl.v6200 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 7 := rfl

/-- Projection 8 of pool 224, channel 1. -/
theorem h8_224_1_A :
    (kernelRun0_A.sl.v6230 c arg9 harg9 arg10 harg10 arg11 harg11 x8 x9 x10) = hogs (kernelRun0_A.sl.v64 c arg11 harg11 x10) (kernelRun0_A.sl.v71 c arg11 harg11 x10) (wAt arg9 harg9 x8) (bAt arg10 harg10 x9) 8 := rfl

/-- All nine projections of pool 224, channel 1. -/
theorem hv_224_1_A :
    ![(kernelRun0_A.sl.v5995 c arg9 harg9 arg10 harg10 arg11 harg11 x8 x9 x10), (kernelRun0_A.sl.v5999 c arg9 harg9 arg10 harg10 arg11 harg11 x8 x9 x10), (kernelRun0_A.sl.v6062 c arg9 harg9 arg10 harg10 arg11 harg11 x8 x9 x10), (kernelRun0_A.sl.v6066 c arg9 harg9 arg10 harg10 arg11 harg11 x8 x9 x10), (kernelRun0_A.sl.v6129 c arg9 harg9 arg10 harg10 arg11 harg11 x8 x9 x10), (kernelRun0_A.sl.v6133 c arg9 harg9 arg10 harg10 arg11 harg11 x8 x9 x10), (kernelRun0_A.sl.v6196 c arg9 harg9 arg10 harg10 arg11 harg11 x8 x9 x10), (kernelRun0_A.sl.v6200 c arg9 harg9 arg10 harg10 arg11 harg11 x8 x9 x10), (kernelRun0_A.sl.v6230 c arg9 harg9 arg10 harg10 arg11 harg11 x8 x9 x10)] = (hogs (grad0 (chAt arg11 harg11 x10 1)) (grad1 (chAt arg11 harg11 x10 1)) (wAt arg9 harg9 x8) (bAt arg10 harg10 x9)) := by
  funext o
  fin_cases o
  · exact (h0_224_1_A ..).trans (by rw [g0_224_1_A, g1_224_1_A] <;> rfl)
  · exact (h1_224_1_A ..).trans (by rw [g0_224_1_A, g1_224_1_A] <;> rfl)
  · exact (h2_224_1_A ..).trans (by rw [g0_224_1_A, g1_224_1_A] <;> rfl)
  · exact (h3_224_1_A ..).trans (by rw [g0_224_1_A, g1_224_1_A] <;> rfl)
  · exact (h4_224_1_A ..).trans (by rw [g0_224_1_A, g1_224_1_A] <;> rfl)
  · exact (h5_224_1_A ..).trans (by rw [g0_224_1_A, g1_224_1_A] <;> rfl)
  · exact (h6_224_1_A ..).trans (by rw [g0_224_1_A, g1_224_1_A] <;> rfl)
  · exact (h7_224_1_A ..).trans (by rw [g0_224_1_A, g1_224_1_A] <;> rfl)
  · exact (h8_224_1_A ..).trans (by rw [g0_224_1_A, g1_224_1_A] <;> rfl)

/-- Norm factor of pool 224, channel 1. -/
theorem i_224_1_A :
    (kernelRun0_A.sl.v6252 c arg9 harg9 arg10 harg10 arg11 harg11 x8 x9 x10) = invNorm ![(kernelRun0_A.sl.v5995 c arg9 harg9 arg10 harg10 arg11 harg11 x8 x9 x10), (kernelRun0_A.sl.v5999 c arg9 harg9 arg10 harg10 arg11 harg11 x8 x9 x10), (kernelRun0_A.sl.v6062 c arg9 harg9 arg10 harg10 arg11 harg11 x8 x9 x10), (kernelRun0_A.sl.v6066 c arg9 harg9 arg10 harg10 arg11 harg11 x8 x9 x10), (kernelRun0_A.sl.v6129 c arg9 harg9 arg10 harg10 arg11 harg11 x8 x9 x10), (kernelRun0_A.sl.v6133 c arg9 harg9 arg10 harg10 arg11 harg11 x8 x9 x10), (kernelRun0_A.sl.v6196 c arg9 harg9 arg10 harg10 arg11 harg11 x8 x9 x10), (kernelRun0_A.sl.v6200 c arg9 harg9 arg10 harg10 arg11 harg11 x8 x9 x10), (kernelRun0_A.sl.v6230 c arg9 harg9 arg10 harg10 arg11 harg11 x8 x9 x10)] := rfl

/-- Error so far of pool 224, channel 1. -/
theorem e_224_1_A :
    (kernelRun0_A.sl.v6306 c arg9 harg9 arg10 harg10 arg11 harg11 arg17 harg17 x8 x9 x10 x16) = chanErr (kernelRun0_A.sl.v5892 c arg9 harg9 arg10 harg10 arg11 harg11 arg17 harg17 x8 x9 x10 x16) (hogs (grad0 (chAt arg11 harg11 x10 1)) (grad1 (chAt arg11 harg11 x10 1)) (wAt arg9 harg9 x8) (bAt arg10 harg10 x9)) (pred224 arg17 harg17 x16 1) := by
  rw [← hv_224_1_A (c := c)]
  unfold chanErr
  rw [← i_224_1_A (c := c)]
  rfl

/-- Horizontal gradient of pool 224, channel 2. -/
theorem g0_224_2_A :
    (kernelRun0_A.sl.v100 c arg11 harg11 x10) = grad0 (chAt arg11 harg11 x10 2) := rfl

/-- Vertical gradient of pool 224, channel 2. -/
theorem g1_224_2_A :
    (kernelRun0_A.sl.r c arg11 harg11 x10) = grad1 (chAt arg11 harg11 x10 2) := rfl

/-- Projection 0 of pool 224, channel 2. -/
theorem h0_224_2_A :
    (kernelRun0_A.sl.v6409 c arg9 harg9 arg10 harg10 arg11 harg11 x8 x9 x10) = hogs (kernelRun0_A.sl.v100 c arg11 harg11 x10) (kernelRun0_A.sl.r c arg11 harg11 x10) (wAt arg9 harg9 x8) (bAt arg10 harg10 x9) 0 := rfl

/-- Projection 1 of pool 224, channel 2. -/
theorem h1_224_2_A :
    (kernelRun0_A.sl.v6413 c arg9 harg9 arg10 harg10 arg11 harg11 x8 x9 x10) = hogs (kernelRun0_A.sl.v100 c arg11 harg11 x10) (kernelRun0_A.sl.r c arg11 harg11 x10) (wAt arg9 harg9 x8) (bAt arg10 harg10 x9) 1 := rfl

/-- Projection 2 of pool 224, channel 2. -/
theorem h2_224_2_A :
    (kernelRun0_A.sl.v6476 c arg9 harg9 arg10 harg10 arg11 harg11 x8 x9 x10) = hogs (kernelRun0_A.sl.v100 c arg11 harg11 x10) (kernelRun0_A.sl.r c arg11 harg11 x10) (wAt arg9 harg9 x8) (bAt arg10 harg10 x9) 2 := rfl

/-- Projection 3 of pool 224, channel 2. -/
theorem h3_224_2_A :
    (kernelRun0_A.sl.v6480 c arg9 harg9 arg10 harg10 arg11 harg11 x8 x9 x10) = hogs (kernelRun0_A.sl.v100 c arg11 harg11 x10) (kernelRun0_A.sl.r c arg11 harg11 x10) (wAt arg9 harg9 x8) (bAt arg10 harg10 x9) 3 := rfl

/-- Projection 4 of pool 224, channel 2. -/
theorem h4_224_2_A :
    (kernelRun0_A.sl.r_551 c arg9 harg9 arg10 harg10 arg11 harg11 x8 x9 x10) = hogs (kernelRun0_A.sl.v100 c arg11 harg11 x10) (kernelRun0_A.sl.r c arg11 harg11 x10) (wAt arg9 harg9 x8) (bAt arg10 harg10 x9) 4 := rfl

/-- Projection 5 of pool 224, channel 2. -/
theorem h5_224_2_A :
    (kernelRun0_A.sl.r_552 c arg9 harg9 arg10 harg10 arg11 harg11 x8 x9 x10) = hogs (kernelRun0_A.sl.v100 c arg11 harg11 x10) (kernelRun0_A.sl.r c arg11 harg11 x10) (wAt arg9 harg9 x8) (bAt arg10 harg10 x9) 5 := rfl

/-- Projection 6 of pool 224, channel 2. -/
theorem h6_224_2_A :
    (kernelRun0_A.sl.r_595 c arg9 harg9 arg10 harg10 arg11 harg11 x8 x9 x10) = hogs (kernelRun0_A.sl.v100 c arg11 harg11 x10) (kernelRun0_A.sl.r c arg11 harg11 x10) (wAt arg9 harg9 x8) (bAt arg10 harg10 x9) 6 := rfl

/-- Projection 7 of pool 224, channel 2. -/
theorem h7_224_2_A :
    (kernelRun0_A.sl.r_596 c arg9 harg9 arg10 harg10 arg11 harg11 x8 x9 x10) = hogs (kernelRun0_A.sl.v100 c arg11 harg11 x10) (kernelRun0_A.sl.r c arg11 harg11 x10) (wAt arg9 harg9 x8) (bAt arg10 harg10 x9) 7 := rfl

/-- Projection 8 of pool 224, channel 2. -/
theorem h8_224_2_A :
    (kernelRun0_A.sl.r_598 c arg9 harg9 arg10 harg10 arg11 harg11 x8 x9 x10) = hogs (kernelRun0_A.sl.v100 c arg11 harg11 x10) (kernelRun0_A.sl.r c arg11 harg11 x10) (wAt arg9 harg9 x8) (bAt arg10 harg10 x9) 8 := rfl

/-- All nine projections of pool 224, channel 2. -/
theorem hv_224_2_A :
    ![(kernelRun0_A.sl.v6409 c arg9 harg9 arg10 harg10 arg11 harg11 x8 x9 x10), (kernelRun0_A.sl.v6413 c arg9 harg9 arg10 harg10 arg11 harg11 x8 x9 x10), (kernelRun0_A.sl.v6476 c arg9 harg9 arg10 harg10 arg11 harg11 x8 x9 x10), (kernelRun0_A.sl.v6480 c arg9 harg9 arg10 harg10 arg11 harg11 x8 x9 x10), (kernelRun0_A.sl.r_551 c arg9 harg9 arg10 harg10 arg11 harg11 x8 x9 x10), (kernelRun0_A.sl.r_552 c arg9 harg9 arg10 harg10 arg11 harg11 x8 x9 x10), (kernelRun0_A.sl.r_595 c arg9 harg9 arg10 harg10 arg11 harg11 x8 x9 x10), (kernelRun0_A.sl.r_596 c arg9 harg9 arg10 harg10 arg11 harg11 x8 x9 x10), (kernelRun0_A.sl.r_598 c arg9 harg9 arg10 harg10 arg11 harg11 x8 x9 x10)] = (hogs (grad0 (chAt arg11 harg11 x10 2)) (grad1 (chAt arg11 harg11 x10 2)) (wAt arg9 harg9 x8) (bAt arg10 harg10 x9)) := by
  funext o
  fin_cases o
  · exact (h0_224_2_A ..).trans (by rw [g0_224_2_A, g1_224_2_A] <;> rfl)
  · exact (h1_224_2_A ..).trans (by rw [g0_224_2_A, g1_224_2_A] <;> rfl)
  · exact (h2_224_2_A ..).trans (by rw [g0_224_2_A, g1_224_2_A] <;> rfl)
  · exact (h3_224_2_A ..).trans (by rw [g0_224_2_A, g1_224_2_A] <;> rfl)
  · exact (h4_224_2_A ..).trans (by rw [g0_224_2_A, g1_224_2_A] <;> rfl)
  · exact (h5_224_2_A ..).trans (by rw [g0_224_2_A, g1_224_2_A] <;> rfl)
  · exact (h6_224_2_A ..).trans (by rw [g0_224_2_A, g1_224_2_A] <;> rfl)
  · exact (h7_224_2_A ..).trans (by rw [g0_224_2_A, g1_224_2_A] <;> rfl)
  · exact (h8_224_2_A ..).trans (by rw [g0_224_2_A, g1_224_2_A] <;> rfl)

/-- Norm factor of pool 224, channel 2. -/
theorem i_224_2_A :
    (kernelRun0_A.sl.r_599 c arg9 harg9 arg10 harg10 arg11 harg11 x8 x9 x10) = invNorm ![(kernelRun0_A.sl.v6409 c arg9 harg9 arg10 harg10 arg11 harg11 x8 x9 x10), (kernelRun0_A.sl.v6413 c arg9 harg9 arg10 harg10 arg11 harg11 x8 x9 x10), (kernelRun0_A.sl.v6476 c arg9 harg9 arg10 harg10 arg11 harg11 x8 x9 x10), (kernelRun0_A.sl.v6480 c arg9 harg9 arg10 harg10 arg11 harg11 x8 x9 x10), (kernelRun0_A.sl.r_551 c arg9 harg9 arg10 harg10 arg11 harg11 x8 x9 x10), (kernelRun0_A.sl.r_552 c arg9 harg9 arg10 harg10 arg11 harg11 x8 x9 x10), (kernelRun0_A.sl.r_595 c arg9 harg9 arg10 harg10 arg11 harg11 x8 x9 x10), (kernelRun0_A.sl.r_596 c arg9 harg9 arg10 harg10 arg11 harg11 x8 x9 x10), (kernelRun0_A.sl.r_598 c arg9 harg9 arg10 harg10 arg11 harg11 x8 x9 x10)] := rfl

/-- The stored tile. -/
theorem tile_A :
    (kernelRun0_A.sl.r_606 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) = pointTile (chAt arg11 harg11 x10) (maskAt arg12 harg12 x11)
      (wAt arg1 harg1 x0) (bAt arg2 harg2 x1) (wAt arg3 harg3 x2) (bAt arg4 harg4 x3) (wAt arg5 harg5 x4) (bAt arg6 harg6 x5) (wAt arg7 harg7 x6) (bAt arg8 harg8 x7) (wAt arg9 harg9 x8) (bAt arg10 harg10 x9)
      (pred14 arg13 harg13 x12) (pred28 arg14 harg14 x13) (pred56 arg15 harg15 x14) (pred112 arg16 harg16 x15) (pred224 arg17 harg17 x16) := by
  unfold pointTile
  rw [← n_14_A (c := c), ← n_28_A (c := c), ← n_56_A (c := c), ← n_112_A (c := c)]
  unfold pool224 errV
  dsimp only
  rw [← e_224_0_A (c := c), ← e_224_1_A (c := c), ← hv_224_2_A (c := c)]
  unfold chanErr
  rw [← i_224_2_A (c := c)]
  rfl

end Cert.Hog

end
-- ==== Proof.StageB.lean ====
module

public import proofs.«01_k».proof.Proof.Tile
public import proofs.«01_k».proof.Proof.Gen.KernelIdeal.Frame

/-!
The values of the kernel's run at a later grid point, each equal to a structured definition.
-/

@[expose] public section

set_option maxRecDepth 65536

noncomputable section

namespace Cert.Hog

open Idealize.ShloMosaic Idealize.ShloMosaic.TcCoe Idealize.SL.Sem Cert.KernelIdeal Cert.KernelIdeal.Gen

variable {F : FTy → Type} [FloatOps F] [Named F]

variable (c : Dev nD)
  (i : grid0.Coords)
  (arg1 : Memref sig .tc .smem S9x9 .f32)
  (harg1 : arg1.IsWhole)
  (arg2 : Memref sig .tc .smem S9 .f32)
  (harg2 : arg2.IsWhole)
  (arg3 : Memref sig .tc .smem S9x9 .f32)
  (harg3 : arg3.IsWhole)
  (arg4 : Memref sig .tc .smem S9 .f32)
  (harg4 : arg4.IsWhole)
  (arg5 : Memref sig .tc .smem S9x9 .f32)
  (harg5 : arg5.IsWhole)
  (arg6 : Memref sig .tc .smem S9 .f32)
  (harg6 : arg6.IsWhole)
  (arg7 : Memref sig .tc .smem S9x9 .f32)
  (harg7 : arg7.IsWhole)
  (arg8 : Memref sig .tc .smem S9 .f32)
  (harg8 : arg8.IsWhole)
  (arg9 : Memref sig .tc .smem S9x9 .f32)
  (harg9 : arg9.IsWhole)
  (arg10 : Memref sig .tc .smem S9 .f32)
  (harg10 : arg10.IsWhole)
  (arg11 : Memref sig .tc .vmem S1x3x224x224 .f32)
  (harg11 : arg11.IsWhole)
  (arg12 : Memref sig .tc .vmem S1x1x224x224 .f32)
  (harg12 : arg12.IsWhole)
  (arg13 : Memref sig .tc .vmem S1x27x14x14 .f32)
  (harg13 : arg13.IsWhole)
  (arg14 : Memref sig .tc .vmem S1x27x28x28 .f32)
  (harg14 : arg14.IsWhole)
  (arg15 : Memref sig .tc .vmem S1x27x56x56 .f32)
  (harg15 : arg15.IsWhole)
  (arg16 : Memref sig .tc .vmem S1x27x112x112 .f32)
  (harg16 : arg16.IsWhole)
  (arg17 : Memref sig .tc .vmem S1x27x224x224 .f32)
  (harg17 : arg17.IsWhole)
  (arg18 : Memref sig .tc .vmem S8x128 .f32)
  (harg18 : arg18.IsWhole)
  (hc0 : cond0_0 i)
  (hc1 : ¬cond0_1 i)
  (x0 : Vec F S9x9 .f32)
  (x1 : Vec F S9 .f32)
  (x2 : Vec F S9x9 .f32)
  (x3 : Vec F S9 .f32)
  (x4 : Vec F S9x9 .f32)
  (x5 : Vec F S9 .f32)
  (x6 : Vec F S9x9 .f32)
  (x7 : Vec F S9 .f32)
  (x8 : Vec F S9x9 .f32)
  (x9 : Vec F S9 .f32)
  (x10 : Vec F S1x3x224x224 .f32)
  (x11 : Vec F S1x1x224x224 .f32)
  (x12 : Vec F S1x27x14x14 .f32)
  (x13 : Vec F S1x27x28x28 .f32)
  (x14 : Vec F S1x27x56x56 .f32)
  (x15 : Vec F S1x27x112x112 .f32)
  (x16 : Vec F S1x27x224x224 .f32)

/-- Horizontal gradient of pool 14, channel 0. -/
theorem g0_14_0_B :
    (kernelRun0_B.sl.v208 c arg11 harg11 x10) = (sub14 (grad0 (chAt arg11 harg11 x10 0))) := rfl

/-- Vertical gradient of pool 14, channel 0. -/
theorem g1_14_0_B :
    (kernelRun0_B.sl.v210 c arg11 harg11 x10) = (sub14 (grad1 (chAt arg11 harg11 x10 0))) := rfl

/-- Projection 0 of pool 14, channel 0. -/
theorem h0_14_0_B :
    (kernelRun0_B.sl.v313 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 0 := rfl

/-- Projection 1 of pool 14, channel 0. -/
theorem h1_14_0_B :
    (kernelRun0_B.sl.v317 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 1 := rfl

/-- Projection 2 of pool 14, channel 0. -/
theorem h2_14_0_B :
    (kernelRun0_B.sl.v380 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 2 := rfl

/-- Projection 3 of pool 14, channel 0. -/
theorem h3_14_0_B :
    (kernelRun0_B.sl.v384 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 3 := rfl

/-- Projection 4 of pool 14, channel 0. -/
theorem h4_14_0_B :
    (kernelRun0_B.sl.v447 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 4 := rfl

/-- Projection 5 of pool 14, channel 0. -/
theorem h5_14_0_B :
    (kernelRun0_B.sl.v451 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 5 := rfl

/-- Projection 6 of pool 14, channel 0. -/
theorem h6_14_0_B :
    (kernelRun0_B.sl.v514 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 6 := rfl

/-- Projection 7 of pool 14, channel 0. -/
theorem h7_14_0_B :
    (kernelRun0_B.sl.v518 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 7 := rfl

/-- Projection 8 of pool 14, channel 0. -/
theorem h8_14_0_B :
    (kernelRun0_B.sl.v548 c arg1 harg1 arg2 harg2 arg11 harg11 x0 x1 x10) = hogs (kernelRun0_B.sl.v208 c arg11 harg11 x10) (kernelRun0_B.sl.v210 c arg11 harg11 x10) (wAt arg1 harg1 x0) (bAt arg2 harg2 x1) 8 := rfl

/-- All nine projections of pool 14, channel 0. -/
theorem hv_14_0_B :
    ![(kernelRun0_B.sl.v313 c arg1 harg1 arg2 harg2 arg11 harg11 x0 x1 x10), (kernelRun0_B.sl.v317 c arg1 harg1 arg2 harg2 arg11 harg11 x0 x1 x10), (kernelRun0_B.sl.v380 c arg1 harg1 arg2 harg2 arg11 harg11 x0 x1 x10), (kernelRun0_B.sl.v384 c arg1 harg1 arg2 harg2 arg11 harg11 x0 x1 x10), (kernelRun0_B.sl.v447 c arg1 harg1 arg2 harg2 arg11 harg11 x0 x1 x10), (kernelRun0_B.sl.v451 c arg1 harg1 arg2 harg2 arg11 harg11 x0 x1 x10), (kernelRun0_B.sl.v514 c arg1 harg1 arg2 harg2 arg11 harg11 x0 x1 x10), (kernelRun0_B.sl.v518 c arg1 harg1 arg2 harg2 arg11 harg11 x0 x1 x10), (kernelRun0_B.sl.v548 c arg1 harg1 arg2 harg2 arg11 harg11 x0 x1 x10)] = (hogs (sub14 (grad0 (chAt arg11 harg11 x10 0))) (sub14 (grad1 (chAt arg11 harg11 x10 0))) (wAt arg1 harg1 x0) (bAt arg2 harg2 x1)) := by
  funext o
  fin_cases o
  · exact (h0_14_0_B ..).trans (by rw [g0_14_0_B, g1_14_0_B] <;> rfl)
  · exact (h1_14_0_B ..).trans (by rw [g0_14_0_B, g1_14_0_B] <;> rfl)
  · exact (h2_14_0_B ..).trans (by rw [g0_14_0_B, g1_14_0_B] <;> rfl)
  · exact (h3_14_0_B ..).trans (by rw [g0_14_0_B, g1_14_0_B] <;> rfl)
  · exact (h4_14_0_B ..).trans (by rw [g0_14_0_B, g1_14_0_B] <;> rfl)
  · exact (h5_14_0_B ..).trans (by rw [g0_14_0_B, g1_14_0_B] <;> rfl)
  · exact (h6_14_0_B ..).trans (by rw [g0_14_0_B, g1_14_0_B] <;> rfl)
  · exact (h7_14_0_B ..).trans (by rw [g0_14_0_B, g1_14_0_B] <;> rfl)
  · exact (h8_14_0_B ..).trans (by rw [g0_14_0_B, g1_14_0_B] <;> rfl)

/-- Norm factor of pool 14, channel 0. -/
theorem i_14_0_B :
    (kernelRun0_B.sl.v570 c arg1 harg1 arg2 harg2 arg11 harg11 x0 x1 x10) = invNorm ![(kernelRun0_B.sl.v313 c arg1 harg1 arg2 harg2 arg11 harg11 x0 x1 x10), (kernelRun0_B.sl.v317 c arg1 harg1 arg2 harg2 arg11 harg11 x0 x1 x10), (kernelRun0_B.sl.v380 c arg1 harg1 arg2 harg2 arg11 harg11 x0 x1 x10), (kernelRun0_B.sl.v384 c arg1 harg1 arg2 harg2 arg11 harg11 x0 x1 x10), (kernelRun0_B.sl.v447 c arg1 harg1 arg2 harg2 arg11 harg11 x0 x1 x10), (kernelRun0_B.sl.v451 c arg1 harg1 arg2 harg2 arg11 harg11 x0 x1 x10), (kernelRun0_B.sl.v514 c arg1 harg1 arg2 harg2 arg11 harg11 x0 x1 x10), (kernelRun0_B.sl.v518 c arg1 harg1 arg2 harg2 arg11 harg11 x0 x1 x10), (kernelRun0_B.sl.v548 c arg1 harg1 arg2 harg2 arg11 harg11 x0 x1 x10)] := rfl

/-- Error so far of pool 14, channel 0. -/
theorem e_14_0_B :
    (kernelRun0_B.sl.v624 c arg1 harg1 arg2 harg2 arg11 harg11 arg13 harg13 x0 x1 x10 x12) = chanErr (zeros S14x14) (hogs (sub14 (grad0 (chAt arg11 harg11 x10 0))) (sub14 (grad1 (chAt arg11 harg11 x10 0))) (wAt arg1 harg1 x0) (bAt arg2 harg2 x1)) (pred14 arg13 harg13 x12 0) := by
  rw [← hv_14_0_B (c := c)]
  unfold chanErr
  rw [← i_14_0_B (c := c)]
  rfl

/-- Horizontal gradient of pool 14, channel 1. -/
theorem g0_14_1_B :
    (kernelRun0_B.sl.v626 c arg11 harg11 x10) = (sub14 (grad0 (chAt arg11 harg11 x10 1))) := rfl

/-- Vertical gradient of pool 14, channel 1. -/
theorem g1_14_1_B :
    (kernelRun0_B.sl.v628 c arg11 harg11 x10) = (sub14 (grad1 (chAt arg11 harg11 x10 1))) := rfl

/-- Projection 0 of pool 14, channel 1. -/
theorem h0_14_1_B :
    (kernelRun0_B.sl.v731 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 0 := rfl

/-- Projection 1 of pool 14, channel 1. -/
theorem h1_14_1_B :
    (kernelRun0_B.sl.v735 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 1 := rfl

/-- Projection 2 of pool 14, channel 1. -/
theorem h2_14_1_B :
    (kernelRun0_B.sl.v798 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 2 := rfl

/-- Projection 3 of pool 14, channel 1. -/
theorem h3_14_1_B :
    (kernelRun0_B.sl.v802 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 3 := rfl

/-- Projection 4 of pool 14, channel 1. -/
theorem h4_14_1_B :
    (kernelRun0_B.sl.v865 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 4 := rfl

/-- Projection 5 of pool 14, channel 1. -/
theorem h5_14_1_B :
    (kernelRun0_B.sl.v869 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 5 := rfl

/-- Projection 6 of pool 14, channel 1. -/
theorem h6_14_1_B :
    (kernelRun0_B.sl.v932 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 6 := rfl

/-- Projection 7 of pool 14, channel 1. -/
theorem h7_14_1_B :
    (kernelRun0_B.sl.v936 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 7 := rfl

/-- Projection 8 of pool 14, channel 1. -/
theorem h8_14_1_B :
    (kernelRun0_B.sl.v966 c arg1 harg1 arg2 harg2 arg11 harg11 x0 x1 x10) = hogs (kernelRun0_B.sl.v626 c arg11 harg11 x10) (kernelRun0_B.sl.v628 c arg11 harg11 x10) (wAt arg1 harg1 x0) (bAt arg2 harg2 x1) 8 := rfl

/-- All nine projections of pool 14, channel 1. -/
theorem hv_14_1_B :
    ![(kernelRun0_B.sl.v731 c arg1 harg1 arg2 harg2 arg11 harg11 x0 x1 x10), (kernelRun0_B.sl.v735 c arg1 harg1 arg2 harg2 arg11 harg11 x0 x1 x10), (kernelRun0_B.sl.v798 c arg1 harg1 arg2 harg2 arg11 harg11 x0 x1 x10), (kernelRun0_B.sl.v802 c arg1 harg1 arg2 harg2 arg11 harg11 x0 x1 x10), (kernelRun0_B.sl.v865 c arg1 harg1 arg2 harg2 arg11 harg11 x0 x1 x10), (kernelRun0_B.sl.v869 c arg1 harg1 arg2 harg2 arg11 harg11 x0 x1 x10), (kernelRun0_B.sl.v932 c arg1 harg1 arg2 harg2 arg11 harg11 x0 x1 x10), (kernelRun0_B.sl.v936 c arg1 harg1 arg2 harg2 arg11 harg11 x0 x1 x10), (kernelRun0_B.sl.v966 c arg1 harg1 arg2 harg2 arg11 harg11 x0 x1 x10)] = (hogs (sub14 (grad0 (chAt arg11 harg11 x10 1))) (sub14 (grad1 (chAt arg11 harg11 x10 1))) (wAt arg1 harg1 x0) (bAt arg2 harg2 x1)) := by
  funext o
  fin_cases o
  · exact (h0_14_1_B ..).trans (by rw [g0_14_1_B, g1_14_1_B] <;> rfl)
  · exact (h1_14_1_B ..).trans (by rw [g0_14_1_B, g1_14_1_B] <;> rfl)
  · exact (h2_14_1_B ..).trans (by rw [g0_14_1_B, g1_14_1_B] <;> rfl)
  · exact (h3_14_1_B ..).trans (by rw [g0_14_1_B, g1_14_1_B] <;> rfl)
  · exact (h4_14_1_B ..).trans (by rw [g0_14_1_B, g1_14_1_B] <;> rfl)
  · exact (h5_14_1_B ..).trans (by rw [g0_14_1_B, g1_14_1_B] <;> rfl)
  · exact (h6_14_1_B ..).trans (by rw [g0_14_1_B, g1_14_1_B] <;> rfl)
  · exact (h7_14_1_B ..).trans (by rw [g0_14_1_B, g1_14_1_B] <;> rfl)
  · exact (h8_14_1_B ..).trans (by rw [g0_14_1_B, g1_14_1_B] <;> rfl)

/-- Norm factor of pool 14, channel 1. -/
theorem i_14_1_B :
    (kernelRun0_B.sl.v988 c arg1 harg1 arg2 harg2 arg11 harg11 x0 x1 x10) = invNorm ![(kernelRun0_B.sl.v731 c arg1 harg1 arg2 harg2 arg11 harg11 x0 x1 x10), (kernelRun0_B.sl.v735 c arg1 harg1 arg2 harg2 arg11 harg11 x0 x1 x10), (kernelRun0_B.sl.v798 c arg1 harg1 arg2 harg2 arg11 harg11 x0 x1 x10), (kernelRun0_B.sl.v802 c arg1 harg1 arg2 harg2 arg11 harg11 x0 x1 x10), (kernelRun0_B.sl.v865 c arg1 harg1 arg2 harg2 arg11 harg11 x0 x1 x10), (kernelRun0_B.sl.v869 c arg1 harg1 arg2 harg2 arg11 harg11 x0 x1 x10), (kernelRun0_B.sl.v932 c arg1 harg1 arg2 harg2 arg11 harg11 x0 x1 x10), (kernelRun0_B.sl.v936 c arg1 harg1 arg2 harg2 arg11 harg11 x0 x1 x10), (kernelRun0_B.sl.v966 c arg1 harg1 arg2 harg2 arg11 harg11 x0 x1 x10)] := rfl

/-- Error so far of pool 14, channel 1. -/
theorem e_14_1_B :
    (kernelRun0_B.sl.v1042 c arg1 harg1 arg2 harg2 arg11 harg11 arg13 harg13 x0 x1 x10 x12) = chanErr (kernelRun0_B.sl.v624 c arg1 harg1 arg2 harg2 arg11 harg11 arg13 harg13 x0 x1 x10 x12) (hogs (sub14 (grad0 (chAt arg11 harg11 x10 1))) (sub14 (grad1 (chAt arg11 harg11 x10 1))) (wAt arg1 harg1 x0) (bAt arg2 harg2 x1)) (pred14 arg13 harg13 x12 1) := by
  rw [← hv_14_1_B (c := c)]
  unfold chanErr
  rw [← i_14_1_B (c := c)]
  rfl

/-- Horizontal gradient of pool 14, channel 2. -/
theorem g0_14_2_B :
    (kernelRun0_B.sl.v1044 c arg11 harg11 x10) = (sub14 (grad0 (chAt arg11 harg11 x10 2))) := rfl

/-- Vertical gradient of pool 14, channel 2. -/
theorem g1_14_2_B :
    (kernelRun0_B.sl.v1046 c arg11 harg11 x10) = (sub14 (grad1 (chAt arg11 harg11 x10 2))) := rfl

/-- Projection 0 of pool 14, channel 2. -/
theorem h0_14_2_B :
    (kernelRun0_B.sl.v1149 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 0 := rfl

/-- Projection 1 of pool 14, channel 2. -/
theorem h1_14_2_B :
    (kernelRun0_B.sl.v1153 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 1 := rfl

/-- Projection 2 of pool 14, channel 2. -/
theorem h2_14_2_B :
    (kernelRun0_B.sl.v1216 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 2 := rfl

/-- Projection 3 of pool 14, channel 2. -/
theorem h3_14_2_B :
    (kernelRun0_B.sl.v1220 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 3 := rfl

/-- Projection 4 of pool 14, channel 2. -/
theorem h4_14_2_B :
    (kernelRun0_B.sl.v1283 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 4 := rfl

/-- Projection 5 of pool 14, channel 2. -/
theorem h5_14_2_B :
    (kernelRun0_B.sl.v1287 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 5 := rfl

/-- Projection 6 of pool 14, channel 2. -/
theorem h6_14_2_B :
    (kernelRun0_B.sl.v1350 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 6 := rfl

/-- Projection 7 of pool 14, channel 2. -/
theorem h7_14_2_B :
    (kernelRun0_B.sl.v1354 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 7 := rfl

/-- Projection 8 of pool 14, channel 2. -/
theorem h8_14_2_B :
    (kernelRun0_B.sl.v1384 c arg1 harg1 arg2 harg2 arg11 harg11 x0 x1 x10) = hogs (kernelRun0_B.sl.v1044 c arg11 harg11 x10) (kernelRun0_B.sl.v1046 c arg11 harg11 x10) (wAt arg1 harg1 x0) (bAt arg2 harg2 x1) 8 := rfl

/-- All nine projections of pool 14, channel 2. -/
theorem hv_14_2_B :
    ![(kernelRun0_B.sl.v1149 c arg1 harg1 arg2 harg2 arg11 harg11 x0 x1 x10), (kernelRun0_B.sl.v1153 c arg1 harg1 arg2 harg2 arg11 harg11 x0 x1 x10), (kernelRun0_B.sl.v1216 c arg1 harg1 arg2 harg2 arg11 harg11 x0 x1 x10), (kernelRun0_B.sl.v1220 c arg1 harg1 arg2 harg2 arg11 harg11 x0 x1 x10), (kernelRun0_B.sl.v1283 c arg1 harg1 arg2 harg2 arg11 harg11 x0 x1 x10), (kernelRun0_B.sl.v1287 c arg1 harg1 arg2 harg2 arg11 harg11 x0 x1 x10), (kernelRun0_B.sl.v1350 c arg1 harg1 arg2 harg2 arg11 harg11 x0 x1 x10), (kernelRun0_B.sl.v1354 c arg1 harg1 arg2 harg2 arg11 harg11 x0 x1 x10), (kernelRun0_B.sl.v1384 c arg1 harg1 arg2 harg2 arg11 harg11 x0 x1 x10)] = (hogs (sub14 (grad0 (chAt arg11 harg11 x10 2))) (sub14 (grad1 (chAt arg11 harg11 x10 2))) (wAt arg1 harg1 x0) (bAt arg2 harg2 x1)) := by
  funext o
  fin_cases o
  · exact (h0_14_2_B ..).trans (by rw [g0_14_2_B, g1_14_2_B] <;> rfl)
  · exact (h1_14_2_B ..).trans (by rw [g0_14_2_B, g1_14_2_B] <;> rfl)
  · exact (h2_14_2_B ..).trans (by rw [g0_14_2_B, g1_14_2_B] <;> rfl)
  · exact (h3_14_2_B ..).trans (by rw [g0_14_2_B, g1_14_2_B] <;> rfl)
  · exact (h4_14_2_B ..).trans (by rw [g0_14_2_B, g1_14_2_B] <;> rfl)
  · exact (h5_14_2_B ..).trans (by rw [g0_14_2_B, g1_14_2_B] <;> rfl)
  · exact (h6_14_2_B ..).trans (by rw [g0_14_2_B, g1_14_2_B] <;> rfl)
  · exact (h7_14_2_B ..).trans (by rw [g0_14_2_B, g1_14_2_B] <;> rfl)
  · exact (h8_14_2_B ..).trans (by rw [g0_14_2_B, g1_14_2_B] <;> rfl)

/-- Norm factor of pool 14, channel 2. -/
theorem i_14_2_B :
    (kernelRun0_B.sl.v1406 c arg1 harg1 arg2 harg2 arg11 harg11 x0 x1 x10) = invNorm ![(kernelRun0_B.sl.v1149 c arg1 harg1 arg2 harg2 arg11 harg11 x0 x1 x10), (kernelRun0_B.sl.v1153 c arg1 harg1 arg2 harg2 arg11 harg11 x0 x1 x10), (kernelRun0_B.sl.v1216 c arg1 harg1 arg2 harg2 arg11 harg11 x0 x1 x10), (kernelRun0_B.sl.v1220 c arg1 harg1 arg2 harg2 arg11 harg11 x0 x1 x10), (kernelRun0_B.sl.v1283 c arg1 harg1 arg2 harg2 arg11 harg11 x0 x1 x10), (kernelRun0_B.sl.v1287 c arg1 harg1 arg2 harg2 arg11 harg11 x0 x1 x10), (kernelRun0_B.sl.v1350 c arg1 harg1 arg2 harg2 arg11 harg11 x0 x1 x10), (kernelRun0_B.sl.v1354 c arg1 harg1 arg2 harg2 arg11 harg11 x0 x1 x10), (kernelRun0_B.sl.v1384 c arg1 harg1 arg2 harg2 arg11 harg11 x0 x1 x10)] := rfl

/-- Mask of pool 14. -/
theorem mk_14_B :
    (kernelRun0_B.sl.v191 c arg12 harg12 x11) = mask14 (maskAt arg12 harg12 x11) := rfl

/-- Numerator of pool 14. -/
theorem n_14_B :
    (kernelRun0_B.sl.r_93 c arg1 harg1 arg2 harg2 arg11 harg11 arg12 harg12 arg13 harg13 x0 x1 x10 x11 x12) = pool14 (chAt arg11 harg11 x10) (maskAt arg12 harg12 x11) (wAt arg1 harg1 x0) (bAt arg2 harg2 x1) (pred14 arg13 harg13 x12) := by
  unfold pool14 errV
  dsimp only
  rw [← e_14_0_B (c := c), ← e_14_1_B (c := c), ← hv_14_2_B (c := c), ← mk_14_B (c := c)]
  unfold chanErr
  rw [← i_14_2_B (c := c)]
  rfl

/-- Horizontal gradient of pool 28, channel 0. -/
theorem g0_28_0_B :
    (kernelRun0_B.sl.v1545 c arg11 harg11 x10) = (sub28 (grad0 (chAt arg11 harg11 x10 0))) := rfl

/-- Vertical gradient of pool 28, channel 0. -/
theorem g1_28_0_B :
    (kernelRun0_B.sl.v1547 c arg11 harg11 x10) = (sub28 (grad1 (chAt arg11 harg11 x10 0))) := rfl

/-- Projection 0 of pool 28, channel 0. -/
theorem h0_28_0_B :
    (kernelRun0_B.sl.v1650 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 0 := rfl

/-- Projection 1 of pool 28, channel 0. -/
theorem h1_28_0_B :
    (kernelRun0_B.sl.v1654 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 1 := rfl

/-- Projection 2 of pool 28, channel 0. -/
theorem h2_28_0_B :
    (kernelRun0_B.sl.v1717 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 2 := rfl

/-- Projection 3 of pool 28, channel 0. -/
theorem h3_28_0_B :
    (kernelRun0_B.sl.v1721 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 3 := rfl

/-- Projection 4 of pool 28, channel 0. -/
theorem h4_28_0_B :
    (kernelRun0_B.sl.v1784 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 4 := rfl

/-- Projection 5 of pool 28, channel 0. -/
theorem h5_28_0_B :
    (kernelRun0_B.sl.v1788 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 5 := rfl

/-- Projection 6 of pool 28, channel 0. -/
theorem h6_28_0_B :
    (kernelRun0_B.sl.v1851 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 6 := rfl

/-- Projection 7 of pool 28, channel 0. -/
theorem h7_28_0_B :
    (kernelRun0_B.sl.v1855 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 7 := rfl

/-- Projection 8 of pool 28, channel 0. -/
theorem h8_28_0_B :
    (kernelRun0_B.sl.v1885 c arg3 harg3 arg4 harg4 arg11 harg11 x2 x3 x10) = hogs (kernelRun0_B.sl.v1545 c arg11 harg11 x10) (kernelRun0_B.sl.v1547 c arg11 harg11 x10) (wAt arg3 harg3 x2) (bAt arg4 harg4 x3) 8 := rfl

/-- All nine projections of pool 28, channel 0. -/
theorem hv_28_0_B :
    ![(kernelRun0_B.sl.v1650 c arg3 harg3 arg4 harg4 arg11 harg11 x2 x3 x10), (kernelRun0_B.sl.v1654 c arg3 harg3 arg4 harg4 arg11 harg11 x2 x3 x10), (kernelRun0_B.sl.v1717 c arg3 harg3 arg4 harg4 arg11 harg11 x2 x3 x10), (kernelRun0_B.sl.v1721 c arg3 harg3 arg4 harg4 arg11 harg11 x2 x3 x10), (kernelRun0_B.sl.v1784 c arg3 harg3 arg4 harg4 arg11 harg11 x2 x3 x10), (kernelRun0_B.sl.v1788 c arg3 harg3 arg4 harg4 arg11 harg11 x2 x3 x10), (kernelRun0_B.sl.v1851 c arg3 harg3 arg4 harg4 arg11 harg11 x2 x3 x10), (kernelRun0_B.sl.v1855 c arg3 harg3 arg4 harg4 arg11 harg11 x2 x3 x10), (kernelRun0_B.sl.v1885 c arg3 harg3 arg4 harg4 arg11 harg11 x2 x3 x10)] = (hogs (sub28 (grad0 (chAt arg11 harg11 x10 0))) (sub28 (grad1 (chAt arg11 harg11 x10 0))) (wAt arg3 harg3 x2) (bAt arg4 harg4 x3)) := by
  funext o
  fin_cases o
  · exact (h0_28_0_B ..).trans (by rw [g0_28_0_B, g1_28_0_B] <;> rfl)
  · exact (h1_28_0_B ..).trans (by rw [g0_28_0_B, g1_28_0_B] <;> rfl)
  · exact (h2_28_0_B ..).trans (by rw [g0_28_0_B, g1_28_0_B] <;> rfl)
  · exact (h3_28_0_B ..).trans (by rw [g0_28_0_B, g1_28_0_B] <;> rfl)
  · exact (h4_28_0_B ..).trans (by rw [g0_28_0_B, g1_28_0_B] <;> rfl)
  · exact (h5_28_0_B ..).trans (by rw [g0_28_0_B, g1_28_0_B] <;> rfl)
  · exact (h6_28_0_B ..).trans (by rw [g0_28_0_B, g1_28_0_B] <;> rfl)
  · exact (h7_28_0_B ..).trans (by rw [g0_28_0_B, g1_28_0_B] <;> rfl)
  · exact (h8_28_0_B ..).trans (by rw [g0_28_0_B, g1_28_0_B] <;> rfl)

/-- Norm factor of pool 28, channel 0. -/
theorem i_28_0_B :
    (kernelRun0_B.sl.v1907 c arg3 harg3 arg4 harg4 arg11 harg11 x2 x3 x10) = invNorm ![(kernelRun0_B.sl.v1650 c arg3 harg3 arg4 harg4 arg11 harg11 x2 x3 x10), (kernelRun0_B.sl.v1654 c arg3 harg3 arg4 harg4 arg11 harg11 x2 x3 x10), (kernelRun0_B.sl.v1717 c arg3 harg3 arg4 harg4 arg11 harg11 x2 x3 x10), (kernelRun0_B.sl.v1721 c arg3 harg3 arg4 harg4 arg11 harg11 x2 x3 x10), (kernelRun0_B.sl.v1784 c arg3 harg3 arg4 harg4 arg11 harg11 x2 x3 x10), (kernelRun0_B.sl.v1788 c arg3 harg3 arg4 harg4 arg11 harg11 x2 x3 x10), (kernelRun0_B.sl.v1851 c arg3 harg3 arg4 harg4 arg11 harg11 x2 x3 x10), (kernelRun0_B.sl.v1855 c arg3 harg3 arg4 harg4 arg11 harg11 x2 x3 x10), (kernelRun0_B.sl.v1885 c arg3 harg3 arg4 harg4 arg11 harg11 x2 x3 x10)] := rfl

/-- Error so far of pool 28, channel 0. -/
theorem e_28_0_B :
    (kernelRun0_B.sl.v1961 c arg3 harg3 arg4 harg4 arg11 harg11 arg14 harg14 x2 x3 x10 x13) = chanErr (zeros S28x28) (hogs (sub28 (grad0 (chAt arg11 harg11 x10 0))) (sub28 (grad1 (chAt arg11 harg11 x10 0))) (wAt arg3 harg3 x2) (bAt arg4 harg4 x3)) (pred28 arg14 harg14 x13 0) := by
  rw [← hv_28_0_B (c := c)]
  unfold chanErr
  rw [← i_28_0_B (c := c)]
  rfl

/-- Horizontal gradient of pool 28, channel 1. -/
theorem g0_28_1_B :
    (kernelRun0_B.sl.v1963 c arg11 harg11 x10) = (sub28 (grad0 (chAt arg11 harg11 x10 1))) := rfl

/-- Vertical gradient of pool 28, channel 1. -/
theorem g1_28_1_B :
    (kernelRun0_B.sl.v1965 c arg11 harg11 x10) = (sub28 (grad1 (chAt arg11 harg11 x10 1))) := rfl

/-- Projection 0 of pool 28, channel 1. -/
theorem h0_28_1_B :
    (kernelRun0_B.sl.v2068 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 0 := rfl

/-- Projection 1 of pool 28, channel 1. -/
theorem h1_28_1_B :
    (kernelRun0_B.sl.v2072 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 1 := rfl

/-- Projection 2 of pool 28, channel 1. -/
theorem h2_28_1_B :
    (kernelRun0_B.sl.v2135 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 2 := rfl

/-- Projection 3 of pool 28, channel 1. -/
theorem h3_28_1_B :
    (kernelRun0_B.sl.v2139 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 3 := rfl

/-- Projection 4 of pool 28, channel 1. -/
theorem h4_28_1_B :
    (kernelRun0_B.sl.v2202 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 4 := rfl

/-- Projection 5 of pool 28, channel 1. -/
theorem h5_28_1_B :
    (kernelRun0_B.sl.v2206 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 5 := rfl

/-- Projection 6 of pool 28, channel 1. -/
theorem h6_28_1_B :
    (kernelRun0_B.sl.v2269 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 6 := rfl

/-- Projection 7 of pool 28, channel 1. -/
theorem h7_28_1_B :
    (kernelRun0_B.sl.v2273 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 7 := rfl

/-- Projection 8 of pool 28, channel 1. -/
theorem h8_28_1_B :
    (kernelRun0_B.sl.v2303 c arg3 harg3 arg4 harg4 arg11 harg11 x2 x3 x10) = hogs (kernelRun0_B.sl.v1963 c arg11 harg11 x10) (kernelRun0_B.sl.v1965 c arg11 harg11 x10) (wAt arg3 harg3 x2) (bAt arg4 harg4 x3) 8 := rfl

/-- All nine projections of pool 28, channel 1. -/
theorem hv_28_1_B :
    ![(kernelRun0_B.sl.v2068 c arg3 harg3 arg4 harg4 arg11 harg11 x2 x3 x10), (kernelRun0_B.sl.v2072 c arg3 harg3 arg4 harg4 arg11 harg11 x2 x3 x10), (kernelRun0_B.sl.v2135 c arg3 harg3 arg4 harg4 arg11 harg11 x2 x3 x10), (kernelRun0_B.sl.v2139 c arg3 harg3 arg4 harg4 arg11 harg11 x2 x3 x10), (kernelRun0_B.sl.v2202 c arg3 harg3 arg4 harg4 arg11 harg11 x2 x3 x10), (kernelRun0_B.sl.v2206 c arg3 harg3 arg4 harg4 arg11 harg11 x2 x3 x10), (kernelRun0_B.sl.v2269 c arg3 harg3 arg4 harg4 arg11 harg11 x2 x3 x10), (kernelRun0_B.sl.v2273 c arg3 harg3 arg4 harg4 arg11 harg11 x2 x3 x10), (kernelRun0_B.sl.v2303 c arg3 harg3 arg4 harg4 arg11 harg11 x2 x3 x10)] = (hogs (sub28 (grad0 (chAt arg11 harg11 x10 1))) (sub28 (grad1 (chAt arg11 harg11 x10 1))) (wAt arg3 harg3 x2) (bAt arg4 harg4 x3)) := by
  funext o
  fin_cases o
  · exact (h0_28_1_B ..).trans (by rw [g0_28_1_B, g1_28_1_B] <;> rfl)
  · exact (h1_28_1_B ..).trans (by rw [g0_28_1_B, g1_28_1_B] <;> rfl)
  · exact (h2_28_1_B ..).trans (by rw [g0_28_1_B, g1_28_1_B] <;> rfl)
  · exact (h3_28_1_B ..).trans (by rw [g0_28_1_B, g1_28_1_B] <;> rfl)
  · exact (h4_28_1_B ..).trans (by rw [g0_28_1_B, g1_28_1_B] <;> rfl)
  · exact (h5_28_1_B ..).trans (by rw [g0_28_1_B, g1_28_1_B] <;> rfl)
  · exact (h6_28_1_B ..).trans (by rw [g0_28_1_B, g1_28_1_B] <;> rfl)
  · exact (h7_28_1_B ..).trans (by rw [g0_28_1_B, g1_28_1_B] <;> rfl)
  · exact (h8_28_1_B ..).trans (by rw [g0_28_1_B, g1_28_1_B] <;> rfl)

/-- Norm factor of pool 28, channel 1. -/
theorem i_28_1_B :
    (kernelRun0_B.sl.v2325 c arg3 harg3 arg4 harg4 arg11 harg11 x2 x3 x10) = invNorm ![(kernelRun0_B.sl.v2068 c arg3 harg3 arg4 harg4 arg11 harg11 x2 x3 x10), (kernelRun0_B.sl.v2072 c arg3 harg3 arg4 harg4 arg11 harg11 x2 x3 x10), (kernelRun0_B.sl.v2135 c arg3 harg3 arg4 harg4 arg11 harg11 x2 x3 x10), (kernelRun0_B.sl.v2139 c arg3 harg3 arg4 harg4 arg11 harg11 x2 x3 x10), (kernelRun0_B.sl.v2202 c arg3 harg3 arg4 harg4 arg11 harg11 x2 x3 x10), (kernelRun0_B.sl.v2206 c arg3 harg3 arg4 harg4 arg11 harg11 x2 x3 x10), (kernelRun0_B.sl.v2269 c arg3 harg3 arg4 harg4 arg11 harg11 x2 x3 x10), (kernelRun0_B.sl.v2273 c arg3 harg3 arg4 harg4 arg11 harg11 x2 x3 x10), (kernelRun0_B.sl.v2303 c arg3 harg3 arg4 harg4 arg11 harg11 x2 x3 x10)] := rfl

/-- Error so far of pool 28, channel 1. -/
theorem e_28_1_B :
    (kernelRun0_B.sl.v2379 c arg3 harg3 arg4 harg4 arg11 harg11 arg14 harg14 x2 x3 x10 x13) = chanErr (kernelRun0_B.sl.v1961 c arg3 harg3 arg4 harg4 arg11 harg11 arg14 harg14 x2 x3 x10 x13) (hogs (sub28 (grad0 (chAt arg11 harg11 x10 1))) (sub28 (grad1 (chAt arg11 harg11 x10 1))) (wAt arg3 harg3 x2) (bAt arg4 harg4 x3)) (pred28 arg14 harg14 x13 1) := by
  rw [← hv_28_1_B (c := c)]
  unfold chanErr
  rw [← i_28_1_B (c := c)]
  rfl

/-- Horizontal gradient of pool 28, channel 2. -/
theorem g0_28_2_B :
    (kernelRun0_B.sl.v2381 c arg11 harg11 x10) = (sub28 (grad0 (chAt arg11 harg11 x10 2))) := rfl

/-- Vertical gradient of pool 28, channel 2. -/
theorem g1_28_2_B :
    (kernelRun0_B.sl.v2383 c arg11 harg11 x10) = (sub28 (grad1 (chAt arg11 harg11 x10 2))) := rfl

/-- Projection 0 of pool 28, channel 2. -/
theorem h0_28_2_B :
    (kernelRun0_B.sl.v2486 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 0 := rfl

/-- Projection 1 of pool 28, channel 2. -/
theorem h1_28_2_B :
    (kernelRun0_B.sl.v2490 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 1 := rfl

/-- Projection 2 of pool 28, channel 2. -/
theorem h2_28_2_B :
    (kernelRun0_B.sl.v2553 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 2 := rfl

/-- Projection 3 of pool 28, channel 2. -/
theorem h3_28_2_B :
    (kernelRun0_B.sl.v2557 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 3 := rfl

/-- Projection 4 of pool 28, channel 2. -/
theorem h4_28_2_B :
    (kernelRun0_B.sl.v2620 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 4 := rfl

/-- Projection 5 of pool 28, channel 2. -/
theorem h5_28_2_B :
    (kernelRun0_B.sl.v2624 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 5 := rfl

/-- Projection 6 of pool 28, channel 2. -/
theorem h6_28_2_B :
    (kernelRun0_B.sl.v2687 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 6 := rfl

/-- Projection 7 of pool 28, channel 2. -/
theorem h7_28_2_B :
    (kernelRun0_B.sl.v2691 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 7 := rfl

/-- Projection 8 of pool 28, channel 2. -/
theorem h8_28_2_B :
    (kernelRun0_B.sl.v2721 c arg3 harg3 arg4 harg4 arg11 harg11 x2 x3 x10) = hogs (kernelRun0_B.sl.v2381 c arg11 harg11 x10) (kernelRun0_B.sl.v2383 c arg11 harg11 x10) (wAt arg3 harg3 x2) (bAt arg4 harg4 x3) 8 := rfl

/-- All nine projections of pool 28, channel 2. -/
theorem hv_28_2_B :
    ![(kernelRun0_B.sl.v2486 c arg3 harg3 arg4 harg4 arg11 harg11 x2 x3 x10), (kernelRun0_B.sl.v2490 c arg3 harg3 arg4 harg4 arg11 harg11 x2 x3 x10), (kernelRun0_B.sl.v2553 c arg3 harg3 arg4 harg4 arg11 harg11 x2 x3 x10), (kernelRun0_B.sl.v2557 c arg3 harg3 arg4 harg4 arg11 harg11 x2 x3 x10), (kernelRun0_B.sl.v2620 c arg3 harg3 arg4 harg4 arg11 harg11 x2 x3 x10), (kernelRun0_B.sl.v2624 c arg3 harg3 arg4 harg4 arg11 harg11 x2 x3 x10), (kernelRun0_B.sl.v2687 c arg3 harg3 arg4 harg4 arg11 harg11 x2 x3 x10), (kernelRun0_B.sl.v2691 c arg3 harg3 arg4 harg4 arg11 harg11 x2 x3 x10), (kernelRun0_B.sl.v2721 c arg3 harg3 arg4 harg4 arg11 harg11 x2 x3 x10)] = (hogs (sub28 (grad0 (chAt arg11 harg11 x10 2))) (sub28 (grad1 (chAt arg11 harg11 x10 2))) (wAt arg3 harg3 x2) (bAt arg4 harg4 x3)) := by
  funext o
  fin_cases o
  · exact (h0_28_2_B ..).trans (by rw [g0_28_2_B, g1_28_2_B] <;> rfl)
  · exact (h1_28_2_B ..).trans (by rw [g0_28_2_B, g1_28_2_B] <;> rfl)
  · exact (h2_28_2_B ..).trans (by rw [g0_28_2_B, g1_28_2_B] <;> rfl)
  · exact (h3_28_2_B ..).trans (by rw [g0_28_2_B, g1_28_2_B] <;> rfl)
  · exact (h4_28_2_B ..).trans (by rw [g0_28_2_B, g1_28_2_B] <;> rfl)
  · exact (h5_28_2_B ..).trans (by rw [g0_28_2_B, g1_28_2_B] <;> rfl)
  · exact (h6_28_2_B ..).trans (by rw [g0_28_2_B, g1_28_2_B] <;> rfl)
  · exact (h7_28_2_B ..).trans (by rw [g0_28_2_B, g1_28_2_B] <;> rfl)
  · exact (h8_28_2_B ..).trans (by rw [g0_28_2_B, g1_28_2_B] <;> rfl)

/-- Norm factor of pool 28, channel 2. -/
theorem i_28_2_B :
    (kernelRun0_B.sl.v2743 c arg3 harg3 arg4 harg4 arg11 harg11 x2 x3 x10) = invNorm ![(kernelRun0_B.sl.v2486 c arg3 harg3 arg4 harg4 arg11 harg11 x2 x3 x10), (kernelRun0_B.sl.v2490 c arg3 harg3 arg4 harg4 arg11 harg11 x2 x3 x10), (kernelRun0_B.sl.v2553 c arg3 harg3 arg4 harg4 arg11 harg11 x2 x3 x10), (kernelRun0_B.sl.v2557 c arg3 harg3 arg4 harg4 arg11 harg11 x2 x3 x10), (kernelRun0_B.sl.v2620 c arg3 harg3 arg4 harg4 arg11 harg11 x2 x3 x10), (kernelRun0_B.sl.v2624 c arg3 harg3 arg4 harg4 arg11 harg11 x2 x3 x10), (kernelRun0_B.sl.v2687 c arg3 harg3 arg4 harg4 arg11 harg11 x2 x3 x10), (kernelRun0_B.sl.v2691 c arg3 harg3 arg4 harg4 arg11 harg11 x2 x3 x10), (kernelRun0_B.sl.v2721 c arg3 harg3 arg4 harg4 arg11 harg11 x2 x3 x10)] := rfl

/-- Mask of pool 28. -/
theorem mk_28_B :
    (kernelRun0_B.sl.v1528 c arg12 harg12 x11) = mask28 (maskAt arg12 harg12 x11) := rfl

/-- Numerator of pool 28. -/
theorem n_28_B :
    (kernelRun0_B.sl.r_184 c arg3 harg3 arg4 harg4 arg11 harg11 arg12 harg12 arg14 harg14 x2 x3 x10 x11 x13) = pool28 (chAt arg11 harg11 x10) (maskAt arg12 harg12 x11) (wAt arg3 harg3 x2) (bAt arg4 harg4 x3) (pred28 arg14 harg14 x13) := by
  unfold pool28 errV
  dsimp only
  rw [← e_28_0_B (c := c), ← e_28_1_B (c := c), ← hv_28_2_B (c := c), ← mk_28_B (c := c)]
  unfold chanErr
  rw [← i_28_2_B (c := c)]
  rfl

/-- Horizontal gradient of pool 56, channel 0. -/
theorem g0_56_0_B :
    (kernelRun0_B.sl.v2882 c arg11 harg11 x10) = (sub56 (grad0 (chAt arg11 harg11 x10 0))) := rfl

/-- Vertical gradient of pool 56, channel 0. -/
theorem g1_56_0_B :
    (kernelRun0_B.sl.v2884 c arg11 harg11 x10) = (sub56 (grad1 (chAt arg11 harg11 x10 0))) := rfl

/-- Projection 0 of pool 56, channel 0. -/
theorem h0_56_0_B :
    (kernelRun0_B.sl.v2987 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 0 := rfl

/-- Projection 1 of pool 56, channel 0. -/
theorem h1_56_0_B :
    (kernelRun0_B.sl.v2991 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 1 := rfl

/-- Projection 2 of pool 56, channel 0. -/
theorem h2_56_0_B :
    (kernelRun0_B.sl.v3054 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 2 := rfl

/-- Projection 3 of pool 56, channel 0. -/
theorem h3_56_0_B :
    (kernelRun0_B.sl.v3058 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 3 := rfl

/-- Projection 4 of pool 56, channel 0. -/
theorem h4_56_0_B :
    (kernelRun0_B.sl.v3121 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 4 := rfl

/-- Projection 5 of pool 56, channel 0. -/
theorem h5_56_0_B :
    (kernelRun0_B.sl.v3125 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 5 := rfl

/-- Projection 6 of pool 56, channel 0. -/
theorem h6_56_0_B :
    (kernelRun0_B.sl.v3188 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 6 := rfl

/-- Projection 7 of pool 56, channel 0. -/
theorem h7_56_0_B :
    (kernelRun0_B.sl.v3192 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 7 := rfl

/-- Projection 8 of pool 56, channel 0. -/
theorem h8_56_0_B :
    (kernelRun0_B.sl.v3222 c arg5 harg5 arg6 harg6 arg11 harg11 x4 x5 x10) = hogs (kernelRun0_B.sl.v2882 c arg11 harg11 x10) (kernelRun0_B.sl.v2884 c arg11 harg11 x10) (wAt arg5 harg5 x4) (bAt arg6 harg6 x5) 8 := rfl

/-- All nine projections of pool 56, channel 0. -/
theorem hv_56_0_B :
    ![(kernelRun0_B.sl.v2987 c arg5 harg5 arg6 harg6 arg11 harg11 x4 x5 x10), (kernelRun0_B.sl.v2991 c arg5 harg5 arg6 harg6 arg11 harg11 x4 x5 x10), (kernelRun0_B.sl.v3054 c arg5 harg5 arg6 harg6 arg11 harg11 x4 x5 x10), (kernelRun0_B.sl.v3058 c arg5 harg5 arg6 harg6 arg11 harg11 x4 x5 x10), (kernelRun0_B.sl.v3121 c arg5 harg5 arg6 harg6 arg11 harg11 x4 x5 x10), (kernelRun0_B.sl.v3125 c arg5 harg5 arg6 harg6 arg11 harg11 x4 x5 x10), (kernelRun0_B.sl.v3188 c arg5 harg5 arg6 harg6 arg11 harg11 x4 x5 x10), (kernelRun0_B.sl.v3192 c arg5 harg5 arg6 harg6 arg11 harg11 x4 x5 x10), (kernelRun0_B.sl.v3222 c arg5 harg5 arg6 harg6 arg11 harg11 x4 x5 x10)] = (hogs (sub56 (grad0 (chAt arg11 harg11 x10 0))) (sub56 (grad1 (chAt arg11 harg11 x10 0))) (wAt arg5 harg5 x4) (bAt arg6 harg6 x5)) := by
  funext o
  fin_cases o
  · exact (h0_56_0_B ..).trans (by rw [g0_56_0_B, g1_56_0_B] <;> rfl)
  · exact (h1_56_0_B ..).trans (by rw [g0_56_0_B, g1_56_0_B] <;> rfl)
  · exact (h2_56_0_B ..).trans (by rw [g0_56_0_B, g1_56_0_B] <;> rfl)
  · exact (h3_56_0_B ..).trans (by rw [g0_56_0_B, g1_56_0_B] <;> rfl)
  · exact (h4_56_0_B ..).trans (by rw [g0_56_0_B, g1_56_0_B] <;> rfl)
  · exact (h5_56_0_B ..).trans (by rw [g0_56_0_B, g1_56_0_B] <;> rfl)
  · exact (h6_56_0_B ..).trans (by rw [g0_56_0_B, g1_56_0_B] <;> rfl)
  · exact (h7_56_0_B ..).trans (by rw [g0_56_0_B, g1_56_0_B] <;> rfl)
  · exact (h8_56_0_B ..).trans (by rw [g0_56_0_B, g1_56_0_B] <;> rfl)

/-- Norm factor of pool 56, channel 0. -/
theorem i_56_0_B :
    (kernelRun0_B.sl.v3244 c arg5 harg5 arg6 harg6 arg11 harg11 x4 x5 x10) = invNorm ![(kernelRun0_B.sl.v2987 c arg5 harg5 arg6 harg6 arg11 harg11 x4 x5 x10), (kernelRun0_B.sl.v2991 c arg5 harg5 arg6 harg6 arg11 harg11 x4 x5 x10), (kernelRun0_B.sl.v3054 c arg5 harg5 arg6 harg6 arg11 harg11 x4 x5 x10), (kernelRun0_B.sl.v3058 c arg5 harg5 arg6 harg6 arg11 harg11 x4 x5 x10), (kernelRun0_B.sl.v3121 c arg5 harg5 arg6 harg6 arg11 harg11 x4 x5 x10), (kernelRun0_B.sl.v3125 c arg5 harg5 arg6 harg6 arg11 harg11 x4 x5 x10), (kernelRun0_B.sl.v3188 c arg5 harg5 arg6 harg6 arg11 harg11 x4 x5 x10), (kernelRun0_B.sl.v3192 c arg5 harg5 arg6 harg6 arg11 harg11 x4 x5 x10), (kernelRun0_B.sl.v3222 c arg5 harg5 arg6 harg6 arg11 harg11 x4 x5 x10)] := rfl

/-- Error so far of pool 56, channel 0. -/
theorem e_56_0_B :
    (kernelRun0_B.sl.v3298 c arg5 harg5 arg6 harg6 arg11 harg11 arg15 harg15 x4 x5 x10 x14) = chanErr (zeros S56x56) (hogs (sub56 (grad0 (chAt arg11 harg11 x10 0))) (sub56 (grad1 (chAt arg11 harg11 x10 0))) (wAt arg5 harg5 x4) (bAt arg6 harg6 x5)) (pred56 arg15 harg15 x14 0) := by
  rw [← hv_56_0_B (c := c)]
  unfold chanErr
  rw [← i_56_0_B (c := c)]
  rfl

/-- Horizontal gradient of pool 56, channel 1. -/
theorem g0_56_1_B :
    (kernelRun0_B.sl.v3300 c arg11 harg11 x10) = (sub56 (grad0 (chAt arg11 harg11 x10 1))) := rfl

/-- Vertical gradient of pool 56, channel 1. -/
theorem g1_56_1_B :
    (kernelRun0_B.sl.v3302 c arg11 harg11 x10) = (sub56 (grad1 (chAt arg11 harg11 x10 1))) := rfl

/-- Projection 0 of pool 56, channel 1. -/
theorem h0_56_1_B :
    (kernelRun0_B.sl.v3405 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 0 := rfl

/-- Projection 1 of pool 56, channel 1. -/
theorem h1_56_1_B :
    (kernelRun0_B.sl.v3409 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 1 := rfl

/-- Projection 2 of pool 56, channel 1. -/
theorem h2_56_1_B :
    (kernelRun0_B.sl.v3472 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 2 := rfl

/-- Projection 3 of pool 56, channel 1. -/
theorem h3_56_1_B :
    (kernelRun0_B.sl.v3476 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 3 := rfl

/-- Projection 4 of pool 56, channel 1. -/
theorem h4_56_1_B :
    (kernelRun0_B.sl.v3539 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 4 := rfl

/-- Projection 5 of pool 56, channel 1. -/
theorem h5_56_1_B :
    (kernelRun0_B.sl.v3543 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 5 := rfl

/-- Projection 6 of pool 56, channel 1. -/
theorem h6_56_1_B :
    (kernelRun0_B.sl.v3606 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 6 := rfl

/-- Projection 7 of pool 56, channel 1. -/
theorem h7_56_1_B :
    (kernelRun0_B.sl.v3610 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 7 := rfl

/-- Projection 8 of pool 56, channel 1. -/
theorem h8_56_1_B :
    (kernelRun0_B.sl.v3640 c arg5 harg5 arg6 harg6 arg11 harg11 x4 x5 x10) = hogs (kernelRun0_B.sl.v3300 c arg11 harg11 x10) (kernelRun0_B.sl.v3302 c arg11 harg11 x10) (wAt arg5 harg5 x4) (bAt arg6 harg6 x5) 8 := rfl

/-- All nine projections of pool 56, channel 1. -/
theorem hv_56_1_B :
    ![(kernelRun0_B.sl.v3405 c arg5 harg5 arg6 harg6 arg11 harg11 x4 x5 x10), (kernelRun0_B.sl.v3409 c arg5 harg5 arg6 harg6 arg11 harg11 x4 x5 x10), (kernelRun0_B.sl.v3472 c arg5 harg5 arg6 harg6 arg11 harg11 x4 x5 x10), (kernelRun0_B.sl.v3476 c arg5 harg5 arg6 harg6 arg11 harg11 x4 x5 x10), (kernelRun0_B.sl.v3539 c arg5 harg5 arg6 harg6 arg11 harg11 x4 x5 x10), (kernelRun0_B.sl.v3543 c arg5 harg5 arg6 harg6 arg11 harg11 x4 x5 x10), (kernelRun0_B.sl.v3606 c arg5 harg5 arg6 harg6 arg11 harg11 x4 x5 x10), (kernelRun0_B.sl.v3610 c arg5 harg5 arg6 harg6 arg11 harg11 x4 x5 x10), (kernelRun0_B.sl.v3640 c arg5 harg5 arg6 harg6 arg11 harg11 x4 x5 x10)] = (hogs (sub56 (grad0 (chAt arg11 harg11 x10 1))) (sub56 (grad1 (chAt arg11 harg11 x10 1))) (wAt arg5 harg5 x4) (bAt arg6 harg6 x5)) := by
  funext o
  fin_cases o
  · exact (h0_56_1_B ..).trans (by rw [g0_56_1_B, g1_56_1_B] <;> rfl)
  · exact (h1_56_1_B ..).trans (by rw [g0_56_1_B, g1_56_1_B] <;> rfl)
  · exact (h2_56_1_B ..).trans (by rw [g0_56_1_B, g1_56_1_B] <;> rfl)
  · exact (h3_56_1_B ..).trans (by rw [g0_56_1_B, g1_56_1_B] <;> rfl)
  · exact (h4_56_1_B ..).trans (by rw [g0_56_1_B, g1_56_1_B] <;> rfl)
  · exact (h5_56_1_B ..).trans (by rw [g0_56_1_B, g1_56_1_B] <;> rfl)
  · exact (h6_56_1_B ..).trans (by rw [g0_56_1_B, g1_56_1_B] <;> rfl)
  · exact (h7_56_1_B ..).trans (by rw [g0_56_1_B, g1_56_1_B] <;> rfl)
  · exact (h8_56_1_B ..).trans (by rw [g0_56_1_B, g1_56_1_B] <;> rfl)

/-- Norm factor of pool 56, channel 1. -/
theorem i_56_1_B :
    (kernelRun0_B.sl.v3662 c arg5 harg5 arg6 harg6 arg11 harg11 x4 x5 x10) = invNorm ![(kernelRun0_B.sl.v3405 c arg5 harg5 arg6 harg6 arg11 harg11 x4 x5 x10), (kernelRun0_B.sl.v3409 c arg5 harg5 arg6 harg6 arg11 harg11 x4 x5 x10), (kernelRun0_B.sl.v3472 c arg5 harg5 arg6 harg6 arg11 harg11 x4 x5 x10), (kernelRun0_B.sl.v3476 c arg5 harg5 arg6 harg6 arg11 harg11 x4 x5 x10), (kernelRun0_B.sl.v3539 c arg5 harg5 arg6 harg6 arg11 harg11 x4 x5 x10), (kernelRun0_B.sl.v3543 c arg5 harg5 arg6 harg6 arg11 harg11 x4 x5 x10), (kernelRun0_B.sl.v3606 c arg5 harg5 arg6 harg6 arg11 harg11 x4 x5 x10), (kernelRun0_B.sl.v3610 c arg5 harg5 arg6 harg6 arg11 harg11 x4 x5 x10), (kernelRun0_B.sl.v3640 c arg5 harg5 arg6 harg6 arg11 harg11 x4 x5 x10)] := rfl

/-- Error so far of pool 56, channel 1. -/
theorem e_56_1_B :
    (kernelRun0_B.sl.v3716 c arg5 harg5 arg6 harg6 arg11 harg11 arg15 harg15 x4 x5 x10 x14) = chanErr (kernelRun0_B.sl.v3298 c arg5 harg5 arg6 harg6 arg11 harg11 arg15 harg15 x4 x5 x10 x14) (hogs (sub56 (grad0 (chAt arg11 harg11 x10 1))) (sub56 (grad1 (chAt arg11 harg11 x10 1))) (wAt arg5 harg5 x4) (bAt arg6 harg6 x5)) (pred56 arg15 harg15 x14 1) := by
  rw [← hv_56_1_B (c := c)]
  unfold chanErr
  rw [← i_56_1_B (c := c)]
  rfl

/-- Horizontal gradient of pool 56, channel 2. -/
theorem g0_56_2_B :
    (kernelRun0_B.sl.v3718 c arg11 harg11 x10) = (sub56 (grad0 (chAt arg11 harg11 x10 2))) := rfl

/-- Vertical gradient of pool 56, channel 2. -/
theorem g1_56_2_B :
    (kernelRun0_B.sl.v3720 c arg11 harg11 x10) = (sub56 (grad1 (chAt arg11 harg11 x10 2))) := rfl

/-- Projection 0 of pool 56, channel 2. -/
theorem h0_56_2_B :
    (kernelRun0_B.sl.v3823 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 0 := rfl

/-- Projection 1 of pool 56, channel 2. -/
theorem h1_56_2_B :
    (kernelRun0_B.sl.v3827 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 1 := rfl

/-- Projection 2 of pool 56, channel 2. -/
theorem h2_56_2_B :
    (kernelRun0_B.sl.v3890 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 2 := rfl

/-- Projection 3 of pool 56, channel 2. -/
theorem h3_56_2_B :
    (kernelRun0_B.sl.v3894 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 3 := rfl

/-- Projection 4 of pool 56, channel 2. -/
theorem h4_56_2_B :
    (kernelRun0_B.sl.v3957 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 4 := rfl

/-- Projection 5 of pool 56, channel 2. -/
theorem h5_56_2_B :
    (kernelRun0_B.sl.v3961 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 5 := rfl

/-- Projection 6 of pool 56, channel 2. -/
theorem h6_56_2_B :
    (kernelRun0_B.sl.v4024 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 6 := rfl

/-- Projection 7 of pool 56, channel 2. -/
theorem h7_56_2_B :
    (kernelRun0_B.sl.v4028 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 7 := rfl

/-- Projection 8 of pool 56, channel 2. -/
theorem h8_56_2_B :
    (kernelRun0_B.sl.v4058 c arg5 harg5 arg6 harg6 arg11 harg11 x4 x5 x10) = hogs (kernelRun0_B.sl.v3718 c arg11 harg11 x10) (kernelRun0_B.sl.v3720 c arg11 harg11 x10) (wAt arg5 harg5 x4) (bAt arg6 harg6 x5) 8 := rfl

/-- All nine projections of pool 56, channel 2. -/
theorem hv_56_2_B :
    ![(kernelRun0_B.sl.v3823 c arg5 harg5 arg6 harg6 arg11 harg11 x4 x5 x10), (kernelRun0_B.sl.v3827 c arg5 harg5 arg6 harg6 arg11 harg11 x4 x5 x10), (kernelRun0_B.sl.v3890 c arg5 harg5 arg6 harg6 arg11 harg11 x4 x5 x10), (kernelRun0_B.sl.v3894 c arg5 harg5 arg6 harg6 arg11 harg11 x4 x5 x10), (kernelRun0_B.sl.v3957 c arg5 harg5 arg6 harg6 arg11 harg11 x4 x5 x10), (kernelRun0_B.sl.v3961 c arg5 harg5 arg6 harg6 arg11 harg11 x4 x5 x10), (kernelRun0_B.sl.v4024 c arg5 harg5 arg6 harg6 arg11 harg11 x4 x5 x10), (kernelRun0_B.sl.v4028 c arg5 harg5 arg6 harg6 arg11 harg11 x4 x5 x10), (kernelRun0_B.sl.v4058 c arg5 harg5 arg6 harg6 arg11 harg11 x4 x5 x10)] = (hogs (sub56 (grad0 (chAt arg11 harg11 x10 2))) (sub56 (grad1 (chAt arg11 harg11 x10 2))) (wAt arg5 harg5 x4) (bAt arg6 harg6 x5)) := by
  funext o
  fin_cases o
  · exact (h0_56_2_B ..).trans (by rw [g0_56_2_B, g1_56_2_B] <;> rfl)
  · exact (h1_56_2_B ..).trans (by rw [g0_56_2_B, g1_56_2_B] <;> rfl)
  · exact (h2_56_2_B ..).trans (by rw [g0_56_2_B, g1_56_2_B] <;> rfl)
  · exact (h3_56_2_B ..).trans (by rw [g0_56_2_B, g1_56_2_B] <;> rfl)
  · exact (h4_56_2_B ..).trans (by rw [g0_56_2_B, g1_56_2_B] <;> rfl)
  · exact (h5_56_2_B ..).trans (by rw [g0_56_2_B, g1_56_2_B] <;> rfl)
  · exact (h6_56_2_B ..).trans (by rw [g0_56_2_B, g1_56_2_B] <;> rfl)
  · exact (h7_56_2_B ..).trans (by rw [g0_56_2_B, g1_56_2_B] <;> rfl)
  · exact (h8_56_2_B ..).trans (by rw [g0_56_2_B, g1_56_2_B] <;> rfl)

/-- Norm factor of pool 56, channel 2. -/
theorem i_56_2_B :
    (kernelRun0_B.sl.v4080 c arg5 harg5 arg6 harg6 arg11 harg11 x4 x5 x10) = invNorm ![(kernelRun0_B.sl.v3823 c arg5 harg5 arg6 harg6 arg11 harg11 x4 x5 x10), (kernelRun0_B.sl.v3827 c arg5 harg5 arg6 harg6 arg11 harg11 x4 x5 x10), (kernelRun0_B.sl.v3890 c arg5 harg5 arg6 harg6 arg11 harg11 x4 x5 x10), (kernelRun0_B.sl.v3894 c arg5 harg5 arg6 harg6 arg11 harg11 x4 x5 x10), (kernelRun0_B.sl.v3957 c arg5 harg5 arg6 harg6 arg11 harg11 x4 x5 x10), (kernelRun0_B.sl.v3961 c arg5 harg5 arg6 harg6 arg11 harg11 x4 x5 x10), (kernelRun0_B.sl.v4024 c arg5 harg5 arg6 harg6 arg11 harg11 x4 x5 x10), (kernelRun0_B.sl.v4028 c arg5 harg5 arg6 harg6 arg11 harg11 x4 x5 x10), (kernelRun0_B.sl.v4058 c arg5 harg5 arg6 harg6 arg11 harg11 x4 x5 x10)] := rfl

/-- Mask of pool 56. -/
theorem mk_56_B :
    (kernelRun0_B.sl.v2865 c arg12 harg12 x11) = mask56 (maskAt arg12 harg12 x11) := rfl

/-- Numerator of pool 56. -/
theorem n_56_B :
    (kernelRun0_B.sl.r_275 c arg5 harg5 arg6 harg6 arg11 harg11 arg12 harg12 arg15 harg15 x4 x5 x10 x11 x14) = pool56 (chAt arg11 harg11 x10) (maskAt arg12 harg12 x11) (wAt arg5 harg5 x4) (bAt arg6 harg6 x5) (pred56 arg15 harg15 x14) := by
  unfold pool56 errV
  dsimp only
  rw [← e_56_0_B (c := c), ← e_56_1_B (c := c), ← hv_56_2_B (c := c), ← mk_56_B (c := c)]
  unfold chanErr
  rw [← i_56_2_B (c := c)]
  rfl

/-- Horizontal gradient of pool 112, channel 0. -/
theorem g0_112_0_B :
    (kernelRun0_B.sl.v4219 c arg11 harg11 x10) = (sub112 (grad0 (chAt arg11 harg11 x10 0))) := rfl

/-- Vertical gradient of pool 112, channel 0. -/
theorem g1_112_0_B :
    (kernelRun0_B.sl.v4221 c arg11 harg11 x10) = (sub112 (grad1 (chAt arg11 harg11 x10 0))) := rfl

/-- Projection 0 of pool 112, channel 0. -/
theorem h0_112_0_B :
    (kernelRun0_B.sl.v4324 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 0 := rfl

/-- Projection 1 of pool 112, channel 0. -/
theorem h1_112_0_B :
    (kernelRun0_B.sl.v4328 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 1 := rfl

/-- Projection 2 of pool 112, channel 0. -/
theorem h2_112_0_B :
    (kernelRun0_B.sl.v4391 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 2 := rfl

/-- Projection 3 of pool 112, channel 0. -/
theorem h3_112_0_B :
    (kernelRun0_B.sl.v4395 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 3 := rfl

/-- Projection 4 of pool 112, channel 0. -/
theorem h4_112_0_B :
    (kernelRun0_B.sl.v4458 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 4 := rfl

/-- Projection 5 of pool 112, channel 0. -/
theorem h5_112_0_B :
    (kernelRun0_B.sl.v4462 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 5 := rfl

/-- Projection 6 of pool 112, channel 0. -/
theorem h6_112_0_B :
    (kernelRun0_B.sl.v4525 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 6 := rfl

/-- Projection 7 of pool 112, channel 0. -/
theorem h7_112_0_B :
    (kernelRun0_B.sl.v4529 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 7 := rfl

/-- Projection 8 of pool 112, channel 0. -/
theorem h8_112_0_B :
    (kernelRun0_B.sl.v4559 c arg7 harg7 arg8 harg8 arg11 harg11 x6 x7 x10) = hogs (kernelRun0_B.sl.v4219 c arg11 harg11 x10) (kernelRun0_B.sl.v4221 c arg11 harg11 x10) (wAt arg7 harg7 x6) (bAt arg8 harg8 x7) 8 := rfl

/-- All nine projections of pool 112, channel 0. -/
theorem hv_112_0_B :
    ![(kernelRun0_B.sl.v4324 c arg7 harg7 arg8 harg8 arg11 harg11 x6 x7 x10), (kernelRun0_B.sl.v4328 c arg7 harg7 arg8 harg8 arg11 harg11 x6 x7 x10), (kernelRun0_B.sl.v4391 c arg7 harg7 arg8 harg8 arg11 harg11 x6 x7 x10), (kernelRun0_B.sl.v4395 c arg7 harg7 arg8 harg8 arg11 harg11 x6 x7 x10), (kernelRun0_B.sl.v4458 c arg7 harg7 arg8 harg8 arg11 harg11 x6 x7 x10), (kernelRun0_B.sl.v4462 c arg7 harg7 arg8 harg8 arg11 harg11 x6 x7 x10), (kernelRun0_B.sl.v4525 c arg7 harg7 arg8 harg8 arg11 harg11 x6 x7 x10), (kernelRun0_B.sl.v4529 c arg7 harg7 arg8 harg8 arg11 harg11 x6 x7 x10), (kernelRun0_B.sl.v4559 c arg7 harg7 arg8 harg8 arg11 harg11 x6 x7 x10)] = (hogs (sub112 (grad0 (chAt arg11 harg11 x10 0))) (sub112 (grad1 (chAt arg11 harg11 x10 0))) (wAt arg7 harg7 x6) (bAt arg8 harg8 x7)) := by
  funext o
  fin_cases o
  · exact (h0_112_0_B ..).trans (by rw [g0_112_0_B, g1_112_0_B] <;> rfl)
  · exact (h1_112_0_B ..).trans (by rw [g0_112_0_B, g1_112_0_B] <;> rfl)
  · exact (h2_112_0_B ..).trans (by rw [g0_112_0_B, g1_112_0_B] <;> rfl)
  · exact (h3_112_0_B ..).trans (by rw [g0_112_0_B, g1_112_0_B] <;> rfl)
  · exact (h4_112_0_B ..).trans (by rw [g0_112_0_B, g1_112_0_B] <;> rfl)
  · exact (h5_112_0_B ..).trans (by rw [g0_112_0_B, g1_112_0_B] <;> rfl)
  · exact (h6_112_0_B ..).trans (by rw [g0_112_0_B, g1_112_0_B] <;> rfl)
  · exact (h7_112_0_B ..).trans (by rw [g0_112_0_B, g1_112_0_B] <;> rfl)
  · exact (h8_112_0_B ..).trans (by rw [g0_112_0_B, g1_112_0_B] <;> rfl)

/-- Norm factor of pool 112, channel 0. -/
theorem i_112_0_B :
    (kernelRun0_B.sl.v4581 c arg7 harg7 arg8 harg8 arg11 harg11 x6 x7 x10) = invNorm ![(kernelRun0_B.sl.v4324 c arg7 harg7 arg8 harg8 arg11 harg11 x6 x7 x10), (kernelRun0_B.sl.v4328 c arg7 harg7 arg8 harg8 arg11 harg11 x6 x7 x10), (kernelRun0_B.sl.v4391 c arg7 harg7 arg8 harg8 arg11 harg11 x6 x7 x10), (kernelRun0_B.sl.v4395 c arg7 harg7 arg8 harg8 arg11 harg11 x6 x7 x10), (kernelRun0_B.sl.v4458 c arg7 harg7 arg8 harg8 arg11 harg11 x6 x7 x10), (kernelRun0_B.sl.v4462 c arg7 harg7 arg8 harg8 arg11 harg11 x6 x7 x10), (kernelRun0_B.sl.v4525 c arg7 harg7 arg8 harg8 arg11 harg11 x6 x7 x10), (kernelRun0_B.sl.v4529 c arg7 harg7 arg8 harg8 arg11 harg11 x6 x7 x10), (kernelRun0_B.sl.v4559 c arg7 harg7 arg8 harg8 arg11 harg11 x6 x7 x10)] := rfl

/-- Error so far of pool 112, channel 0. -/
theorem e_112_0_B :
    (kernelRun0_B.sl.v4635 c arg7 harg7 arg8 harg8 arg11 harg11 arg16 harg16 x6 x7 x10 x15) = chanErr (zeros S112x112) (hogs (sub112 (grad0 (chAt arg11 harg11 x10 0))) (sub112 (grad1 (chAt arg11 harg11 x10 0))) (wAt arg7 harg7 x6) (bAt arg8 harg8 x7)) (pred112 arg16 harg16 x15 0) := by
  rw [← hv_112_0_B (c := c)]
  unfold chanErr
  rw [← i_112_0_B (c := c)]
  rfl

/-- Horizontal gradient of pool 112, channel 1. -/
theorem g0_112_1_B :
    (kernelRun0_B.sl.v4637 c arg11 harg11 x10) = (sub112 (grad0 (chAt arg11 harg11 x10 1))) := rfl

/-- Vertical gradient of pool 112, channel 1. -/
theorem g1_112_1_B :
    (kernelRun0_B.sl.v4639 c arg11 harg11 x10) = (sub112 (grad1 (chAt arg11 harg11 x10 1))) := rfl

/-- Projection 0 of pool 112, channel 1. -/
theorem h0_112_1_B :
    (kernelRun0_B.sl.v4742 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 0 := rfl

/-- Projection 1 of pool 112, channel 1. -/
theorem h1_112_1_B :
    (kernelRun0_B.sl.v4746 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 1 := rfl

/-- Projection 2 of pool 112, channel 1. -/
theorem h2_112_1_B :
    (kernelRun0_B.sl.v4809 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 2 := rfl

/-- Projection 3 of pool 112, channel 1. -/
theorem h3_112_1_B :
    (kernelRun0_B.sl.v4813 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 3 := rfl

/-- Projection 4 of pool 112, channel 1. -/
theorem h4_112_1_B :
    (kernelRun0_B.sl.v4876 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 4 := rfl

/-- Projection 5 of pool 112, channel 1. -/
theorem h5_112_1_B :
    (kernelRun0_B.sl.v4880 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 5 := rfl

/-- Projection 6 of pool 112, channel 1. -/
theorem h6_112_1_B :
    (kernelRun0_B.sl.v4943 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 6 := rfl

/-- Projection 7 of pool 112, channel 1. -/
theorem h7_112_1_B :
    (kernelRun0_B.sl.v4947 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 7 := rfl

/-- Projection 8 of pool 112, channel 1. -/
theorem h8_112_1_B :
    (kernelRun0_B.sl.v4977 c arg7 harg7 arg8 harg8 arg11 harg11 x6 x7 x10) = hogs (kernelRun0_B.sl.v4637 c arg11 harg11 x10) (kernelRun0_B.sl.v4639 c arg11 harg11 x10) (wAt arg7 harg7 x6) (bAt arg8 harg8 x7) 8 := rfl

/-- All nine projections of pool 112, channel 1. -/
theorem hv_112_1_B :
    ![(kernelRun0_B.sl.v4742 c arg7 harg7 arg8 harg8 arg11 harg11 x6 x7 x10), (kernelRun0_B.sl.v4746 c arg7 harg7 arg8 harg8 arg11 harg11 x6 x7 x10), (kernelRun0_B.sl.v4809 c arg7 harg7 arg8 harg8 arg11 harg11 x6 x7 x10), (kernelRun0_B.sl.v4813 c arg7 harg7 arg8 harg8 arg11 harg11 x6 x7 x10), (kernelRun0_B.sl.v4876 c arg7 harg7 arg8 harg8 arg11 harg11 x6 x7 x10), (kernelRun0_B.sl.v4880 c arg7 harg7 arg8 harg8 arg11 harg11 x6 x7 x10), (kernelRun0_B.sl.v4943 c arg7 harg7 arg8 harg8 arg11 harg11 x6 x7 x10), (kernelRun0_B.sl.v4947 c arg7 harg7 arg8 harg8 arg11 harg11 x6 x7 x10), (kernelRun0_B.sl.v4977 c arg7 harg7 arg8 harg8 arg11 harg11 x6 x7 x10)] = (hogs (sub112 (grad0 (chAt arg11 harg11 x10 1))) (sub112 (grad1 (chAt arg11 harg11 x10 1))) (wAt arg7 harg7 x6) (bAt arg8 harg8 x7)) := by
  funext o
  fin_cases o
  · exact (h0_112_1_B ..).trans (by rw [g0_112_1_B, g1_112_1_B] <;> rfl)
  · exact (h1_112_1_B ..).trans (by rw [g0_112_1_B, g1_112_1_B] <;> rfl)
  · exact (h2_112_1_B ..).trans (by rw [g0_112_1_B, g1_112_1_B] <;> rfl)
  · exact (h3_112_1_B ..).trans (by rw [g0_112_1_B, g1_112_1_B] <;> rfl)
  · exact (h4_112_1_B ..).trans (by rw [g0_112_1_B, g1_112_1_B] <;> rfl)
  · exact (h5_112_1_B ..).trans (by rw [g0_112_1_B, g1_112_1_B] <;> rfl)
  · exact (h6_112_1_B ..).trans (by rw [g0_112_1_B, g1_112_1_B] <;> rfl)
  · exact (h7_112_1_B ..).trans (by rw [g0_112_1_B, g1_112_1_B] <;> rfl)
  · exact (h8_112_1_B ..).trans (by rw [g0_112_1_B, g1_112_1_B] <;> rfl)

/-- Norm factor of pool 112, channel 1. -/
theorem i_112_1_B :
    (kernelRun0_B.sl.v4999 c arg7 harg7 arg8 harg8 arg11 harg11 x6 x7 x10) = invNorm ![(kernelRun0_B.sl.v4742 c arg7 harg7 arg8 harg8 arg11 harg11 x6 x7 x10), (kernelRun0_B.sl.v4746 c arg7 harg7 arg8 harg8 arg11 harg11 x6 x7 x10), (kernelRun0_B.sl.v4809 c arg7 harg7 arg8 harg8 arg11 harg11 x6 x7 x10), (kernelRun0_B.sl.v4813 c arg7 harg7 arg8 harg8 arg11 harg11 x6 x7 x10), (kernelRun0_B.sl.v4876 c arg7 harg7 arg8 harg8 arg11 harg11 x6 x7 x10), (kernelRun0_B.sl.v4880 c arg7 harg7 arg8 harg8 arg11 harg11 x6 x7 x10), (kernelRun0_B.sl.v4943 c arg7 harg7 arg8 harg8 arg11 harg11 x6 x7 x10), (kernelRun0_B.sl.v4947 c arg7 harg7 arg8 harg8 arg11 harg11 x6 x7 x10), (kernelRun0_B.sl.v4977 c arg7 harg7 arg8 harg8 arg11 harg11 x6 x7 x10)] := rfl

/-- Error so far of pool 112, channel 1. -/
theorem e_112_1_B :
    (kernelRun0_B.sl.v5053 c arg7 harg7 arg8 harg8 arg11 harg11 arg16 harg16 x6 x7 x10 x15) = chanErr (kernelRun0_B.sl.v4635 c arg7 harg7 arg8 harg8 arg11 harg11 arg16 harg16 x6 x7 x10 x15) (hogs (sub112 (grad0 (chAt arg11 harg11 x10 1))) (sub112 (grad1 (chAt arg11 harg11 x10 1))) (wAt arg7 harg7 x6) (bAt arg8 harg8 x7)) (pred112 arg16 harg16 x15 1) := by
  rw [← hv_112_1_B (c := c)]
  unfold chanErr
  rw [← i_112_1_B (c := c)]
  rfl

/-- Horizontal gradient of pool 112, channel 2. -/
theorem g0_112_2_B :
    (kernelRun0_B.sl.v5055 c arg11 harg11 x10) = (sub112 (grad0 (chAt arg11 harg11 x10 2))) := rfl

/-- Vertical gradient of pool 112, channel 2. -/
theorem g1_112_2_B :
    (kernelRun0_B.sl.v5057 c arg11 harg11 x10) = (sub112 (grad1 (chAt arg11 harg11 x10 2))) := rfl

/-- Projection 0 of pool 112, channel 2. -/
theorem h0_112_2_B :
    (kernelRun0_B.sl.v5160 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 0 := rfl

/-- Projection 1 of pool 112, channel 2. -/
theorem h1_112_2_B :
    (kernelRun0_B.sl.v5164 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 1 := rfl

/-- Projection 2 of pool 112, channel 2. -/
theorem h2_112_2_B :
    (kernelRun0_B.sl.v5227 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 2 := rfl

/-- Projection 3 of pool 112, channel 2. -/
theorem h3_112_2_B :
    (kernelRun0_B.sl.v5231 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 3 := rfl

/-- Projection 4 of pool 112, channel 2. -/
theorem h4_112_2_B :
    (kernelRun0_B.sl.v5294 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 4 := rfl

/-- Projection 5 of pool 112, channel 2. -/
theorem h5_112_2_B :
    (kernelRun0_B.sl.v5298 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 5 := rfl

/-- Projection 6 of pool 112, channel 2. -/
theorem h6_112_2_B :
    (kernelRun0_B.sl.v5361 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 6 := rfl

/-- Projection 7 of pool 112, channel 2. -/
theorem h7_112_2_B :
    (kernelRun0_B.sl.v5365 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 7 := rfl

/-- Projection 8 of pool 112, channel 2. -/
theorem h8_112_2_B :
    (kernelRun0_B.sl.v5395 c arg7 harg7 arg8 harg8 arg11 harg11 x6 x7 x10) = hogs (kernelRun0_B.sl.v5055 c arg11 harg11 x10) (kernelRun0_B.sl.v5057 c arg11 harg11 x10) (wAt arg7 harg7 x6) (bAt arg8 harg8 x7) 8 := rfl

/-- All nine projections of pool 112, channel 2. -/
theorem hv_112_2_B :
    ![(kernelRun0_B.sl.v5160 c arg7 harg7 arg8 harg8 arg11 harg11 x6 x7 x10), (kernelRun0_B.sl.v5164 c arg7 harg7 arg8 harg8 arg11 harg11 x6 x7 x10), (kernelRun0_B.sl.v5227 c arg7 harg7 arg8 harg8 arg11 harg11 x6 x7 x10), (kernelRun0_B.sl.v5231 c arg7 harg7 arg8 harg8 arg11 harg11 x6 x7 x10), (kernelRun0_B.sl.v5294 c arg7 harg7 arg8 harg8 arg11 harg11 x6 x7 x10), (kernelRun0_B.sl.v5298 c arg7 harg7 arg8 harg8 arg11 harg11 x6 x7 x10), (kernelRun0_B.sl.v5361 c arg7 harg7 arg8 harg8 arg11 harg11 x6 x7 x10), (kernelRun0_B.sl.v5365 c arg7 harg7 arg8 harg8 arg11 harg11 x6 x7 x10), (kernelRun0_B.sl.v5395 c arg7 harg7 arg8 harg8 arg11 harg11 x6 x7 x10)] = (hogs (sub112 (grad0 (chAt arg11 harg11 x10 2))) (sub112 (grad1 (chAt arg11 harg11 x10 2))) (wAt arg7 harg7 x6) (bAt arg8 harg8 x7)) := by
  funext o
  fin_cases o
  · exact (h0_112_2_B ..).trans (by rw [g0_112_2_B, g1_112_2_B] <;> rfl)
  · exact (h1_112_2_B ..).trans (by rw [g0_112_2_B, g1_112_2_B] <;> rfl)
  · exact (h2_112_2_B ..).trans (by rw [g0_112_2_B, g1_112_2_B] <;> rfl)
  · exact (h3_112_2_B ..).trans (by rw [g0_112_2_B, g1_112_2_B] <;> rfl)
  · exact (h4_112_2_B ..).trans (by rw [g0_112_2_B, g1_112_2_B] <;> rfl)
  · exact (h5_112_2_B ..).trans (by rw [g0_112_2_B, g1_112_2_B] <;> rfl)
  · exact (h6_112_2_B ..).trans (by rw [g0_112_2_B, g1_112_2_B] <;> rfl)
  · exact (h7_112_2_B ..).trans (by rw [g0_112_2_B, g1_112_2_B] <;> rfl)
  · exact (h8_112_2_B ..).trans (by rw [g0_112_2_B, g1_112_2_B] <;> rfl)

/-- Norm factor of pool 112, channel 2. -/
theorem i_112_2_B :
    (kernelRun0_B.sl.v5417 c arg7 harg7 arg8 harg8 arg11 harg11 x6 x7 x10) = invNorm ![(kernelRun0_B.sl.v5160 c arg7 harg7 arg8 harg8 arg11 harg11 x6 x7 x10), (kernelRun0_B.sl.v5164 c arg7 harg7 arg8 harg8 arg11 harg11 x6 x7 x10), (kernelRun0_B.sl.v5227 c arg7 harg7 arg8 harg8 arg11 harg11 x6 x7 x10), (kernelRun0_B.sl.v5231 c arg7 harg7 arg8 harg8 arg11 harg11 x6 x7 x10), (kernelRun0_B.sl.v5294 c arg7 harg7 arg8 harg8 arg11 harg11 x6 x7 x10), (kernelRun0_B.sl.v5298 c arg7 harg7 arg8 harg8 arg11 harg11 x6 x7 x10), (kernelRun0_B.sl.v5361 c arg7 harg7 arg8 harg8 arg11 harg11 x6 x7 x10), (kernelRun0_B.sl.v5365 c arg7 harg7 arg8 harg8 arg11 harg11 x6 x7 x10), (kernelRun0_B.sl.v5395 c arg7 harg7 arg8 harg8 arg11 harg11 x6 x7 x10)] := rfl

/-- Mask of pool 112. -/
theorem mk_112_B :
    (kernelRun0_B.sl.v4202 c arg12 harg12 x11) = mask112 (maskAt arg12 harg12 x11) := rfl

/-- Numerator of pool 112. -/
theorem n_112_B :
    (kernelRun0_B.sl.r_367 c arg7 harg7 arg8 harg8 arg11 harg11 arg12 harg12 arg16 harg16 x6 x7 x10 x11 x15) = pool112 (chAt arg11 harg11 x10) (maskAt arg12 harg12 x11) (wAt arg7 harg7 x6) (bAt arg8 harg8 x7) (pred112 arg16 harg16 x15) := by
  unfold pool112 errV
  dsimp only
  rw [← e_112_0_B (c := c), ← e_112_1_B (c := c), ← hv_112_2_B (c := c), ← mk_112_B (c := c)]
  unfold chanErr
  rw [← i_112_2_B (c := c)]
  rfl

/-- Horizontal gradient of pool 224, channel 0. -/
theorem g0_224_0_B :
    (kernelRun0_B.sl.v28 c arg11 harg11 x10) = grad0 (chAt arg11 harg11 x10 0) := rfl

/-- Vertical gradient of pool 224, channel 0. -/
theorem g1_224_0_B :
    (kernelRun0_B.sl.v35 c arg11 harg11 x10) = grad1 (chAt arg11 harg11 x10 0) := rfl

/-- Projection 0 of pool 224, channel 0. -/
theorem h0_224_0_B :
    (kernelRun0_B.sl.v5581 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 0 := rfl

/-- Projection 1 of pool 224, channel 0. -/
theorem h1_224_0_B :
    (kernelRun0_B.sl.v5585 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 1 := rfl

/-- Projection 2 of pool 224, channel 0. -/
theorem h2_224_0_B :
    (kernelRun0_B.sl.v5648 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 2 := rfl

/-- Projection 3 of pool 224, channel 0. -/
theorem h3_224_0_B :
    (kernelRun0_B.sl.v5652 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 3 := rfl

/-- Projection 4 of pool 224, channel 0. -/
theorem h4_224_0_B :
    (kernelRun0_B.sl.v5715 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 4 := rfl

/-- Projection 5 of pool 224, channel 0. -/
theorem h5_224_0_B :
    (kernelRun0_B.sl.v5719 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 5 := rfl

/-- Projection 6 of pool 224, channel 0. -/
theorem h6_224_0_B :
    (kernelRun0_B.sl.v5782 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 6 := rfl

/-- Projection 7 of pool 224, channel 0. -/
theorem h7_224_0_B :
    (kernelRun0_B.sl.v5786 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 7 := rfl

/-- Projection 8 of pool 224, channel 0. -/
theorem h8_224_0_B :
    (kernelRun0_B.sl.v5816 c arg9 harg9 arg10 harg10 arg11 harg11 x8 x9 x10) = hogs (kernelRun0_B.sl.v28 c arg11 harg11 x10) (kernelRun0_B.sl.v35 c arg11 harg11 x10) (wAt arg9 harg9 x8) (bAt arg10 harg10 x9) 8 := rfl

/-- All nine projections of pool 224, channel 0. -/
theorem hv_224_0_B :
    ![(kernelRun0_B.sl.v5581 c arg9 harg9 arg10 harg10 arg11 harg11 x8 x9 x10), (kernelRun0_B.sl.v5585 c arg9 harg9 arg10 harg10 arg11 harg11 x8 x9 x10), (kernelRun0_B.sl.v5648 c arg9 harg9 arg10 harg10 arg11 harg11 x8 x9 x10), (kernelRun0_B.sl.v5652 c arg9 harg9 arg10 harg10 arg11 harg11 x8 x9 x10), (kernelRun0_B.sl.v5715 c arg9 harg9 arg10 harg10 arg11 harg11 x8 x9 x10), (kernelRun0_B.sl.v5719 c arg9 harg9 arg10 harg10 arg11 harg11 x8 x9 x10), (kernelRun0_B.sl.v5782 c arg9 harg9 arg10 harg10 arg11 harg11 x8 x9 x10), (kernelRun0_B.sl.v5786 c arg9 harg9 arg10 harg10 arg11 harg11 x8 x9 x10), (kernelRun0_B.sl.v5816 c arg9 harg9 arg10 harg10 arg11 harg11 x8 x9 x10)] = (hogs (grad0 (chAt arg11 harg11 x10 0)) (grad1 (chAt arg11 harg11 x10 0)) (wAt arg9 harg9 x8) (bAt arg10 harg10 x9)) := by
  funext o
  fin_cases o
  · exact (h0_224_0_B ..).trans (by rw [g0_224_0_B, g1_224_0_B] <;> rfl)
  · exact (h1_224_0_B ..).trans (by rw [g0_224_0_B, g1_224_0_B] <;> rfl)
  · exact (h2_224_0_B ..).trans (by rw [g0_224_0_B, g1_224_0_B] <;> rfl)
  · exact (h3_224_0_B ..).trans (by rw [g0_224_0_B, g1_224_0_B] <;> rfl)
  · exact (h4_224_0_B ..).trans (by rw [g0_224_0_B, g1_224_0_B] <;> rfl)
  · exact (h5_224_0_B ..).trans (by rw [g0_224_0_B, g1_224_0_B] <;> rfl)
  · exact (h6_224_0_B ..).trans (by rw [g0_224_0_B, g1_224_0_B] <;> rfl)
  · exact (h7_224_0_B ..).trans (by rw [g0_224_0_B, g1_224_0_B] <;> rfl)
  · exact (h8_224_0_B ..).trans (by rw [g0_224_0_B, g1_224_0_B] <;> rfl)

/-- Norm factor of pool 224, channel 0. -/
theorem i_224_0_B :
    (kernelRun0_B.sl.v5838 c arg9 harg9 arg10 harg10 arg11 harg11 x8 x9 x10) = invNorm ![(kernelRun0_B.sl.v5581 c arg9 harg9 arg10 harg10 arg11 harg11 x8 x9 x10), (kernelRun0_B.sl.v5585 c arg9 harg9 arg10 harg10 arg11 harg11 x8 x9 x10), (kernelRun0_B.sl.v5648 c arg9 harg9 arg10 harg10 arg11 harg11 x8 x9 x10), (kernelRun0_B.sl.v5652 c arg9 harg9 arg10 harg10 arg11 harg11 x8 x9 x10), (kernelRun0_B.sl.v5715 c arg9 harg9 arg10 harg10 arg11 harg11 x8 x9 x10), (kernelRun0_B.sl.v5719 c arg9 harg9 arg10 harg10 arg11 harg11 x8 x9 x10), (kernelRun0_B.sl.v5782 c arg9 harg9 arg10 harg10 arg11 harg11 x8 x9 x10), (kernelRun0_B.sl.v5786 c arg9 harg9 arg10 harg10 arg11 harg11 x8 x9 x10), (kernelRun0_B.sl.v5816 c arg9 harg9 arg10 harg10 arg11 harg11 x8 x9 x10)] := rfl

/-- Error so far of pool 224, channel 0. -/
theorem e_224_0_B :
    (kernelRun0_B.sl.v5892 c arg9 harg9 arg10 harg10 arg11 harg11 arg17 harg17 x8 x9 x10 x16) = chanErr (zeros S224x224) (hogs (grad0 (chAt arg11 harg11 x10 0)) (grad1 (chAt arg11 harg11 x10 0)) (wAt arg9 harg9 x8) (bAt arg10 harg10 x9)) (pred224 arg17 harg17 x16 0) := by
  rw [← hv_224_0_B (c := c)]
  unfold chanErr
  rw [← i_224_0_B (c := c)]
  rfl

/-- Horizontal gradient of pool 224, channel 1. -/
theorem g0_224_1_B :
    (kernelRun0_B.sl.v64 c arg11 harg11 x10) = grad0 (chAt arg11 harg11 x10 1) := rfl

/-- Vertical gradient of pool 224, channel 1. -/
theorem g1_224_1_B :
    (kernelRun0_B.sl.v71 c arg11 harg11 x10) = grad1 (chAt arg11 harg11 x10 1) := rfl

/-- Projection 0 of pool 224, channel 1. -/
theorem h0_224_1_B :
    (kernelRun0_B.sl.v5995 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 0 := rfl

/-- Projection 1 of pool 224, channel 1. -/
theorem h1_224_1_B :
    (kernelRun0_B.sl.v5999 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 1 := rfl

/-- Projection 2 of pool 224, channel 1. -/
theorem h2_224_1_B :
    (kernelRun0_B.sl.v6062 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 2 := rfl

/-- Projection 3 of pool 224, channel 1. -/
theorem h3_224_1_B :
    (kernelRun0_B.sl.v6066 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 3 := rfl

/-- Projection 4 of pool 224, channel 1. -/
theorem h4_224_1_B :
    (kernelRun0_B.sl.v6129 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 4 := rfl

/-- Projection 5 of pool 224, channel 1. -/
theorem h5_224_1_B :
    (kernelRun0_B.sl.v6133 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 5 := rfl

/-- Projection 6 of pool 224, channel 1. -/
theorem h6_224_1_B :
    (kernelRun0_B.sl.v6196 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 6 := rfl

/-- Projection 7 of pool 224, channel 1. -/
theorem h7_224_1_B :
    (kernelRun0_B.sl.v6200 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 7 := rfl

/-- Projection 8 of pool 224, channel 1. -/
theorem h8_224_1_B :
    (kernelRun0_B.sl.v6230 c arg9 harg9 arg10 harg10 arg11 harg11 x8 x9 x10) = hogs (kernelRun0_B.sl.v64 c arg11 harg11 x10) (kernelRun0_B.sl.v71 c arg11 harg11 x10) (wAt arg9 harg9 x8) (bAt arg10 harg10 x9) 8 := rfl

/-- All nine projections of pool 224, channel 1. -/
theorem hv_224_1_B :
    ![(kernelRun0_B.sl.v5995 c arg9 harg9 arg10 harg10 arg11 harg11 x8 x9 x10), (kernelRun0_B.sl.v5999 c arg9 harg9 arg10 harg10 arg11 harg11 x8 x9 x10), (kernelRun0_B.sl.v6062 c arg9 harg9 arg10 harg10 arg11 harg11 x8 x9 x10), (kernelRun0_B.sl.v6066 c arg9 harg9 arg10 harg10 arg11 harg11 x8 x9 x10), (kernelRun0_B.sl.v6129 c arg9 harg9 arg10 harg10 arg11 harg11 x8 x9 x10), (kernelRun0_B.sl.v6133 c arg9 harg9 arg10 harg10 arg11 harg11 x8 x9 x10), (kernelRun0_B.sl.v6196 c arg9 harg9 arg10 harg10 arg11 harg11 x8 x9 x10), (kernelRun0_B.sl.v6200 c arg9 harg9 arg10 harg10 arg11 harg11 x8 x9 x10), (kernelRun0_B.sl.v6230 c arg9 harg9 arg10 harg10 arg11 harg11 x8 x9 x10)] = (hogs (grad0 (chAt arg11 harg11 x10 1)) (grad1 (chAt arg11 harg11 x10 1)) (wAt arg9 harg9 x8) (bAt arg10 harg10 x9)) := by
  funext o
  fin_cases o
  · exact (h0_224_1_B ..).trans (by rw [g0_224_1_B, g1_224_1_B] <;> rfl)
  · exact (h1_224_1_B ..).trans (by rw [g0_224_1_B, g1_224_1_B] <;> rfl)
  · exact (h2_224_1_B ..).trans (by rw [g0_224_1_B, g1_224_1_B] <;> rfl)
  · exact (h3_224_1_B ..).trans (by rw [g0_224_1_B, g1_224_1_B] <;> rfl)
  · exact (h4_224_1_B ..).trans (by rw [g0_224_1_B, g1_224_1_B] <;> rfl)
  · exact (h5_224_1_B ..).trans (by rw [g0_224_1_B, g1_224_1_B] <;> rfl)
  · exact (h6_224_1_B ..).trans (by rw [g0_224_1_B, g1_224_1_B] <;> rfl)
  · exact (h7_224_1_B ..).trans (by rw [g0_224_1_B, g1_224_1_B] <;> rfl)
  · exact (h8_224_1_B ..).trans (by rw [g0_224_1_B, g1_224_1_B] <;> rfl)

/-- Norm factor of pool 224, channel 1. -/
theorem i_224_1_B :
    (kernelRun0_B.sl.v6252 c arg9 harg9 arg10 harg10 arg11 harg11 x8 x9 x10) = invNorm ![(kernelRun0_B.sl.v5995 c arg9 harg9 arg10 harg10 arg11 harg11 x8 x9 x10), (kernelRun0_B.sl.v5999 c arg9 harg9 arg10 harg10 arg11 harg11 x8 x9 x10), (kernelRun0_B.sl.v6062 c arg9 harg9 arg10 harg10 arg11 harg11 x8 x9 x10), (kernelRun0_B.sl.v6066 c arg9 harg9 arg10 harg10 arg11 harg11 x8 x9 x10), (kernelRun0_B.sl.v6129 c arg9 harg9 arg10 harg10 arg11 harg11 x8 x9 x10), (kernelRun0_B.sl.v6133 c arg9 harg9 arg10 harg10 arg11 harg11 x8 x9 x10), (kernelRun0_B.sl.v6196 c arg9 harg9 arg10 harg10 arg11 harg11 x8 x9 x10), (kernelRun0_B.sl.v6200 c arg9 harg9 arg10 harg10 arg11 harg11 x8 x9 x10), (kernelRun0_B.sl.v6230 c arg9 harg9 arg10 harg10 arg11 harg11 x8 x9 x10)] := rfl

/-- Error so far of pool 224, channel 1. -/
theorem e_224_1_B :
    (kernelRun0_B.sl.v6306 c arg9 harg9 arg10 harg10 arg11 harg11 arg17 harg17 x8 x9 x10 x16) = chanErr (kernelRun0_B.sl.v5892 c arg9 harg9 arg10 harg10 arg11 harg11 arg17 harg17 x8 x9 x10 x16) (hogs (grad0 (chAt arg11 harg11 x10 1)) (grad1 (chAt arg11 harg11 x10 1)) (wAt arg9 harg9 x8) (bAt arg10 harg10 x9)) (pred224 arg17 harg17 x16 1) := by
  rw [← hv_224_1_B (c := c)]
  unfold chanErr
  rw [← i_224_1_B (c := c)]
  rfl

/-- Horizontal gradient of pool 224, channel 2. -/
theorem g0_224_2_B :
    (kernelRun0_B.sl.v100 c arg11 harg11 x10) = grad0 (chAt arg11 harg11 x10 2) := rfl

/-- Vertical gradient of pool 224, channel 2. -/
theorem g1_224_2_B :
    (kernelRun0_B.sl.r c arg11 harg11 x10) = grad1 (chAt arg11 harg11 x10 2) := rfl

/-- Projection 0 of pool 224, channel 2. -/
theorem h0_224_2_B :
    (kernelRun0_B.sl.v6409 c arg9 harg9 arg10 harg10 arg11 harg11 x8 x9 x10) = hogs (kernelRun0_B.sl.v100 c arg11 harg11 x10) (kernelRun0_B.sl.r c arg11 harg11 x10) (wAt arg9 harg9 x8) (bAt arg10 harg10 x9) 0 := rfl

/-- Projection 1 of pool 224, channel 2. -/
theorem h1_224_2_B :
    (kernelRun0_B.sl.v6413 c arg9 harg9 arg10 harg10 arg11 harg11 x8 x9 x10) = hogs (kernelRun0_B.sl.v100 c arg11 harg11 x10) (kernelRun0_B.sl.r c arg11 harg11 x10) (wAt arg9 harg9 x8) (bAt arg10 harg10 x9) 1 := rfl

/-- Projection 2 of pool 224, channel 2. -/
theorem h2_224_2_B :
    (kernelRun0_B.sl.v6476 c arg9 harg9 arg10 harg10 arg11 harg11 x8 x9 x10) = hogs (kernelRun0_B.sl.v100 c arg11 harg11 x10) (kernelRun0_B.sl.r c arg11 harg11 x10) (wAt arg9 harg9 x8) (bAt arg10 harg10 x9) 2 := rfl

/-- Projection 3 of pool 224, channel 2. -/
theorem h3_224_2_B :
    (kernelRun0_B.sl.v6480 c arg9 harg9 arg10 harg10 arg11 harg11 x8 x9 x10) = hogs (kernelRun0_B.sl.v100 c arg11 harg11 x10) (kernelRun0_B.sl.r c arg11 harg11 x10) (wAt arg9 harg9 x8) (bAt arg10 harg10 x9) 3 := rfl

/-- Projection 4 of pool 224, channel 2. -/
theorem h4_224_2_B :
    (kernelRun0_B.sl.r_551 c arg9 harg9 arg10 harg10 arg11 harg11 x8 x9 x10) = hogs (kernelRun0_B.sl.v100 c arg11 harg11 x10) (kernelRun0_B.sl.r c arg11 harg11 x10) (wAt arg9 harg9 x8) (bAt arg10 harg10 x9) 4 := rfl

/-- Projection 5 of pool 224, channel 2. -/
theorem h5_224_2_B :
    (kernelRun0_B.sl.r_552 c arg9 harg9 arg10 harg10 arg11 harg11 x8 x9 x10) = hogs (kernelRun0_B.sl.v100 c arg11 harg11 x10) (kernelRun0_B.sl.r c arg11 harg11 x10) (wAt arg9 harg9 x8) (bAt arg10 harg10 x9) 5 := rfl

/-- Projection 6 of pool 224, channel 2. -/
theorem h6_224_2_B :
    (kernelRun0_B.sl.r_595 c arg9 harg9 arg10 harg10 arg11 harg11 x8 x9 x10) = hogs (kernelRun0_B.sl.v100 c arg11 harg11 x10) (kernelRun0_B.sl.r c arg11 harg11 x10) (wAt arg9 harg9 x8) (bAt arg10 harg10 x9) 6 := rfl

/-- Projection 7 of pool 224, channel 2. -/
theorem h7_224_2_B :
    (kernelRun0_B.sl.r_596 c arg9 harg9 arg10 harg10 arg11 harg11 x8 x9 x10) = hogs (kernelRun0_B.sl.v100 c arg11 harg11 x10) (kernelRun0_B.sl.r c arg11 harg11 x10) (wAt arg9 harg9 x8) (bAt arg10 harg10 x9) 7 := rfl

/-- Projection 8 of pool 224, channel 2. -/
theorem h8_224_2_B :
    (kernelRun0_B.sl.r_598 c arg9 harg9 arg10 harg10 arg11 harg11 x8 x9 x10) = hogs (kernelRun0_B.sl.v100 c arg11 harg11 x10) (kernelRun0_B.sl.r c arg11 harg11 x10) (wAt arg9 harg9 x8) (bAt arg10 harg10 x9) 8 := rfl

/-- All nine projections of pool 224, channel 2. -/
theorem hv_224_2_B :
    ![(kernelRun0_B.sl.v6409 c arg9 harg9 arg10 harg10 arg11 harg11 x8 x9 x10), (kernelRun0_B.sl.v6413 c arg9 harg9 arg10 harg10 arg11 harg11 x8 x9 x10), (kernelRun0_B.sl.v6476 c arg9 harg9 arg10 harg10 arg11 harg11 x8 x9 x10), (kernelRun0_B.sl.v6480 c arg9 harg9 arg10 harg10 arg11 harg11 x8 x9 x10), (kernelRun0_B.sl.r_551 c arg9 harg9 arg10 harg10 arg11 harg11 x8 x9 x10), (kernelRun0_B.sl.r_552 c arg9 harg9 arg10 harg10 arg11 harg11 x8 x9 x10), (kernelRun0_B.sl.r_595 c arg9 harg9 arg10 harg10 arg11 harg11 x8 x9 x10), (kernelRun0_B.sl.r_596 c arg9 harg9 arg10 harg10 arg11 harg11 x8 x9 x10), (kernelRun0_B.sl.r_598 c arg9 harg9 arg10 harg10 arg11 harg11 x8 x9 x10)] = (hogs (grad0 (chAt arg11 harg11 x10 2)) (grad1 (chAt arg11 harg11 x10 2)) (wAt arg9 harg9 x8) (bAt arg10 harg10 x9)) := by
  funext o
  fin_cases o
  · exact (h0_224_2_B ..).trans (by rw [g0_224_2_B, g1_224_2_B] <;> rfl)
  · exact (h1_224_2_B ..).trans (by rw [g0_224_2_B, g1_224_2_B] <;> rfl)
  · exact (h2_224_2_B ..).trans (by rw [g0_224_2_B, g1_224_2_B] <;> rfl)
  · exact (h3_224_2_B ..).trans (by rw [g0_224_2_B, g1_224_2_B] <;> rfl)
  · exact (h4_224_2_B ..).trans (by rw [g0_224_2_B, g1_224_2_B] <;> rfl)
  · exact (h5_224_2_B ..).trans (by rw [g0_224_2_B, g1_224_2_B] <;> rfl)
  · exact (h6_224_2_B ..).trans (by rw [g0_224_2_B, g1_224_2_B] <;> rfl)
  · exact (h7_224_2_B ..).trans (by rw [g0_224_2_B, g1_224_2_B] <;> rfl)
  · exact (h8_224_2_B ..).trans (by rw [g0_224_2_B, g1_224_2_B] <;> rfl)

/-- Norm factor of pool 224, channel 2. -/
theorem i_224_2_B :
    (kernelRun0_B.sl.r_599 c arg9 harg9 arg10 harg10 arg11 harg11 x8 x9 x10) = invNorm ![(kernelRun0_B.sl.v6409 c arg9 harg9 arg10 harg10 arg11 harg11 x8 x9 x10), (kernelRun0_B.sl.v6413 c arg9 harg9 arg10 harg10 arg11 harg11 x8 x9 x10), (kernelRun0_B.sl.v6476 c arg9 harg9 arg10 harg10 arg11 harg11 x8 x9 x10), (kernelRun0_B.sl.v6480 c arg9 harg9 arg10 harg10 arg11 harg11 x8 x9 x10), (kernelRun0_B.sl.r_551 c arg9 harg9 arg10 harg10 arg11 harg11 x8 x9 x10), (kernelRun0_B.sl.r_552 c arg9 harg9 arg10 harg10 arg11 harg11 x8 x9 x10), (kernelRun0_B.sl.r_595 c arg9 harg9 arg10 harg10 arg11 harg11 x8 x9 x10), (kernelRun0_B.sl.r_596 c arg9 harg9 arg10 harg10 arg11 harg11 x8 x9 x10), (kernelRun0_B.sl.r_598 c arg9 harg9 arg10 harg10 arg11 harg11 x8 x9 x10)] := rfl

/-- The stored tile. -/
theorem tile_B :
    (kernelRun0_B.sl.r_606 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) = pointTile (chAt arg11 harg11 x10) (maskAt arg12 harg12 x11)
      (wAt arg1 harg1 x0) (bAt arg2 harg2 x1) (wAt arg3 harg3 x2) (bAt arg4 harg4 x3) (wAt arg5 harg5 x4) (bAt arg6 harg6 x5) (wAt arg7 harg7 x6) (bAt arg8 harg8 x7) (wAt arg9 harg9 x8) (bAt arg10 harg10 x9)
      (pred14 arg13 harg13 x12) (pred28 arg14 harg14 x13) (pred56 arg15 harg15 x14) (pred112 arg16 harg16 x15) (pred224 arg17 harg17 x16) := by
  unfold pointTile
  rw [← n_14_B (c := c), ← n_28_B (c := c), ← n_56_B (c := c), ← n_112_B (c := c)]
  unfold pool224 errV
  dsimp only
  rw [← e_224_0_B (c := c), ← e_224_1_B (c := c), ← hv_224_2_B (c := c)]
  unfold chanErr
  rw [← i_224_2_B (c := c)]
  rfl

end Cert.Hog

end
-- ==== Proof.RunTile.lean ====
module

public import proofs.«01_k».proof.Proof.StageA
public import proofs.«01_k».proof.Proof.StageB

/-!
The two branches of the kernel's run store the tile of the structured definitions: at the first grid point as it is, at a later one added to
what the output window holds.
-/

@[expose] public section

set_option maxRecDepth 65536

noncomputable section

namespace Cert.Hog

open Idealize.ShloMosaic Idealize.ShloMosaic.TcCoe Idealize.SL.Sem Cert.KernelIdeal Cert.KernelIdeal.Gen

variable {F : FTy → Type} [FloatOps F] [Named F]

/-- At the first grid point the run stores the tile. -/
theorem run_first (c : Dev nD) (i : grid0.Coords) (arg1 : Memref sig .tc .smem S9x9 .f32) (harg1 : arg1.IsWhole) (arg2 : Memref sig .tc .smem S9 .f32) (harg2 : arg2.IsWhole) (arg3 : Memref sig .tc .smem S9x9 .f32) (harg3 : arg3.IsWhole) (arg4 : Memref sig .tc .smem S9 .f32) (harg4 : arg4.IsWhole) (arg5 : Memref sig .tc .smem S9x9 .f32) (harg5 : arg5.IsWhole) (arg6 : Memref sig .tc .smem S9 .f32) (harg6 : arg6.IsWhole) (arg7 : Memref sig .tc .smem S9x9 .f32) (harg7 : arg7.IsWhole) (arg8 : Memref sig .tc .smem S9 .f32) (harg8 : arg8.IsWhole) (arg9 : Memref sig .tc .smem S9x9 .f32) (harg9 : arg9.IsWhole) (arg10 : Memref sig .tc .smem S9 .f32) (harg10 : arg10.IsWhole) (arg11 : Memref sig .tc .vmem S1x3x224x224 .f32) (harg11 : arg11.IsWhole) (arg12 : Memref sig .tc .vmem S1x1x224x224 .f32) (harg12 : arg12.IsWhole) (arg13 : Memref sig .tc .vmem S1x27x14x14 .f32) (harg13 : arg13.IsWhole) (arg14 : Memref sig .tc .vmem S1x27x28x28 .f32) (harg14 : arg14.IsWhole) (arg15 : Memref sig .tc .vmem S1x27x56x56 .f32) (harg15 : arg15.IsWhole) (arg16 : Memref sig .tc .vmem S1x27x112x112 .f32) (harg16 : arg16.IsWhole) (arg17 : Memref sig .tc .vmem S1x27x224x224 .f32) (harg17 : arg17.IsWhole) (arg18 : Memref sig .tc .vmem S8x128 .f32) (harg18 : arg18.IsWhole) (hc0 : cond0_0 i) (hc1 : ¬cond0_1 i)
    (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16).1 = [⟨Rect.unit (s := S8x128) ![0, 0] S8x128.size inb_S8x128_S8x128_0_0,
      pointTile (chAt arg11 harg11 x10) (maskAt arg12 harg12 x11)
      (wAt arg1 harg1 x0) (bAt arg2 harg2 x1) (wAt arg3 harg3 x2) (bAt arg4 harg4 x3) (wAt arg5 harg5 x4) (bAt arg6 harg6 x5) (wAt arg7 harg7 x6) (bAt arg8 harg8 x7) (wAt arg9 harg9 x8) (bAt arg10 harg10 x9)
      (pred14 arg13 harg13 x12) (pred28 arg14 harg14 x13) (pred56 arg15 harg15 x14) (pred112 arg16 harg16 x15) (pred224 arg17 harg17 x16)⟩] := by
  rw [← tile_A (c := c)]
  rfl

/-- At a later grid point the run stores what the window holds plus the tile. -/
theorem run_later (c : Dev nD) (i : grid0.Coords) (arg1 : Memref sig .tc .smem S9x9 .f32) (harg1 : arg1.IsWhole) (arg2 : Memref sig .tc .smem S9 .f32) (harg2 : arg2.IsWhole) (arg3 : Memref sig .tc .smem S9x9 .f32) (harg3 : arg3.IsWhole) (arg4 : Memref sig .tc .smem S9 .f32) (harg4 : arg4.IsWhole) (arg5 : Memref sig .tc .smem S9x9 .f32) (harg5 : arg5.IsWhole) (arg6 : Memref sig .tc .smem S9 .f32) (harg6 : arg6.IsWhole) (arg7 : Memref sig .tc .smem S9x9 .f32) (harg7 : arg7.IsWhole) (arg8 : Memref sig .tc .smem S9 .f32) (harg8 : arg8.IsWhole) (arg9 : Memref sig .tc .smem S9x9 .f32) (harg9 : arg9.IsWhole) (arg10 : Memref sig .tc .smem S9 .f32) (harg10 : arg10.IsWhole) (arg11 : Memref sig .tc .vmem S1x3x224x224 .f32) (harg11 : arg11.IsWhole) (arg12 : Memref sig .tc .vmem S1x1x224x224 .f32) (harg12 : arg12.IsWhole) (arg13 : Memref sig .tc .vmem S1x27x14x14 .f32) (harg13 : arg13.IsWhole) (arg14 : Memref sig .tc .vmem S1x27x28x28 .f32) (harg14 : arg14.IsWhole) (arg15 : Memref sig .tc .vmem S1x27x56x56 .f32) (harg15 : arg15.IsWhole) (arg16 : Memref sig .tc .vmem S1x27x112x112 .f32) (harg16 : arg16.IsWhole) (arg17 : Memref sig .tc .vmem S1x27x224x224 .f32) (harg17 : arg17.IsWhole) (arg18 : Memref sig .tc .vmem S8x128 .f32) (harg18 : arg18.IsWhole) (hc0 : ¬cond0_0 i) (hc1 : cond0_1 i)
    (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) (xo : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 xo).1 = [⟨Rect.unit (s := S8x128) ![0, 0] S8x128.size inb_S8x128_S8x128_0_0,
      addf (shapeCast S8x128 (View.readAt (Elt F) arg18.view (Rect.unit (s := S8x128) ![0, 0] S8x128.size inb_S8x128_S8x128_0_0).toLoadRect (harg18.unread xo)) shapeCasts_S8x128_S8x128)
        (pointTile (chAt arg11 harg11 x10) (maskAt arg12 harg12 x11)
      (wAt arg1 harg1 x0) (bAt arg2 harg2 x1) (wAt arg3 harg3 x2) (bAt arg4 harg4 x3) (wAt arg5 harg5 x4) (bAt arg6 harg6 x5) (wAt arg7 harg7 x6) (bAt arg8 harg8 x7) (wAt arg9 harg9 x8) (bAt arg10 harg10 x9)
      (pred14 arg13 harg13 x12) (pred28 arg14 harg14 x13) (pred56 arg15 harg15 x14) (pred112 arg16 harg16 x15) (pred224 arg17 harg17 x16))⟩] := by
  rw [← tile_B (c := c)]
  rfl

end Cert.Hog

end
-- ==== Proof.Loads.lean ====
module

public import proofs.«01_k».proof.Proof.Tile
public import Idealize.ShloMosaic.Lib.WholeRead
public import Idealize.ShloMosaic.Lib.Pipeline.Value
public import Idealize.ShloMosaic.Lib.ValueIdx

/-!
What the body loads, as places of the blocks in its windows.
-/

@[expose] public section

noncomputable section

namespace Cert.Hog

open Idealize.ShloMosaic Idealize.ShloMosaic.TcCoe Idealize.ShloMosaic.ValueIdx Cert.KernelIdeal Cert.KernelIdeal.Gen

variable {F : FTy → Type} [FloatOps F] [Named F]

/-- A load of one plane of a rank-four block reads the block there. -/
theorem plane_apply {K h : ℕ} (m : Memref sig .tc .vmem ⟨4, ![1, K, h, h]⟩ .f32) (hm : m.IsWhole) (x : Vec F ⟨4, ![1, K, h, h]⟩ .f32) (k : Fin K)
    (inb : ∀ a, (![0, k.val, 0, 0] : Fin 4 → ℕ) a + (![1, 1, h, h] : Fin 4 → ℕ) a ≤ (⟨4, ![1, K, h, h]⟩ : Shape).size a)
    (hc : (⟨4, ![1, 1, h, h]⟩ : Shape).ShapeCasts ⟨2, ![h, h]⟩) (i j : Fin h) :
    shapeCast ⟨2, ![h, h]⟩ (View.readAt (Elt F) m.view (Rect.unit (s := ⟨4, ![1, K, h, h]⟩) ![0, k.val, 0, 0] ![1, 1, h, h] inb).toLoadRect (hm.unread x)) hc (ix2 i j)
      = x (ix4 0 k i j) := by
  refine (shapeCast_apply _ hc (ix2 i j) (ix4 0 0 i j) ?_).trans ?_
  · rw [Shape.rowMajor_val_four, Shape.rowMajor_val_two]
    show ((0 * 1 + 0) * h + i.val) * h + j.val = i.val * h + j.val
    simp
  rw [hm.readAt_unread]
  refine congrArg x (funext fun a => Fin.ext ?_)
  match a with
  | ⟨0, _⟩ => rfl
  | ⟨1, _⟩ => show k.val + 1 * 0 = k.val; omega
  | ⟨2, _⟩ => show 0 + 1 * i.val = i.val; omega
  | ⟨3, _⟩ => show 0 + 1 * j.val = j.val; omega

/-- A weight's load. -/
theorem wAt_val (m : Memref sig .tc .smem S9x9 .f32) (h : m.IsWhole) (x : Vec F S9x9 .f32) (o k : Fin 9) : wAt m h x o k = x (ix2 o k) := by
  unfold wAt
  rw [h.readAt_unread]
  refine congrArg x (funext fun a => Fin.ext ?_)
  match a with
  | ⟨0, _⟩ => show o.val + 1 * 0 = o.val; omega
  | ⟨1, _⟩ => show k.val + 1 * 0 = k.val; omega

/-- A bias's load. -/
theorem bAt_val (m : Memref sig .tc .smem S9 .f32) (h : m.IsWhole) (x : Vec F S9 .f32) (o : Fin 9) : bAt m h x o = x (ix1 o) := by
  unfold bAt
  rw [h.readAt_unread]
  refine congrArg x (funext fun a => Fin.ext ?_)
  match a with
  | ⟨0, _⟩ => show o.val + 1 * 0 = o.val; omega

/-- The plane of a channel and a bin. -/
def plane (c : Fin 3) (o : Fin 9) : Fin 27 := ⟨c.val * 9 + o.val, by omega⟩

/-- One plane of a block. -/
def planeOf {K h : ℕ} (x : Vec F ⟨4, ![1, K, h, h]⟩ .f32) (k : Fin K) : FVec F ⟨2, ![h, h]⟩ .f32 := fun i => x (ix4 0 k (i 0) (i 1))

/-- A channel's load. -/
theorem chAt_val (m : Memref sig .tc .vmem S1x3x224x224 .f32) (h : m.IsWhole) (x : Vec F S1x3x224x224 .f32) (c : Fin 3) :
    chAt m h x c = planeOf x c := by
  funext i
  rw [eq_ix2 i]
  exact plane_apply m h x c _ _ (i 0) (i 1)

/-- The mask's load. -/
theorem maskAt_val (m : Memref sig .tc .vmem S1x1x224x224 .f32) (h : m.IsWhole) (x : Vec F S1x1x224x224 .f32) :
    maskAt m h x = planeOf x 0 := by
  funext i
  rw [eq_ix2 i]
  exact plane_apply m h x 0 _ _ (i 0) (i 1)

/-- A prediction's load, of size 14. -/
theorem pred14_val (m : Memref sig .tc .vmem S1x27x14x14 .f32) (hm : m.IsWhole) (x : Vec F S1x27x14x14 .f32) (c : Fin 3) (o : Fin 9) :
    pred14 m hm x c o = planeOf x (plane c o) := by
  funext i
  rw [eq_ix2 i]
  exact plane_apply m hm x (plane c o) _ _ (i 0) (i 1)

/-- A prediction's load, of size 28. -/
theorem pred28_val (m : Memref sig .tc .vmem S1x27x28x28 .f32) (hm : m.IsWhole) (x : Vec F S1x27x28x28 .f32) (c : Fin 3) (o : Fin 9) :
    pred28 m hm x c o = planeOf x (plane c o) := by
  funext i
  rw [eq_ix2 i]
  exact plane_apply m hm x (plane c o) _ _ (i 0) (i 1)

/-- A prediction's load, of size 56. -/
theorem pred56_val (m : Memref sig .tc .vmem S1x27x56x56 .f32) (hm : m.IsWhole) (x : Vec F S1x27x56x56 .f32) (c : Fin 3) (o : Fin 9) :
    pred56 m hm x c o = planeOf x (plane c o) := by
  funext i
  rw [eq_ix2 i]
  exact plane_apply m hm x (plane c o) _ _ (i 0) (i 1)

/-- A prediction's load, of size 112. -/
theorem pred112_val (m : Memref sig .tc .vmem S1x27x112x112 .f32) (hm : m.IsWhole) (x : Vec F S1x27x112x112 .f32) (c : Fin 3) (o : Fin 9) :
    pred112 m hm x c o = planeOf x (plane c o) := by
  funext i
  rw [eq_ix2 i]
  exact plane_apply m hm x (plane c o) _ _ (i 0) (i 1)

/-- A prediction's load, of size 224. -/
theorem pred224_val (m : Memref sig .tc .vmem S1x27x224x224 .f32) (hm : m.IsWhole) (x : Vec F S1x27x224x224 .f32) (c : Fin 3) (o : Fin 9) :
    pred224 m hm x c o = planeOf x (plane c o) := by
  funext i
  rw [eq_ix2 i]
  exact plane_apply m hm x (plane c o) _ _ (i 0) (i 1)

/-- The tile of one grid point, from the blocks in its windows. -/
def blockTile (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) : FVec F S8x128 .f32 :=
  pointTile (planeOf x10) (planeOf x11 0)
    (fun o k => x0 (ix2 o k)) (fun o => x1 (ix1 o)) (fun o k => x2 (ix2 o k)) (fun o => x3 (ix1 o)) (fun o k => x4 (ix2 o k)) (fun o => x5 (ix1 o))
    (fun o k => x6 (ix2 o k)) (fun o => x7 (ix1 o)) (fun o k => x8 (ix2 o k)) (fun o => x9 (ix1 o))
    (fun c o => planeOf x12 (plane c o)) (fun c o => planeOf x13 (plane c o)) (fun c o => planeOf x14 (plane c o)) (fun c o => planeOf x15 (plane c o))
    (fun c o => planeOf x16 (plane c o))

end Cert.Hog

end
-- ==== Proof.Chain.lean ====
module

public import proofs.«01_k».proof.Proof.RunTile
public import proofs.«01_k».proof.Proof.Loads

/-!
What the output window holds after each grid point: the tiles of the points so far, added up.
-/

@[expose] public section

set_option maxRecDepth 65536

noncomputable section

namespace Cert.Hog

open Idealize.ShloMosaic Idealize.ShloMosaic.TcCoe Idealize.ShloMosaic.ValueIdx Idealize.SL.Sem Cert.KernelIdeal Cert.KernelIdeal.Gen

variable {F : FTy → Type} [FloatOps F] [Named F]

/-- Two zeros are the zero offsets. -/
theorem zeros_two : (![0, 0] : Fin 2 → Nat) = fun _ => 0 := funext fun a => by fin_cases a <;> rfl

/-- The loads of a whole memref make the tile of the blocks. -/
theorem pointTile_loads (arg1 : Memref sig .tc .smem S9x9 .f32) (harg1 : arg1.IsWhole) (arg2 : Memref sig .tc .smem S9 .f32) (harg2 : arg2.IsWhole) (arg3 : Memref sig .tc .smem S9x9 .f32) (harg3 : arg3.IsWhole) (arg4 : Memref sig .tc .smem S9 .f32) (harg4 : arg4.IsWhole) (arg5 : Memref sig .tc .smem S9x9 .f32) (harg5 : arg5.IsWhole) (arg6 : Memref sig .tc .smem S9 .f32) (harg6 : arg6.IsWhole) (arg7 : Memref sig .tc .smem S9x9 .f32) (harg7 : arg7.IsWhole) (arg8 : Memref sig .tc .smem S9 .f32) (harg8 : arg8.IsWhole) (arg9 : Memref sig .tc .smem S9x9 .f32) (harg9 : arg9.IsWhole) (arg10 : Memref sig .tc .smem S9 .f32) (harg10 : arg10.IsWhole) (arg11 : Memref sig .tc .vmem S1x3x224x224 .f32) (harg11 : arg11.IsWhole) (arg12 : Memref sig .tc .vmem S1x1x224x224 .f32) (harg12 : arg12.IsWhole) (arg13 : Memref sig .tc .vmem S1x27x14x14 .f32) (harg13 : arg13.IsWhole) (arg14 : Memref sig .tc .vmem S1x27x28x28 .f32) (harg14 : arg14.IsWhole) (arg15 : Memref sig .tc .vmem S1x27x56x56 .f32) (harg15 : arg15.IsWhole) (arg16 : Memref sig .tc .vmem S1x27x112x112 .f32) (harg16 : arg16.IsWhole) (arg17 : Memref sig .tc .vmem S1x27x224x224 .f32) (harg17 : arg17.IsWhole)
    (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) :
    pointTile (chAt arg11 harg11 x10) (maskAt arg12 harg12 x11)
      (wAt arg1 harg1 x0) (bAt arg2 harg2 x1) (wAt arg3 harg3 x2) (bAt arg4 harg4 x3) (wAt arg5 harg5 x4) (bAt arg6 harg6 x5) (wAt arg7 harg7 x6) (bAt arg8 harg8 x7) (wAt arg9 harg9 x8) (bAt arg10 harg10 x9)
      (pred14 arg13 harg13 x12) (pred28 arg14 harg14 x13) (pred56 arg15 harg15 x14) (pred112 arg16 harg16 x15) (pred224 arg17 harg17 x16)
      = blockTile x0 x1 x2 x3 x4 x5 x6 x7 x8 x9 x10 x11 x12 x13 x14 x15 x16 := by
  have w : ∀ (m : Memref sig .tc .smem S9x9 .f32) (h : m.IsWhole) (x : Vec F S9x9 .f32), wAt m h x = fun o k => x (ix2 o k) :=
    fun m h x => funext fun o => funext fun k => wAt_val m h x o k
  have b : ∀ (m : Memref sig .tc .smem S9 .f32) (h : m.IsWhole) (x : Vec F S9 .f32), bAt m h x = fun o => x (ix1 o) :=
    fun m h x => funext fun o => bAt_val m h x o
  unfold blockTile
  rw [show chAt arg11 harg11 x10 = planeOf x10 from funext fun c => chAt_val arg11 harg11 x10 c, maskAt_val, w, w, w, w, w, b, b, b, b, b,
    show pred14 arg13 harg13 x12 = fun c o => planeOf x12 (plane c o) from funext fun c => funext fun o => pred14_val arg13 harg13 x12 c o,
    show pred28 arg14 harg14 x13 = fun c o => planeOf x13 (plane c o) from funext fun c => funext fun o => pred28_val arg14 harg14 x13 c o,
    show pred56 arg15 harg15 x14 = fun c o => planeOf x14 (plane c o) from funext fun c => funext fun o => pred56_val arg15 harg15 x14 c o,
    show pred112 arg16 harg16 x15 = fun c o => planeOf x15 (plane c o) from funext fun c => funext fun o => pred112_val arg16 harg16 x15 c o,
    show pred224 arg17 harg17 x16 = fun c o => planeOf x16 (plane c o) from funext fun c => funext fun o => pred224_val arg17 harg17 x16 c o]

/-- After the first point the window holds the tile. -/
theorem out_first (c : Dev nD) (i : grid0.Coords) (arg1 : Memref sig .tc .smem S9x9 .f32) (harg1 : arg1.IsWhole) (arg2 : Memref sig .tc .smem S9 .f32) (harg2 : arg2.IsWhole) (arg3 : Memref sig .tc .smem S9x9 .f32) (harg3 : arg3.IsWhole) (arg4 : Memref sig .tc .smem S9 .f32) (harg4 : arg4.IsWhole) (arg5 : Memref sig .tc .smem S9x9 .f32) (harg5 : arg5.IsWhole) (arg6 : Memref sig .tc .smem S9 .f32) (harg6 : arg6.IsWhole) (arg7 : Memref sig .tc .smem S9x9 .f32) (harg7 : arg7.IsWhole) (arg8 : Memref sig .tc .smem S9 .f32) (harg8 : arg8.IsWhole) (arg9 : Memref sig .tc .smem S9x9 .f32) (harg9 : arg9.IsWhole) (arg10 : Memref sig .tc .smem S9 .f32) (harg10 : arg10.IsWhole) (arg11 : Memref sig .tc .vmem S1x3x224x224 .f32) (harg11 : arg11.IsWhole) (arg12 : Memref sig .tc .vmem S1x1x224x224 .f32) (harg12 : arg12.IsWhole) (arg13 : Memref sig .tc .vmem S1x27x14x14 .f32) (harg13 : arg13.IsWhole) (arg14 : Memref sig .tc .vmem S1x27x28x28 .f32) (harg14 : arg14.IsWhole) (arg15 : Memref sig .tc .vmem S1x27x56x56 .f32) (harg15 : arg15.IsWhole) (arg16 : Memref sig .tc .vmem S1x27x112x112 .f32) (harg16 : arg16.IsWhole) (arg17 : Memref sig .tc .vmem S1x27x224x224 .f32) (harg17 : arg17.IsWhole) (arg18 : Memref sig .tc .vmem S8x128 .f32) (harg18 : arg18.IsWhole) (hc0 : cond0_0 i) (hc1 : ¬cond0_1 i)
    (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 = blockTile x0 x1 x2 x3 x4 x5 x6 x7 x8 x9 x10 x11 x12 x13 x14 x15 x16 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16), run_first, View.canon_unit_zero zeros_two, pointTile_loads]

/-- After a later point the window holds the tile added to what it held. -/
theorem out_later (c : Dev nD) (i : grid0.Coords) (arg1 : Memref sig .tc .smem S9x9 .f32) (harg1 : arg1.IsWhole) (arg2 : Memref sig .tc .smem S9 .f32) (harg2 : arg2.IsWhole) (arg3 : Memref sig .tc .smem S9x9 .f32) (harg3 : arg3.IsWhole) (arg4 : Memref sig .tc .smem S9 .f32) (harg4 : arg4.IsWhole) (arg5 : Memref sig .tc .smem S9x9 .f32) (harg5 : arg5.IsWhole) (arg6 : Memref sig .tc .smem S9 .f32) (harg6 : arg6.IsWhole) (arg7 : Memref sig .tc .smem S9x9 .f32) (harg7 : arg7.IsWhole) (arg8 : Memref sig .tc .smem S9 .f32) (harg8 : arg8.IsWhole) (arg9 : Memref sig .tc .smem S9x9 .f32) (harg9 : arg9.IsWhole) (arg10 : Memref sig .tc .smem S9 .f32) (harg10 : arg10.IsWhole) (arg11 : Memref sig .tc .vmem S1x3x224x224 .f32) (harg11 : arg11.IsWhole) (arg12 : Memref sig .tc .vmem S1x1x224x224 .f32) (harg12 : arg12.IsWhole) (arg13 : Memref sig .tc .vmem S1x27x14x14 .f32) (harg13 : arg13.IsWhole) (arg14 : Memref sig .tc .vmem S1x27x28x28 .f32) (harg14 : arg14.IsWhole) (arg15 : Memref sig .tc .vmem S1x27x56x56 .f32) (harg15 : arg15.IsWhole) (arg16 : Memref sig .tc .vmem S1x27x112x112 .f32) (harg16 : arg16.IsWhole) (arg17 : Memref sig .tc .vmem S1x27x224x224 .f32) (harg17 : arg17.IsWhole) (arg18 : Memref sig .tc .vmem S8x128 .f32) (harg18 : arg18.IsWhole) (hc0 : ¬cond0_0 i) (hc1 : cond0_1 i)
    (x0 : Vec F S9x9 .f32) (x1 : Vec F S9 .f32) (x2 : Vec F S9x9 .f32) (x3 : Vec F S9 .f32) (x4 : Vec F S9x9 .f32) (x5 : Vec F S9 .f32) (x6 : Vec F S9x9 .f32) (x7 : Vec F S9 .f32) (x8 : Vec F S9x9 .f32) (x9 : Vec F S9 .f32) (x10 : Vec F S1x3x224x224 .f32) (x11 : Vec F S1x1x224x224 .f32) (x12 : Vec F S1x27x14x14 .f32) (x13 : Vec F S1x27x28x28 .f32) (x14 : Vec F S1x27x56x56 .f32) (x15 : Vec F S1x27x112x112 .f32) (x16 : Vec F S1x27x224x224 .f32) (xo : Vec F S8x128 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 xo = addf xo (blockTile x0 x1 x2 x3 x4 x5 x6 x7 x8 x9 x10 x11 x12 x13 x14 x15 x16) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 xo), run_later, View.canon_unit_zero zeros_two, pointTile_loads]
  simp only [View.readAt_eq_ld, harg18.read_unread, View.ld_unit_zero (S := S8x128) zeros_two]
  exact congrArg (addf · _) (shapeCast_self _ _)

variable (m : (ℓ : Loc nD τ sig) → Buf (Elt F) ℓ)

/-- The tile of the grid point `t`. -/
def tileAt (c : Dev nD) (t : Fin cfg0.N) : FVec F S8x128 .f32 :=
  blockTile (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The tiles of the points up to the `n`-th, added up in order. -/
def tilesUpTo (c : Dev nD) : (n : ℕ) → n < cfg0.N → FVec F S8x128 .f32
  | 0, h => tileAt m c ⟨0, h⟩
  | n + 1, h => addf (tilesUpTo c n (Nat.lt_of_succ_lt h)) (tileAt m c ⟨n + 1, h⟩)

/-- The output window holds the tiles so far, added up. -/
theorem outsAt_eq (c : Dev nD) : ∀ (n : ℕ) (h : n < cfg0.N), outsAt0 m c n h = tilesUpTo m c n h
  | 0, h => (outsAt0_A m c ⟨0, h⟩ rfl (by dsimp only; omega)).trans (out_first ..)
  | n + 1, h => by
    have hN : cfg0.N = 32 := N_0
    have hB : ¬(⟨n + 1, h⟩ : Fin cfg0.N).val % 32 = 0 := by dsimp only; omega
    have hB' : 1 ≤ (⟨n + 1, h⟩ : Fin cfg0.N).val := by dsimp only; omega
    rw [outsAt0_B m c ⟨n + 1, h⟩ hB hB', out_later]
    show addf (outsAt0 m c n _) _ = addf (tilesUpTo m c n _) _
    rw [outsAt_eq c n]
    rfl

end Cert.Hog

end
-- ==== Proof.Blocks.lean ====
module

public import proofs.«01_k».proof.Proof.Chain

/-!
The blocks in the windows, as places of the argument arrays.
-/

@[expose] public section

set_option maxRecDepth 16384

noncomputable section

namespace Cert.Hog

open Idealize.ShloMosaic Idealize.ShloMosaic.TcCoe Idealize.ShloMosaic.ValueIdx Idealize.SL.Sem Cert.KernelIdeal Cert.KernelIdeal.Gen

variable {F : FTy → Type} [FloatOps F] [Named F]
variable (m : (ℓ : Loc nD τ sig) → Buf (Elt F) ℓ)

/-- The image of a grid point. -/
def img (t : Fin cfg0.N) : Fin 32 := ⟨t.val, lt_of_lt_of_eq t.isLt N_0⟩

/-- Window 10's block indices. -/
theorem index10 : ∀ t : Fin cfg0.N, win0_10.index t 0 = t.val ∧ win0_10.index t 1 = 0 ∧ win0_10.index t 2 = 0 ∧ win0_10.index t 3 = 0 := by decide +kernel

/-- Window 10's block at a point is one image of its array. -/
theorem block10 (c : Dev nD) (t : Fin cfg0.N) (k : Fin 3) (i j : Fin 224) :
    (iblk m c 10 t : Vec F S1x3x224x224 .f32) (ix4 0 k i j) = m ((c : Thread nD τ).loc main_arg5) (ix4 (img t) k i j) := by
  obtain ⟨h0, h1, h2, h3⟩ := index10 t
  unfold iblk
  rw [View.read_apply]
  show V m c main_arg5 _ = m (c.tc.loc main_arg5) _
  unfold V
  congr 1
  funext a
  apply Fin.ext
  match a with
  | ⟨0, _⟩ => show win0_10.index t 0 * 1 + 1 * 0 = t.val; rw [h0]; omega
  | ⟨1, _⟩ => show win0_10.index t 1 * 3 + 1 * k.val = k.val; rw [h1]; omega
  | ⟨2, _⟩ => show win0_10.index t 2 * 224 + 1 * i.val = i.val; rw [h2]; omega
  | ⟨3, _⟩ => show win0_10.index t 3 * 224 + 1 * j.val = j.val; rw [h3]; omega

/-- Window 11's block indices. -/
theorem index11 : ∀ t : Fin cfg0.N, win0_11.index t 0 = t.val ∧ win0_11.index t 1 = 0 ∧ win0_11.index t 2 = 0 ∧ win0_11.index t 3 = 0 := by decide +kernel

/-- Window 11's block at a point is one image of its array. -/
theorem block11 (c : Dev nD) (t : Fin cfg0.N) (k : Fin 1) (i j : Fin 224) :
    (iblk m c 11 t : Vec F S1x1x224x224 .f32) (ix4 0 k i j) = m ((c : Thread nD τ).loc main_arg6) (ix4 (img t) k i j) := by
  obtain ⟨h0, h1, h2, h3⟩ := index11 t
  unfold iblk
  rw [View.read_apply]
  show V m c main_arg6 _ = m (c.tc.loc main_arg6) _
  unfold V
  congr 1
  funext a
  apply Fin.ext
  match a with
  | ⟨0, _⟩ => show win0_11.index t 0 * 1 + 1 * 0 = t.val; rw [h0]; omega
  | ⟨1, _⟩ => show win0_11.index t 1 * 1 + 1 * k.val = k.val; rw [h1]; omega
  | ⟨2, _⟩ => show win0_11.index t 2 * 224 + 1 * i.val = i.val; rw [h2]; omega
  | ⟨3, _⟩ => show win0_11.index t 3 * 224 + 1 * j.val = j.val; rw [h3]; omega

/-- Window 12's block indices. -/
theorem index12 : ∀ t : Fin cfg0.N, win0_12.index t 0 = t.val ∧ win0_12.index t 1 = 0 ∧ win0_12.index t 2 = 0 ∧ win0_12.index t 3 = 0 := by decide +kernel

/-- Window 12's block at a point is one image of its array. -/
theorem block12 (c : Dev nD) (t : Fin cfg0.N) (k : Fin 27) (i j : Fin 14) :
    (iblk m c 12 t : Vec F S1x27x14x14 .f32) (ix4 0 k i j) = m ((c : Thread nD τ).loc main_arg0) (ix4 (img t) k i j) := by
  obtain ⟨h0, h1, h2, h3⟩ := index12 t
  unfold iblk
  rw [View.read_apply]
  show V m c main_arg0 _ = m (c.tc.loc main_arg0) _
  unfold V
  congr 1
  funext a
  apply Fin.ext
  match a with
  | ⟨0, _⟩ => show win0_12.index t 0 * 1 + 1 * 0 = t.val; rw [h0]; omega
  | ⟨1, _⟩ => show win0_12.index t 1 * 27 + 1 * k.val = k.val; rw [h1]; omega
  | ⟨2, _⟩ => show win0_12.index t 2 * 14 + 1 * i.val = i.val; rw [h2]; omega
  | ⟨3, _⟩ => show win0_12.index t 3 * 14 + 1 * j.val = j.val; rw [h3]; omega

/-- Window 13's block indices. -/
theorem index13 : ∀ t : Fin cfg0.N, win0_13.index t 0 = t.val ∧ win0_13.index t 1 = 0 ∧ win0_13.index t 2 = 0 ∧ win0_13.index t 3 = 0 := by decide +kernel

/-- Window 13's block at a point is one image of its array. -/
theorem block13 (c : Dev nD) (t : Fin cfg0.N) (k : Fin 27) (i j : Fin 28) :
    (iblk m c 13 t : Vec F S1x27x28x28 .f32) (ix4 0 k i j) = m ((c : Thread nD τ).loc main_arg1) (ix4 (img t) k i j) := by
  obtain ⟨h0, h1, h2, h3⟩ := index13 t
  unfold iblk
  rw [View.read_apply]
  show V m c main_arg1 _ = m (c.tc.loc main_arg1) _
  unfold V
  congr 1
  funext a
  apply Fin.ext
  match a with
  | ⟨0, _⟩ => show win0_13.index t 0 * 1 + 1 * 0 = t.val; rw [h0]; omega
  | ⟨1, _⟩ => show win0_13.index t 1 * 27 + 1 * k.val = k.val; rw [h1]; omega
  | ⟨2, _⟩ => show win0_13.index t 2 * 28 + 1 * i.val = i.val; rw [h2]; omega
  | ⟨3, _⟩ => show win0_13.index t 3 * 28 + 1 * j.val = j.val; rw [h3]; omega

/-- Window 14's block indices. -/
theorem index14 : ∀ t : Fin cfg0.N, win0_14.index t 0 = t.val ∧ win0_14.index t 1 = 0 ∧ win0_14.index t 2 = 0 ∧ win0_14.index t 3 = 0 := by decide +kernel

/-- Window 14's block at a point is one image of its array. -/
theorem block14 (c : Dev nD) (t : Fin cfg0.N) (k : Fin 27) (i j : Fin 56) :
    (iblk m c 14 t : Vec F S1x27x56x56 .f32) (ix4 0 k i j) = m ((c : Thread nD τ).loc main_arg2) (ix4 (img t) k i j) := by
  obtain ⟨h0, h1, h2, h3⟩ := index14 t
  unfold iblk
  rw [View.read_apply]
  show V m c main_arg2 _ = m (c.tc.loc main_arg2) _
  unfold V
  congr 1
  funext a
  apply Fin.ext
  match a with
  | ⟨0, _⟩ => show win0_14.index t 0 * 1 + 1 * 0 = t.val; rw [h0]; omega
  | ⟨1, _⟩ => show win0_14.index t 1 * 27 + 1 * k.val = k.val; rw [h1]; omega
  | ⟨2, _⟩ => show win0_14.index t 2 * 56 + 1 * i.val = i.val; rw [h2]; omega
  | ⟨3, _⟩ => show win0_14.index t 3 * 56 + 1 * j.val = j.val; rw [h3]; omega

/-- Window 15's block indices. -/
theorem index15 : ∀ t : Fin cfg0.N, win0_15.index t 0 = t.val ∧ win0_15.index t 1 = 0 ∧ win0_15.index t 2 = 0 ∧ win0_15.index t 3 = 0 := by decide +kernel

/-- Window 15's block at a point is one image of its array. -/
theorem block15 (c : Dev nD) (t : Fin cfg0.N) (k : Fin 27) (i j : Fin 112) :
    (iblk m c 15 t : Vec F S1x27x112x112 .f32) (ix4 0 k i j) = m ((c : Thread nD τ).loc main_arg3) (ix4 (img t) k i j) := by
  obtain ⟨h0, h1, h2, h3⟩ := index15 t
  unfold iblk
  rw [View.read_apply]
  show V m c main_arg3 _ = m (c.tc.loc main_arg3) _
  unfold V
  congr 1
  funext a
  apply Fin.ext
  match a with
  | ⟨0, _⟩ => show win0_15.index t 0 * 1 + 1 * 0 = t.val; rw [h0]; omega
  | ⟨1, _⟩ => show win0_15.index t 1 * 27 + 1 * k.val = k.val; rw [h1]; omega
  | ⟨2, _⟩ => show win0_15.index t 2 * 112 + 1 * i.val = i.val; rw [h2]; omega
  | ⟨3, _⟩ => show win0_15.index t 3 * 112 + 1 * j.val = j.val; rw [h3]; omega

/-- Window 16's block indices. -/
theorem index16 : ∀ t : Fin cfg0.N, win0_16.index t 0 = t.val ∧ win0_16.index t 1 = 0 ∧ win0_16.index t 2 = 0 ∧ win0_16.index t 3 = 0 := by decide +kernel

/-- Window 16's block at a point is one image of its array. -/
theorem block16 (c : Dev nD) (t : Fin cfg0.N) (k : Fin 27) (i j : Fin 224) :
    (iblk m c 16 t : Vec F S1x27x224x224 .f32) (ix4 0 k i j) = m ((c : Thread nD τ).loc main_arg4) (ix4 (img t) k i j) := by
  obtain ⟨h0, h1, h2, h3⟩ := index16 t
  unfold iblk
  rw [View.read_apply]
  show V m c main_arg4 _ = m (c.tc.loc main_arg4) _
  unfold V
  congr 1
  funext a
  apply Fin.ext
  match a with
  | ⟨0, _⟩ => show win0_16.index t 0 * 1 + 1 * 0 = t.val; rw [h0]; omega
  | ⟨1, _⟩ => show win0_16.index t 1 * 27 + 1 * k.val = k.val; rw [h1]; omega
  | ⟨2, _⟩ => show win0_16.index t 2 * 224 + 1 * i.val = i.val; rw [h2]; omega
  | ⟨3, _⟩ => show win0_16.index t 3 * 224 + 1 * j.val = j.val; rw [h3]; omega

/-- Window 0's block indices. -/
theorem index0 : ∀ t : Fin cfg0.N, win0_0.index t 0 = 0 ∧ win0_0.index t 1 = 0 := by decide +kernel

/-- Window 0's block is its array. -/
theorem block0 (c : Dev nD) (t : Fin cfg0.N) (o k : Fin 9) :
    (iblk m c 0 t : Vec F S9x9 .f32) (ix2 o k) = m ((c : Thread nD τ).loc main_arg7) (ix2 o k) := by
  obtain ⟨h0, h1⟩ := index0 t
  unfold iblk
  rw [View.read_apply]
  show V m c main_arg7 _ = m (c.tc.loc main_arg7) _
  unfold V
  congr 1
  funext a
  apply Fin.ext
  match a with
  | ⟨0, _⟩ => show win0_0.index t 0 * 9 + 1 * o.val = o.val; rw [h0]; omega
  | ⟨1, _⟩ => show win0_0.index t 1 * 9 + 1 * k.val = k.val; rw [h1]; omega

/-- Window 1's block index. -/
theorem index1 : ∀ t : Fin cfg0.N, win0_1.index t 0 = 0 := by decide +kernel

/-- Window 1's block is its array. -/
theorem block1 (c : Dev nD) (t : Fin cfg0.N) (o : Fin 9) :
    (iblk m c 1 t : Vec F S9 .f32) (ix1 o) = m ((c : Thread nD τ).loc main_arg8) (ix1 o) := by
  have h0 := index1 t
  unfold iblk
  rw [View.read_apply]
  show V m c main_arg8 _ = m (c.tc.loc main_arg8) _
  unfold V
  congr 1
  funext a
  apply Fin.ext
  match a with
  | ⟨0, _⟩ => show win0_1.index t 0 * 9 + 1 * o.val = o.val; rw [h0]; omega

/-- Window 2's block indices. -/
theorem index2 : ∀ t : Fin cfg0.N, win0_2.index t 0 = 0 ∧ win0_2.index t 1 = 0 := by decide +kernel

/-- Window 2's block is its array. -/
theorem block2 (c : Dev nD) (t : Fin cfg0.N) (o k : Fin 9) :
    (iblk m c 2 t : Vec F S9x9 .f32) (ix2 o k) = m ((c : Thread nD τ).loc main_arg9) (ix2 o k) := by
  obtain ⟨h0, h1⟩ := index2 t
  unfold iblk
  rw [View.read_apply]
  show V m c main_arg9 _ = m (c.tc.loc main_arg9) _
  unfold V
  congr 1
  funext a
  apply Fin.ext
  match a with
  | ⟨0, _⟩ => show win0_2.index t 0 * 9 + 1 * o.val = o.val; rw [h0]; omega
  | ⟨1, _⟩ => show win0_2.index t 1 * 9 + 1 * k.val = k.val; rw [h1]; omega

/-- Window 3's block index. -/
theorem index3 : ∀ t : Fin cfg0.N, win0_3.index t 0 = 0 := by decide +kernel

/-- Window 3's block is its array. -/
theorem block3 (c : Dev nD) (t : Fin cfg0.N) (o : Fin 9) :
    (iblk m c 3 t : Vec F S9 .f32) (ix1 o) = m ((c : Thread nD τ).loc main_arg10) (ix1 o) := by
  have h0 := index3 t
  unfold iblk
  rw [View.read_apply]
  show V m c main_arg10 _ = m (c.tc.loc main_arg10) _
  unfold V
  congr 1
  funext a
  apply Fin.ext
  match a with
  | ⟨0, _⟩ => show win0_3.index t 0 * 9 + 1 * o.val = o.val; rw [h0]; omega

/-- Window 4's block indices. -/
theorem index4 : ∀ t : Fin cfg0.N, win0_4.index t 0 = 0 ∧ win0_4.index t 1 = 0 := by decide +kernel

/-- Window 4's block is its array. -/
theorem block4 (c : Dev nD) (t : Fin cfg0.N) (o k : Fin 9) :
    (iblk m c 4 t : Vec F S9x9 .f32) (ix2 o k) = m ((c : Thread nD τ).loc main_arg11) (ix2 o k) := by
  obtain ⟨h0, h1⟩ := index4 t
  unfold iblk
  rw [View.read_apply]
  show V m c main_arg11 _ = m (c.tc.loc main_arg11) _
  unfold V
  congr 1
  funext a
  apply Fin.ext
  match a with
  | ⟨0, _⟩ => show win0_4.index t 0 * 9 + 1 * o.val = o.val; rw [h0]; omega
  | ⟨1, _⟩ => show win0_4.index t 1 * 9 + 1 * k.val = k.val; rw [h1]; omega

/-- Window 5's block index. -/
theorem index5 : ∀ t : Fin cfg0.N, win0_5.index t 0 = 0 := by decide +kernel

/-- Window 5's block is its array. -/
theorem block5 (c : Dev nD) (t : Fin cfg0.N) (o : Fin 9) :
    (iblk m c 5 t : Vec F S9 .f32) (ix1 o) = m ((c : Thread nD τ).loc main_arg12) (ix1 o) := by
  have h0 := index5 t
  unfold iblk
  rw [View.read_apply]
  show V m c main_arg12 _ = m (c.tc.loc main_arg12) _
  unfold V
  congr 1
  funext a
  apply Fin.ext
  match a with
  | ⟨0, _⟩ => show win0_5.index t 0 * 9 + 1 * o.val = o.val; rw [h0]; omega

/-- Window 6's block indices. -/
theorem index6 : ∀ t : Fin cfg0.N, win0_6.index t 0 = 0 ∧ win0_6.index t 1 = 0 := by decide +kernel

/-- Window 6's block is its array. -/
theorem block6 (c : Dev nD) (t : Fin cfg0.N) (o k : Fin 9) :
    (iblk m c 6 t : Vec F S9x9 .f32) (ix2 o k) = m ((c : Thread nD τ).loc main_arg13) (ix2 o k) := by
  obtain ⟨h0, h1⟩ := index6 t
  unfold iblk
  rw [View.read_apply]
  show V m c main_arg13 _ = m (c.tc.loc main_arg13) _
  unfold V
  congr 1
  funext a
  apply Fin.ext
  match a with
  | ⟨0, _⟩ => show win0_6.index t 0 * 9 + 1 * o.val = o.val; rw [h0]; omega
  | ⟨1, _⟩ => show win0_6.index t 1 * 9 + 1 * k.val = k.val; rw [h1]; omega

/-- Window 7's block index. -/
theorem index7 : ∀ t : Fin cfg0.N, win0_7.index t 0 = 0 := by decide +kernel

/-- Window 7's block is its array. -/
theorem block7 (c : Dev nD) (t : Fin cfg0.N) (o : Fin 9) :
    (iblk m c 7 t : Vec F S9 .f32) (ix1 o) = m ((c : Thread nD τ).loc main_arg14) (ix1 o) := by
  have h0 := index7 t
  unfold iblk
  rw [View.read_apply]
  show V m c main_arg14 _ = m (c.tc.loc main_arg14) _
  unfold V
  congr 1
  funext a
  apply Fin.ext
  match a with
  | ⟨0, _⟩ => show win0_7.index t 0 * 9 + 1 * o.val = o.val; rw [h0]; omega

/-- Window 8's block indices. -/
theorem index8 : ∀ t : Fin cfg0.N, win0_8.index t 0 = 0 ∧ win0_8.index t 1 = 0 := by decide +kernel

/-- Window 8's block is its array. -/
theorem block8 (c : Dev nD) (t : Fin cfg0.N) (o k : Fin 9) :
    (iblk m c 8 t : Vec F S9x9 .f32) (ix2 o k) = m ((c : Thread nD τ).loc main_arg15) (ix2 o k) := by
  obtain ⟨h0, h1⟩ := index8 t
  unfold iblk
  rw [View.read_apply]
  show V m c main_arg15 _ = m (c.tc.loc main_arg15) _
  unfold V
  congr 1
  funext a
  apply Fin.ext
  match a with
  | ⟨0, _⟩ => show win0_8.index t 0 * 9 + 1 * o.val = o.val; rw [h0]; omega
  | ⟨1, _⟩ => show win0_8.index t 1 * 9 + 1 * k.val = k.val; rw [h1]; omega

/-- Window 9's block index. -/
theorem index9 : ∀ t : Fin cfg0.N, win0_9.index t 0 = 0 := by decide +kernel

/-- Window 9's block is its array. -/
theorem block9 (c : Dev nD) (t : Fin cfg0.N) (o : Fin 9) :
    (iblk m c 9 t : Vec F S9 .f32) (ix1 o) = m ((c : Thread nD τ).loc main_arg16) (ix1 o) := by
  have h0 := index9 t
  unfold iblk
  rw [View.read_apply]
  show V m c main_arg16 _ = m (c.tc.loc main_arg16) _
  unfold V
  congr 1
  funext a
  apply Fin.ext
  match a with
  | ⟨0, _⟩ => show win0_9.index t 0 * 9 + 1 * o.val = o.val; rw [h0]; omega

end Cert.Hog

end
-- ==== Proof.Final.lean ====
module

public import proofs.«01_k».proof.Proof.Chain
public import Idealize.ShloMosaic.Lib.StableHlo.Run
public import Idealize.ShloMosaic.PureOps.Ideal.Laws

/-!
The kernel's run: its tile array ends holding every point's tile added up, and the host's arithmetic on the tile gives the result.
-/

@[expose] public section

set_option maxRecDepth 16384

noncomputable section

namespace Cert.Hog

open Idealize.ShloMosaic Idealize.ShloMosaic.TcCoe Idealize.ShloMosaic.ValueIdx Idealize.ShloMosaic.StableHlo Idealize.SL.Sem Cert.KernelIdeal Cert.KernelIdeal.Gen
open Idealize.ShloMosaic.Pipeline (Dat)

variable {F : FTy → Type} [FloatOps F] [Named F]
variable (m : (ℓ : Loc nD τ sig) → Buf (Elt F) ℓ) (ρ : Dev nD → PrngReg)

/-- The last grid point. -/
def lastPt : Fin cfg0.N := ⟨31, by rw [show cfg0.N = 32 from N_0]; decide⟩

/-- What the tile array ends holding. -/
abbrev tiles (c : Dev nD) : Buf (Elt F) ((c : Thread nD τ).loc main_v0) := tilesUpTo m c 31 lastPt.isLt

/-- The output's block index is zero at the last point. -/
theorem index_last : (fun a => win0_17.index lastPt a * main_v0.ty.shape.size a) = fun _ => 0 := funext fun a => by fin_cases a <;> decide

/-- The one write-back writes the tiles added up. -/
theorem flushed_tiles (c : Dev nD) (t : Fin cfg0.N) (hf : (cfg0.win 17).flush t = true) :
    (dats m 0 c).flushed 17 t = ((cfg0.win 17).blk t).view.read (Elt F) (tiles m c) := by
  have hN : cfg0.N = 32 := N_0
  have h3 : t.val = 31 := by have := (flush0_17 t).mp hf; have := t.isLt; omega
  obtain rfl : t = lastPt := Fin.ext h3
  show (cfg0.win 17).cut (grid0.coords lastPt) ((dats m 0 c).after 17 lastPt) = _
  rw [after0_17, outsAt_eq]
  exact (Memref.read_access_unit_zero (Elt F) main_v0 index_last (fun a => by rw [congrFun index_last a]; simp) (tiles m c)).symm

/-- So the tile array ends holding them. -/
theorem final_tiles (c : Dev nD) : (dats m 0 c).arrAt 17 cfg0.N = tiles m c :=
  (dats m 0 c).arrAt_eq_of_cover 17 (tiles m c) (flushed_tiles m c) fun i =>
    ⟨lastPt, (flush0_17 lastPt).mpr rfl, by
      show i ∈ ((View.whole main_v0).slice (win0_17.rect lastPt)).set
      rw [View.set_slice_whole, Rect.mem_set_unit]
      intro a
      have h0 : (i 0 : Nat) < 8 := (i 0).isLt
      have h1 : (i 1 : Nat) < 128 := (i 1).isLt
      match a with
      | ⟨0, _⟩ =>
        show win0_17.index lastPt 0 * win0_17.size 0 ≤ (i 0 : Nat) ∧ (i 0 : Nat) < win0_17.index lastPt 0 * win0_17.size 0 + win0_17.xsize (grid0.coords lastPt) 0
        rw [show win0_17.index lastPt 0 * win0_17.size 0 = 0 from by decide +kernel, show win0_17.xsize (grid0.coords lastPt) 0 = 8 from by decide +kernel]; omega
      | ⟨1, _⟩ =>
        show win0_17.index lastPt 1 * win0_17.size 1 ≤ (i 1 : Nat) ∧ (i 1 : Nat) < win0_17.index lastPt 1 * win0_17.size 1 + win0_17.xsize (grid0.coords lastPt) 1
        rw [show win0_17.index lastPt 1 * win0_17.size 1 = 0 from by decide +kernel, show win0_17.xsize (grid0.coords lastPt) 1 = 128 from by decide +kernel]; omega⟩

/-- One lane of the tile's first row, as the host reads it. -/
def lane (T : FVec F S8x128 .f32) (k : ℕ) (h : S128.Slices ![k] Cert.KernelIdeal.S1) : FVec F S_ .f32 :=
  shapeCast S_ (extractStridedSlice Cert.KernelIdeal.S1 ![k] (shapeCast S128 (extractStridedSlice S1x128 ![0, 0] T slices_S8x128_S1x128_0_0) shapeCasts_S1x128_S128) h) shapeCasts_S1_S_

/-- A pool's share of the loss, as the host computes it. -/
def share (T : FVec F S8x128 .f32) (k : ℕ) (h : S128.Slices ![k] Cert.KernelIdeal.S1) (w : BitVec 32) : FVec F S_ .f32 :=
  Host.divf (mulf (lane T k h) (constant S_ .f32 w)) (lane T 5 slices_S128_S1_5)

/-- The host's loss from the tile. -/
def hostLoss (T : FVec F S8x128 .f32) : FVec F S_ .f32 :=
  addf (addf (addf (addf (addf (constant S_ .f32 0x00000000#32) (share T 0 slices_S128_S1_0 0x43800000#32)) (share T 1 slices_S128_S1_1 0x42800000#32))
    (share T 2 slices_S128_S1_2 0x41800000#32)) (share T 3 slices_S128_S1_3 0x40800000#32)) (share T 4 slices_S128_S1_4 0x3F800000#32)

/-- The host's operations after the kernel leave the loss of the tile. -/
theorem host_result (W : Valuation τ sig (Elt F)) :
    after (hostOps1 : List (HloOp τ sig (Elt F))) W (Proc.devRef .tc main_v29) = hostLoss (W (Proc.devRef .tc main_v0)) := by
  unfold hostOps1
  after_results_simp
  rfl

/-- The arrays of the windows are distinct. -/
theorem arr_distinct : Function.Injective (Pipeline.arrRef spec0) := by decide

/-- The result buffer is no window's array. -/
theorem result_rest : main_v29 ∈ Pipeline.restRefs sig spec0 := by decide

/-- The kernel's result. -/
theorem run_result (r : PUnit × MemSt nD τ sig (Elt F)) (h : Pipeline.FramePost cfgs (dats m) 0 (Pipeline.afterTail₀ cfgs (dats m) 0 (V0 m) [hostOps1]) r)
    (c : Dev nD) : r.2.mem ((c : Thread nD τ).loc main_v29) = hostLoss (tiles m c) := by
  refine ((h c).2 main_v29 result_rest).trans ?_
  unfold Pipeline.afterTail₀
  rw [show List.flatten [hostOps1 (F := F)] = hostOps1 from List.append_nil _, host_result]
  refine congrArg hostLoss ?_
  refine (Pipeline.withArrays_arr spec0 arr_distinct c (V0 m c) (fun w => (dats m 0 c).arrAt w cfg0.N) 17).trans ?_
  exact final_tiles m c

end Cert.Hog

end
-- ==== Proof.KernelValue.lean ====
module

public import proofs.«01_k».proof.Proof.Pool
public import proofs.«01_k».proof.Proof.Blocks
public import proofs.«01_k».proof.Proof.Final

/-!
The kernel's result over the extended reals, as a formula in the arguments.
-/

@[expose] public section

set_option maxRecDepth 16384

noncomputable section

namespace Cert.Hog

open Idealize.ShloMosaic Idealize.ShloMosaic.TcCoe Idealize.ShloMosaic.ValueIdx Idealize.SL.Sem Cert.KernelIdeal Cert.KernelIdeal.Gen

/-- A lane of the tile's first row. -/
theorem lane_val (T : FVec Ideal S8x128 .f32) (k : ℕ) (hk : k < 128) (h : S128.Slices ![k] Cert.KernelIdeal.S1) (j : S_.Idx) :
    lane T k h j = T (ix2 0 ⟨k, hk⟩) := by
  unfold lane
  refine (shapeCast_apply _ _ j (ix1 0) (by rfl)).trans ?_
  refine (extractStridedSlice_apply _ _ h (ix1 0) (ix1 ⟨k, hk⟩) (fun a => by match a with | ⟨0, _⟩ => rfl)).trans ?_
  refine (shapeCast_apply _ _ (ix1 ⟨k, hk⟩) (ix2 0 ⟨k, hk⟩) ?_).trans ?_
  · rw [Shape.rowMajor_val_two]
    show 0 * 128 + k = _
    rw [Shape.rowMajor_val_one]
    show _ = k
    omega
  exact extractStridedSlice_apply _ _ _ (ix2 0 ⟨k, hk⟩) (ix2 0 ⟨k, hk⟩)
    (fun a => by match a with | ⟨0, _⟩ => rfl | ⟨1, _⟩ => exact (Nat.zero_add k).symm)

section Lanes
variable (a b c d e f : EReal)

/-- Lane 0. -/
theorem tile0 : tileV (F := Ideal) a b c d e f (ix2 0 ⟨0, by decide⟩) = a := rfl
/-- Lane 1. -/
theorem tile1 : tileV (F := Ideal) a b c d e f (ix2 0 ⟨1, by decide⟩) = b := rfl
/-- Lane 2. -/
theorem tile2 : tileV (F := Ideal) a b c d e f (ix2 0 ⟨2, by decide⟩) = c := rfl
/-- Lane 3. -/
theorem tile3 : tileV (F := Ideal) a b c d e f (ix2 0 ⟨3, by decide⟩) = d := rfl
/-- Lane 4. -/
theorem tile4 : tileV (F := Ideal) a b c d e f (ix2 0 ⟨4, by decide⟩) = e := rfl
/-- Lane 5. -/
theorem tile5 : tileV (F := Ideal) a b c d e f (ix2 0 ⟨5, by decide⟩) = f := rfl

end Lanes

variable (m : (ℓ : Loc nD τ sig) → Buf (Elt Ideal) ℓ)

/-- The tiles so far, added up place by place. -/
theorem tilesUpTo_val (c : Dev nD) (y : S8x128.Idx) : ∀ (n : ℕ) (h : n < cfg0.N),
    (tilesUpTo m c n h y : EReal) = ∑ t : Fin (n + 1), (tileAt m c ⟨t.val, lt_of_lt_of_le t.isLt h⟩ y : EReal)
  | 0, h => by rw [Fin.sum_univ_one]; rfl
  | n + 1, h => by
    rw [Fin.sum_univ_castSucc]
    show (tilesUpTo m c n (Nat.lt_of_succ_lt h) y : EReal) + (tileAt m c ⟨n + 1, h⟩ y : EReal) = _
    rw [tilesUpTo_val c y n (Nat.lt_of_succ_lt h)]
    rfl

/-- The grid point of an image. -/
def pt (n : Fin 32) : Fin cfg0.N := ⟨n.val, lt_of_lt_of_eq n.isLt N_0.symm⟩

/-- The tile array at its end. -/
def endTile (c : Dev nD) : S8x128.Idx → EReal := tiles m c

/-- The tile array at its end, place by place. -/
theorem tiles_val (c : Dev nD) (y : S8x128.Idx) : endTile m c y = ∑ n : Fin 32, (tileAt m c (pt n) y : EReal) :=
  tilesUpTo_val m c y 31 lastPt.isLt

/-- The mask's sum. -/
def maskSum (M : Fin 32 → Fin 224 → Fin 224 → EReal) : EReal := ∑ n, ∑ i, ∑ j, M n i j

/-- A pool's sum over the images, with a mask already pooled. -/
def errSum {h s : ℕ} (hs : 0 < s) (hn : 224 = h * s) (I : Fin 32 → Fin 3 → Fin 224 → Fin 224 → ℝ) (W : Fin 9 → Fin 9 → EReal) (B : Fin 9 → EReal)
    (P : Fin 32 → Fin 3 → Fin 9 → Fin h → Fin h → EReal) (k : Fin 32 → Fin h → Fin h → EReal) : EReal :=
  ∑ n, poolSum hs hn (I n) W B (P n) (k n) * ((1 / 27 : ℝ) : EReal)

/-- The window means of the mask. -/
def meanMask {h s : ℕ} (hn : 224 = h * s) (r : ℝ) (M : Fin 32 → Fin 224 → Fin 224 → EReal) : Fin 32 → Fin h → Fin h → EReal :=
  fun n i j => winSum hn (M n) i j * (r : EReal)

/-- A weight argument. -/
def wArg (x : S9x9.Idx → EReal) : Fin 9 → Fin 9 → EReal := fun o k => x (ix2 o k)
/-- A bias argument. -/
def bArg (x : S9.Idx → EReal) : Fin 9 → EReal := fun o => x (ix1 o)
/-- A prediction argument. -/
def pArg {h : ℕ} (x : (⟨4, ![32, 27, h, h]⟩ : Shape).Idx → EReal) : Fin 32 → Fin 3 → Fin 9 → Fin h → Fin h → EReal :=
  fun n c o i j => x (ix4 n (plane c o) i j)
/-- The mask argument. -/
def mArg (x : (⟨4, ![32, 1, 224, 224]⟩ : Shape).Idx → EReal) : Fin 32 → Fin 224 → Fin 224 → EReal := fun n i j => x (ix4 n 0 i j)

section Values
variable (c : Dev nD) (I : Fin 32 → Fin 3 → Fin 224 → Fin 224 → ℝ)
  (hI : ∀ n k i j, (m ((c : Thread nD τ).loc main_arg5) (ix4 n k i j) : EReal) = (I n k i j : EReal))

include hI in
/-- The image of a grid point, channel by channel. -/
theorem image_val (n : Fin 32) (k : Fin 3) (i j : Fin 224) :
    planeOf (F := Ideal) (iblk m c 10 (pt n) : Vec Ideal S1x3x224x224 .f32) k (ix2 i j) = (I n k i j : EReal) :=
  (block10 m c (pt n) k i j).trans (hI n k i j)

/-- The mask of a grid point. -/
theorem mask_val (n : Fin 32) (i j : Fin 224) :
    planeOf (F := Ideal) (iblk m c 11 (pt n) : Vec Ideal S1x1x224x224 .f32) 0 (ix2 i j) = mArg (m ((c : Thread nD τ).loc main_arg6)) n i j :=
  block11 m c (pt n) 0 i j

include hI in
/-- Lane 0 of the tile array at its end. -/
theorem tiles_lane0 : endTile m c (ix2 0 ⟨0, by decide⟩) = errSum (h := 14) (s := 16) (by decide) (by decide) I
    (wArg (m ((c : Thread nD τ).loc main_arg7))) (bArg (m ((c : Thread nD τ).loc main_arg8))) (pArg (m ((c : Thread nD τ).loc main_arg0)))
    (meanMask (s := 16) (by decide) (1 / 256) (mArg (m ((c : Thread nD τ).loc main_arg6)))) := by
  rw [tiles_val]
  refine Finset.sum_congr rfl fun n _ => ?_
  unfold tileAt blockTile pointTile
  rw [tile0, pool14_val (I n) _ _ _ _ _ (image_val m c I hI n)]
  have eM : (fun a b => planeOf (F := Ideal) (iblk m c 11 (pt n) : Vec Ideal S1x1x224x224 .f32) 0 (ix2 a b)) = mArg (m ((c : Thread nD τ).loc main_arg6)) n :=
    funext fun a => funext fun b => mask_val m c n a b
  have eW : (fun o k => (iblk m c 0 (pt n) : Vec Ideal S9x9 .f32) (ix2 o k)) = wArg (m ((c : Thread nD τ).loc main_arg7)) :=
    funext fun o => funext fun k => block0 m c (pt n) o k
  have eB : (fun o => (iblk m c 1 (pt n) : Vec Ideal S9 .f32) (ix1 o)) = bArg (m ((c : Thread nD τ).loc main_arg8)) :=
    funext fun o => block1 m c (pt n) o
  have eP : (fun k o i j => planeOf (F := Ideal) (iblk m c 12 (pt n) : Vec Ideal S1x27x14x14 .f32) (plane k o) (ix2 i j)) = pArg (m ((c : Thread nD τ).loc main_arg0)) n :=
    funext fun k => funext fun o => funext fun i => funext fun j => block12 m c (pt n) (plane k o) i j
  simp only [eM, eP]
  rw [eW, eB]
  rfl

include hI in
/-- Lane 1 of the tile array at its end. -/
theorem tiles_lane1 : endTile m c (ix2 0 ⟨1, by decide⟩) = errSum (h := 28) (s := 8) (by decide) (by decide) I
    (wArg (m ((c : Thread nD τ).loc main_arg9))) (bArg (m ((c : Thread nD τ).loc main_arg10))) (pArg (m ((c : Thread nD τ).loc main_arg1)))
    (meanMask (s := 8) (by decide) (1 / 64) (mArg (m ((c : Thread nD τ).loc main_arg6)))) := by
  rw [tiles_val]
  refine Finset.sum_congr rfl fun n _ => ?_
  unfold tileAt blockTile pointTile
  rw [tile1, pool28_val (I n) _ _ _ _ _ (image_val m c I hI n)]
  have eM : (fun a b => planeOf (F := Ideal) (iblk m c 11 (pt n) : Vec Ideal S1x1x224x224 .f32) 0 (ix2 a b)) = mArg (m ((c : Thread nD τ).loc main_arg6)) n :=
    funext fun a => funext fun b => mask_val m c n a b
  have eW : (fun o k => (iblk m c 2 (pt n) : Vec Ideal S9x9 .f32) (ix2 o k)) = wArg (m ((c : Thread nD τ).loc main_arg9)) :=
    funext fun o => funext fun k => block2 m c (pt n) o k
  have eB : (fun o => (iblk m c 3 (pt n) : Vec Ideal S9 .f32) (ix1 o)) = bArg (m ((c : Thread nD τ).loc main_arg10)) :=
    funext fun o => block3 m c (pt n) o
  have eP : (fun k o i j => planeOf (F := Ideal) (iblk m c 13 (pt n) : Vec Ideal S1x27x28x28 .f32) (plane k o) (ix2 i j)) = pArg (m ((c : Thread nD τ).loc main_arg1)) n :=
    funext fun k => funext fun o => funext fun i => funext fun j => block13 m c (pt n) (plane k o) i j
  simp only [eM, eP]
  rw [eW, eB]
  rfl

include hI in
/-- Lane 2 of the tile array at its end. -/
theorem tiles_lane2 : endTile m c (ix2 0 ⟨2, by decide⟩) = errSum (h := 56) (s := 4) (by decide) (by decide) I
    (wArg (m ((c : Thread nD τ).loc main_arg11))) (bArg (m ((c : Thread nD τ).loc main_arg12))) (pArg (m ((c : Thread nD τ).loc main_arg2)))
    (meanMask (s := 4) (by decide) (1 / 16) (mArg (m ((c : Thread nD τ).loc main_arg6)))) := by
  rw [tiles_val]
  refine Finset.sum_congr rfl fun n _ => ?_
  unfold tileAt blockTile pointTile
  rw [tile2, pool56_val (I n) _ _ _ _ _ (image_val m c I hI n)]
  have eM : (fun a b => planeOf (F := Ideal) (iblk m c 11 (pt n) : Vec Ideal S1x1x224x224 .f32) 0 (ix2 a b)) = mArg (m ((c : Thread nD τ).loc main_arg6)) n :=
    funext fun a => funext fun b => mask_val m c n a b
  have eW : (fun o k => (iblk m c 4 (pt n) : Vec Ideal S9x9 .f32) (ix2 o k)) = wArg (m ((c : Thread nD τ).loc main_arg11)) :=
    funext fun o => funext fun k => block4 m c (pt n) o k
  have eB : (fun o => (iblk m c 5 (pt n) : Vec Ideal S9 .f32) (ix1 o)) = bArg (m ((c : Thread nD τ).loc main_arg12)) :=
    funext fun o => block5 m c (pt n) o
  have eP : (fun k o i j => planeOf (F := Ideal) (iblk m c 14 (pt n) : Vec Ideal S1x27x56x56 .f32) (plane k o) (ix2 i j)) = pArg (m ((c : Thread nD τ).loc main_arg2)) n :=
    funext fun k => funext fun o => funext fun i => funext fun j => block14 m c (pt n) (plane k o) i j
  simp only [eM, eP]
  rw [eW, eB]
  rfl

include hI in
/-- Lane 3 of the tile array at its end. -/
theorem tiles_lane3 : endTile m c (ix2 0 ⟨3, by decide⟩) = errSum (h := 112) (s := 2) (by decide) (by decide) I
    (wArg (m ((c : Thread nD τ).loc main_arg13))) (bArg (m ((c : Thread nD τ).loc main_arg14))) (pArg (m ((c : Thread nD τ).loc main_arg3)))
    (meanMask (s := 2) (by decide) (1 / 4) (mArg (m ((c : Thread nD τ).loc main_arg6)))) := by
  rw [tiles_val]
  refine Finset.sum_congr rfl fun n _ => ?_
  unfold tileAt blockTile pointTile
  rw [tile3, pool112_val (I n) _ _ _ _ _ (image_val m c I hI n)]
  have eM : (fun a b => planeOf (F := Ideal) (iblk m c 11 (pt n) : Vec Ideal S1x1x224x224 .f32) 0 (ix2 a b)) = mArg (m ((c : Thread nD τ).loc main_arg6)) n :=
    funext fun a => funext fun b => mask_val m c n a b
  have eW : (fun o k => (iblk m c 6 (pt n) : Vec Ideal S9x9 .f32) (ix2 o k)) = wArg (m ((c : Thread nD τ).loc main_arg13)) :=
    funext fun o => funext fun k => block6 m c (pt n) o k
  have eB : (fun o => (iblk m c 7 (pt n) : Vec Ideal S9 .f32) (ix1 o)) = bArg (m ((c : Thread nD τ).loc main_arg14)) :=
    funext fun o => block7 m c (pt n) o
  have eP : (fun k o i j => planeOf (F := Ideal) (iblk m c 15 (pt n) : Vec Ideal S1x27x112x112 .f32) (plane k o) (ix2 i j)) = pArg (m ((c : Thread nD τ).loc main_arg3)) n :=
    funext fun k => funext fun o => funext fun i => funext fun j => block15 m c (pt n) (plane k o) i j
  simp only [eM, eP]
  rw [eW, eB]
  rfl

include hI in
/-- Lane 4 of the tile array at its end. -/
theorem tiles_lane4 : endTile m c (ix2 0 ⟨4, by decide⟩) = errSum (h := 224) (s := 1) (by decide) (by decide) I
    (wArg (m ((c : Thread nD τ).loc main_arg15))) (bArg (m ((c : Thread nD τ).loc main_arg16))) (pArg (m ((c : Thread nD τ).loc main_arg4)))
    (mArg (m ((c : Thread nD τ).loc main_arg6))) := by
  rw [tiles_val]
  refine Finset.sum_congr rfl fun n _ => ?_
  unfold tileAt blockTile pointTile
  rw [tile4, pool224_val (I n) _ _ _ _ _ (image_val m c I hI n)]
  have eM : (fun a b => planeOf (F := Ideal) (iblk m c 11 (pt n) : Vec Ideal S1x1x224x224 .f32) 0 (ix2 a b)) = mArg (m ((c : Thread nD τ).loc main_arg6)) n :=
    funext fun a => funext fun b => mask_val m c n a b
  have eW : (fun o k => (iblk m c 8 (pt n) : Vec Ideal S9x9 .f32) (ix2 o k)) = wArg (m ((c : Thread nD τ).loc main_arg15)) :=
    funext fun o => funext fun k => block8 m c (pt n) o k
  have eB : (fun o => (iblk m c 9 (pt n) : Vec Ideal S9 .f32) (ix1 o)) = bArg (m ((c : Thread nD τ).loc main_arg16)) :=
    funext fun o => block9 m c (pt n) o
  have eP : (fun k o i j => planeOf (F := Ideal) (iblk m c 16 (pt n) : Vec Ideal S1x27x224x224 .f32) (plane k o) (ix2 i j)) = pArg (m ((c : Thread nD τ).loc main_arg4)) n :=
    funext fun k => funext fun o => funext fun i => funext fun j => block16 m c (pt n) (plane k o) i j
  simp only [eM, eP]
  rw [eW, eB]

/-- Lane 5 of the tile array at its end. -/
theorem tiles_lane5 : endTile m c (ix2 0 ⟨5, by decide⟩) = maskSum (mArg (m ((c : Thread nD τ).loc main_arg6))) := by
  rw [tiles_val]
  refine Finset.sum_congr rfl fun n _ => ?_
  unfold tileAt blockTile pointTile
  rw [tile5, total_val]
  exact Finset.sum_congr rfl fun i _ => Finset.sum_congr rfl fun j _ => mask_val m c n i j

end Values

/-- The host's loss, place by place: each lane scaled, over lane 5. -/
theorem hostLoss_val (T : S8x128.Idx → EReal) (j : S_.Idx) : (hostLoss (F := Ideal) T j : EReal)
    = ((((Ideal.div (T (ix2 0 ⟨0, by decide⟩) * ((256 : ℝ) : EReal)) (T (ix2 0 ⟨5, by decide⟩)))
      + Ideal.div (T (ix2 0 ⟨1, by decide⟩) * ((64 : ℝ) : EReal)) (T (ix2 0 ⟨5, by decide⟩)))
      + Ideal.div (T (ix2 0 ⟨2, by decide⟩) * ((16 : ℝ) : EReal)) (T (ix2 0 ⟨5, by decide⟩)))
      + Ideal.div (T (ix2 0 ⟨3, by decide⟩) * ((4 : ℝ) : EReal)) (T (ix2 0 ⟨5, by decide⟩)))
      + Ideal.div (T (ix2 0 ⟨4, by decide⟩) * ((1 : ℝ) : EReal)) (T (ix2 0 ⟨5, by decide⟩)) := by
  have w0 : Ideal.ofBits .f32 0x43800000#32 = ((256 : ℝ) : EReal) := by
    simp [Ideal.ofBits, Ideal.ieee]; rw [← EReal.coe_mul]; norm_num
  have w1 : Ideal.ofBits .f32 0x42800000#32 = ((64 : ℝ) : EReal) := by
    simp [Ideal.ofBits, Ideal.ieee]; rw [← EReal.coe_mul]; norm_num
  have w2 : Ideal.ofBits .f32 0x41800000#32 = ((16 : ℝ) : EReal) := by
    simp [Ideal.ofBits, Ideal.ieee]; rw [← EReal.coe_mul]; norm_num
  have w3 : Ideal.ofBits .f32 0x40800000#32 = ((4 : ℝ) : EReal) := by
    simp [Ideal.ofBits, Ideal.ieee]; rw [← EReal.coe_mul]; norm_num
  have w4 : Ideal.ofBits .f32 0x3F800000#32 = ((1 : ℝ) : EReal) := one_word.trans EReal.coe_one.symm
  have e : ∀ (k : ℕ) (hk : k < 128) (h : S128.Slices ![k] Cert.KernelIdeal.S1) (w : BitVec 32),
      (share (F := Ideal) T k h w j : EReal) = Ideal.div (T (ix2 0 ⟨k, hk⟩) * Ideal.ofBits .f32 w) (T (ix2 0 ⟨5, by decide⟩)) := fun k hk h w => by
    rw [← lane_val T k hk h j, ← lane_val T 5 (by decide) slices_S128_S1_5 j]
    rfl
  unfold hostLoss
  show ((((Ideal.ofBits .f32 0x00000000#32 + (share (F := Ideal) T 0 slices_S128_S1_0 0x43800000#32 j : EReal)) + (share (F := Ideal) T 1 slices_S128_S1_1 0x42800000#32 j : EReal))
    + (share (F := Ideal) T 2 slices_S128_S1_2 0x41800000#32 j : EReal)) + (share (F := Ideal) T 3 slices_S128_S1_3 0x40800000#32 j : EReal))
    + (share (F := Ideal) T 4 slices_S128_S1_4 0x3F800000#32 j : EReal) = _
  rw [Ideal.ofBits_zero_f32, zero_add, e 0 (by decide), e 1 (by decide), e 2 (by decide), e 3 (by decide), e 4 (by decide), w0, w1, w2, w3, w4]

end Cert.Hog

end
-- ==== Proof.RefGrad.lean ====
module

public import proofs.«01_k».proof.Proof.Grad
public import proofs.«01_k».proof.Proof.Gen.ReferenceIdeal.Read

/-!
The reference's gradients, place by place: the reflecting border, then the nine shifted products.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

/-- The place of the image which a place of the bordered image shows. -/
def bounce (a : Fin 226) : Fin 224 :=
  if h : a.val = 0 then ⟨1, by decide⟩ else if h' : a.val = 225 then ⟨222, by decide⟩ else ⟨a.val - 1, by omega⟩

/-- The padded row read without an offset is the row before, mirrored at the edge. -/
theorem bounce_prv (i : Fin 224) (h : 0 + i.val < 226) : bounce ⟨0 + i.val, h⟩ = prv i := by
  unfold bounce prv
  by_cases h0 : i.val = 0
  · rw [dif_pos (by simpa using h0), dif_pos h0]
  · rw [dif_neg (by simpa using h0), dif_neg h0, dif_neg (by simp; omega)]
    exact Fin.ext (by simp)

/-- The padded row read one further is the row itself. -/
theorem bounce_same (i : Fin 224) (h : 1 + i.val < 226) : bounce ⟨1 + i.val, h⟩ = i := by
  unfold bounce
  rw [dif_neg (by simp), dif_neg (by simp; omega)]
  exact Fin.ext (by simp)

/-- The padded row read two further is the row after, mirrored at the edge. -/
theorem bounce_nxt (i : Fin 224) (h : 2 + i.val < 226) : bounce ⟨2 + i.val, h⟩ = nxt i := by
  unfold bounce nxt
  by_cases h0 : i.val = 223
  · rw [dif_neg (by simp), dif_pos (by simp; omega), dif_pos h0]
  · rw [dif_neg (by simp), dif_neg (by simp; omega), dif_neg h0]
    exact Fin.ext (by simp; omega)

/-- One row turned over is itself. -/
theorem turn_row {α : Type} (x : S32x3x1x224.Idx → α) (n : Fin 32) (c : Fin 3) (z : Fin 1) (j : Fin 224) :
    Host.reverse [2] x (ix4 n c z j) = x (ix4 n c z j) := by
  refine congrArg x (funext fun a => ?_)
  match a with
  | ⟨0, _⟩ => rfl
  | ⟨1, _⟩ => rfl
  | ⟨2, _⟩ => exact Subsingleton.elim (α := Fin 1) _ _
  | ⟨3, _⟩ => rfl

/-- One column turned over is itself. -/
theorem turn_col {α : Type} (x : S32x3x226x1.Idx → α) (n : Fin 32) (c : Fin 3) (i : Fin 226) (z : Fin 1) :
    Host.reverse [3] x (ix4 n c i z) = x (ix4 n c i z) := by
  refine congrArg x (funext fun a => ?_)
  match a with
  | ⟨0, _⟩ => rfl
  | ⟨1, _⟩ => rfl
  | ⟨2, _⟩ => rfl
  | ⟨3, _⟩ => exact Subsingleton.elim (α := Fin 1) _ _

variable (x5 : FVec Ideal S32x3x224x224 .f32)

/-- The image with a row above. -/
theorem above_val (n : Fin 32) (c : Fin 3) (a : Fin 225) (j : Fin 224) :
    val_main_call0_v3 (F := Ideal) x5 (ix4 n c a j) = x5 (ix4 n c (bounce ⟨a.val, by omega⟩) j) := by
  unfold val_main_call0_v3 bounce
  by_cases h : a.val = 0
  · rw [dif_pos h]
    refine Eq.trans (concatenate_pair_apply_left _ _ _ _ _ (by rfl) (ix4 n c (⟨0, by decide⟩ : Fin 1) j) ?_) ?_
    · exact fun | ⟨0, _⟩ => rfl | ⟨1, _⟩ => rfl | ⟨2, _⟩ => h.symm | ⟨3, _⟩ => rfl
    refine (turn_row _ n c _ j).trans ((val_main_call0_v1_apply (F := Ideal) x5 _).trans (congrArg x5 (funext fun
      | ⟨0, _⟩ => rfl | ⟨1, _⟩ => rfl | ⟨2, _⟩ => rfl | ⟨3, _⟩ => rfl)))
  · rw [dif_neg h, dif_neg (by simp; omega)]
    refine concatenate_pair_apply_right _ _ _ _ _ (by rfl) (by rfl) (ix4 n c (⟨a.val - 1, by omega⟩ : Fin 224) j) ?_ ?_
    · exact fun | ⟨0, _⟩ => fun _ => rfl | ⟨1, _⟩ => fun _ => rfl | ⟨2, _⟩ => fun h => absurd rfl h | ⟨3, _⟩ => fun _ => rfl
    · show a.val - 1 + 1 = a.val; omega

/-- The image with a row above and a row below. -/
theorem rows_val (n : Fin 32) (c : Fin 3) (a : Fin 226) (j : Fin 224) :
    val_main_call0_v7 (F := Ideal) x5 (ix4 n c a j) = x5 (ix4 n c (bounce a) j) := by
  unfold val_main_call0_v7
  by_cases h : a.val = 225
  · refine Eq.trans (concatenate_pair_apply_right _ _ _ _ _ (by rfl) (by rfl) (ix4 n c (⟨0, by decide⟩ : Fin 1) j) ?_ ?_) ?_
    · exact fun | ⟨0, _⟩ => fun _ => rfl | ⟨1, _⟩ => fun _ => rfl | ⟨2, _⟩ => fun h => absurd rfl h | ⟨3, _⟩ => fun _ => rfl
    · show 0 + 225 = a.val; omega
    refine (turn_row _ n c _ j).trans ((val_main_call0_v5_apply (F := Ideal) x5 _).trans ?_)
    refine Eq.trans (congrArg (val_main_call0_v3 (F := Ideal) x5) (a₂ := ix4 n c (⟨223, by decide⟩ : Fin 225) j) (funext fun
      | ⟨0, _⟩ => rfl | ⟨1, _⟩ => rfl | ⟨2, _⟩ => rfl | ⟨3, _⟩ => rfl)) ((above_val x5 n c _ j).trans ?_)
    have e : bounce a = ⟨222, by decide⟩ := by unfold bounce; rw [dif_neg (by omega), dif_pos h]
    rw [e]; rfl
  · refine Eq.trans (concatenate_pair_apply_left _ _ _ _ _ (by rfl) (ix4 n c (⟨a.val, by omega⟩ : Fin 225) j) ?_) ?_
    · exact fun | ⟨0, _⟩ => rfl | ⟨1, _⟩ => rfl | ⟨2, _⟩ => rfl | ⟨3, _⟩ => rfl
    exact above_val x5 n c _ j

/-- The rows with a column on the left. -/
theorem leftof_val (n : Fin 32) (c : Fin 3) (a : Fin 226) (b : Fin 225) :
    val_main_call0_v11 (F := Ideal) x5 (ix4 n c a b) = x5 (ix4 n c (bounce a) (bounce ⟨b.val, by omega⟩)) := by
  unfold val_main_call0_v11
  by_cases h : b.val = 0
  · have e : bounce ⟨b.val, by omega⟩ = ⟨1, by decide⟩ := by unfold bounce; rw [dif_pos h]
    rw [e]
    refine Eq.trans (concatenate_pair_apply_left _ _ _ _ _ (by rfl) (ix4 n c a (⟨0, by decide⟩ : Fin 1)) ?_) ?_
    · exact fun | ⟨0, _⟩ => rfl | ⟨1, _⟩ => rfl | ⟨2, _⟩ => rfl | ⟨3, _⟩ => h.symm
    refine (turn_col _ n c a _).trans ((val_main_call0_v9_apply (F := Ideal) x5 _).trans ?_)
    exact Eq.trans (congrArg (val_main_call0_v7 (F := Ideal) x5) (a₂ := ix4 n c a (⟨1, by decide⟩ : Fin 224)) (funext fun
      | ⟨0, _⟩ => rfl | ⟨1, _⟩ => rfl | ⟨2, _⟩ => rfl | ⟨3, _⟩ => rfl)) (rows_val x5 n c a _)
  · have e : bounce ⟨b.val, by omega⟩ = ⟨b.val - 1, by omega⟩ := by
      unfold bounce; rw [dif_neg h, dif_neg (by simp; omega)]
    rw [e]
    refine Eq.trans (concatenate_pair_apply_right _ _ _ _ _ (by rfl) (by rfl) (ix4 n c a (⟨b.val - 1, by omega⟩ : Fin 224)) ?_ ?_) ?_
    · exact fun | ⟨0, _⟩ => fun _ => rfl | ⟨1, _⟩ => fun _ => rfl | ⟨2, _⟩ => fun _ => rfl | ⟨3, _⟩ => fun h => absurd rfl h
    · show b.val - 1 + 1 = b.val; omega
    exact rows_val x5 n c a _

/-- The bordered image. -/
theorem border_val (n : Fin 32) (c : Fin 3) (a b : Fin 226) :
    val_main_v0 (F := Ideal) x5 (ix4 n c a b) = x5 (ix4 n c (bounce a) (bounce b)) := by
  unfold val_main_v0
  by_cases h : b.val = 225
  · have e : bounce b = ⟨222, by decide⟩ := by unfold bounce; rw [dif_neg (by omega), dif_pos h]
    refine Eq.trans (concatenate_pair_apply_right _ _ _ _ _ (by rfl) (by rfl) (ix4 n c a (⟨0, by decide⟩ : Fin 1)) ?_ ?_) ?_
    · exact fun | ⟨0, _⟩ => fun _ => rfl | ⟨1, _⟩ => fun _ => rfl | ⟨2, _⟩ => fun _ => rfl | ⟨3, _⟩ => fun h => absurd rfl h
    · show 0 + 225 = b.val; omega
    refine (turn_col _ n c a _).trans ((val_main_call0_v13_apply (F := Ideal) x5 _).trans ?_)
    refine Eq.trans (congrArg (val_main_call0_v11 (F := Ideal) x5) (a₂ := ix4 n c a (⟨223, by decide⟩ : Fin 225)) (funext fun
      | ⟨0, _⟩ => rfl | ⟨1, _⟩ => rfl | ⟨2, _⟩ => rfl | ⟨3, _⟩ => rfl)) ((leftof_val x5 n c a _).trans ?_)
    rw [e]; rfl
  · refine Eq.trans (concatenate_pair_apply_left _ _ _ _ _ (by rfl) (ix4 n c a (⟨b.val, by omega⟩ : Fin 225)) ?_) ?_
    · exact fun | ⟨0, _⟩ => rfl | ⟨1, _⟩ => rfl | ⟨2, _⟩ => rfl | ⟨3, _⟩ => rfl
    exact leftof_val x5 n c a _

/-- A shifted view of the bordered image. -/
theorem shifted (n : Fin 32) (c : Fin 3) (i j : Fin 224) (p q : ℕ) (hp : p + i.val < 226) (hq : q + j.val < 226)
    (y : S32x3x226x226.Idx) (h0 : (y 0).val = n.val) (h1 : (y 1).val = c.val) (h2 : (y 2).val = p + i.val) (h3 : (y 3).val = q + j.val) :
    val_main_v0 (F := Ideal) x5 y = x5 (ix4 n c (bounce ⟨p + i.val, hp⟩) (bounce ⟨q + j.val, hq⟩)) := by
  have e : y = ix4 n c (⟨p + i.val, hp⟩ : Fin 226) (⟨q + j.val, hq⟩ : Fin 226) := funext fun
    | ⟨0, _⟩ => Fin.ext h0 | ⟨1, _⟩ => Fin.ext h1 | ⟨2, _⟩ => Fin.ext h2 | ⟨3, _⟩ => Fin.ext h3
  rw [e]; exact border_val x5 n c _ _

variable (n : Fin 32) (c : Fin 3) (i j : Fin 224)

/-- The padded image at offset (0, 0): the row one step before, the column one step before. -/
theorem shift_00 : val_main_v1 (F := Ideal) x5 (ix4 n c i j) = x5 (ix4 n c (prv i) (prv j)) := by
  rw [val_main_v1_apply, shifted x5 n c i j 0 0 (by omega) (by omega) _ rfl rfl (Nat.zero_add _).symm (Nat.zero_add _).symm,
    bounce_prv, bounce_prv]
/-- The padded image at offset (0, 1): the row one step before, the column at the same place. -/
theorem shift_01 : val_main_v10 (F := Ideal) x5 (ix4 n c i j) = x5 (ix4 n c (prv i) j) := by
  rw [val_main_v10_apply, shifted x5 n c i j 0 1 (by omega) (by omega) _ rfl rfl (Nat.zero_add _).symm rfl, bounce_prv, bounce_same]
/-- The padded image at offset (0, 2): the row one step before, the column one step after. -/
theorem shift_02 : val_main_v17 (F := Ideal) x5 (ix4 n c i j) = x5 (ix4 n c (prv i) (nxt j)) := by
  rw [val_main_v17_apply, shifted x5 n c i j 0 2 (by omega) (by omega) _ rfl rfl (Nat.zero_add _).symm rfl, bounce_prv, bounce_nxt]
/-- The padded image at offset (1, 0): the row at the same place, the column one step before. -/
theorem shift_10 : val_main_v24 (F := Ideal) x5 (ix4 n c i j) = x5 (ix4 n c i (prv j)) := by
  rw [val_main_v24_apply, shifted x5 n c i j 1 0 (by omega) (by omega) _ rfl rfl rfl (Nat.zero_add _).symm, bounce_same, bounce_prv]
/-- The padded image at offset (1, 1): the row at the same place, the column at the same place. -/
theorem shift_11 : val_main_v31 (F := Ideal) x5 (ix4 n c i j) = x5 (ix4 n c i j) := by
  rw [val_main_v31_apply, shifted x5 n c i j 1 1 (by omega) (by omega) _ rfl rfl rfl rfl, bounce_same, bounce_same]
/-- The padded image at offset (1, 2): the row at the same place, the column one step after. -/
theorem shift_12 : val_main_v38 (F := Ideal) x5 (ix4 n c i j) = x5 (ix4 n c i (nxt j)) := by
  rw [val_main_v38_apply, shifted x5 n c i j 1 2 (by omega) (by omega) _ rfl rfl rfl rfl, bounce_same, bounce_nxt]
/-- The padded image at offset (2, 0): the row one step after, the column one step before. -/
theorem shift_20 : val_main_v45 (F := Ideal) x5 (ix4 n c i j) = x5 (ix4 n c (nxt i) (prv j)) := by
  rw [val_main_v45_apply, shifted x5 n c i j 2 0 (by omega) (by omega) _ rfl rfl rfl (Nat.zero_add _).symm, bounce_nxt, bounce_prv]
/-- The padded image at offset (2, 1): the row one step after, the column at the same place. -/
theorem shift_21 : val_main_v52 (F := Ideal) x5 (ix4 n c i j) = x5 (ix4 n c (nxt i) j) := by
  rw [val_main_v52_apply, shifted x5 n c i j 2 1 (by omega) (by omega) _ rfl rfl rfl rfl, bounce_nxt, bounce_same]
/-- The padded image at offset (2, 2): the row one step after, the column one step after. -/
theorem shift_22 : val_main_v59 (F := Ideal) x5 (ix4 n c i j) = x5 (ix4 n c (nxt i) (nxt j)) := by
  rw [val_main_v59_apply, shifted x5 n c i j 2 2 (by omega) (by omega) _ rfl rfl rfl rfl, bounce_nxt, bounce_nxt]

/-- The constant one. -/
theorem word_one : Ideal.ofBits .f32 0x3F800000#32 = ((1 : ℝ) : EReal) := by
  simp [Ideal.ofBits, Ideal.ieee]; rw [← EReal.coe_mul]; norm_num
/-- The constant zero. -/
theorem word_zero : Ideal.ofBits .f32 0x00000000#32 = ((0 : ℝ) : EReal) := Ideal.ofBits_zero_f32
/-- The constant two. -/
theorem word_two : Ideal.ofBits .f32 0x40000000#32 = ((2 : ℝ) : EReal) := by
  simp [Ideal.ofBits, Ideal.ieee]; rw [← EReal.coe_mul]; norm_num
/-- The constant minus one. -/
theorem word_negOne : Ideal.ofBits .f32 0xBF800000#32 = ((-1 : ℝ) : EReal) := by
  simp [Ideal.ofBits, Ideal.ieee]; rw [← EReal.coe_mul]; norm_num
/-- The constant minus two. -/
theorem word_negTwo : Ideal.ofBits .f32 0xC0000000#32 = ((-2 : ℝ) : EReal) := by
  simp [Ideal.ofBits, Ideal.ieee]; rw [← EReal.coe_mul]; norm_num

variable (I : Fin 32 → Fin 3 → Fin 224 → Fin 224 → ℝ) (hI : ∀ n k i j, x5 (ix4 n k i j) = ((I n k i j : ℝ) : EReal))

include hI in
/-- The reference's two gradients are the plain ones. -/
theorem grads_ref : val_main_v62 (F := Ideal) x5 (ix4 n c i j) = ((gradX (I n c) i j : ℝ) : EReal)
    ∧ val_main_v65 (F := Ideal) x5 (ix4 n c i j) = ((gradY (I n c) i j : ℝ) : EReal) := by
  simp only [val_main_cst_apply, val_main_v2_apply, val_main_v3_apply, val_main_cst_0_apply, val_main_v4_apply, val_main_v5_apply, val_main_cst_1_apply,
    val_main_v6_apply, val_main_v7_apply, val_main_cst_2_apply, val_main_v8_apply, val_main_v9_apply, val_main_cst_3_apply, val_main_v11_apply,
    val_main_v12_apply, val_main_v13_apply, val_main_cst_4_apply, val_main_v14_apply, val_main_v15_apply, val_main_v16_apply, val_main_cst_5_apply,
    val_main_v18_apply, val_main_v19_apply, val_main_v20_apply, val_main_cst_6_apply, val_main_v21_apply, val_main_v22_apply, val_main_v23_apply,
    val_main_cst_7_apply, val_main_v25_apply, val_main_v26_apply, val_main_v27_apply, val_main_cst_8_apply, val_main_v28_apply, val_main_v29_apply,
    val_main_v30_apply, val_main_cst_9_apply, val_main_v32_apply, val_main_v33_apply, val_main_v34_apply, val_main_cst_10_apply, val_main_v35_apply,
    val_main_v36_apply, val_main_v37_apply, val_main_cst_11_apply, val_main_v39_apply, val_main_v40_apply, val_main_v41_apply, val_main_cst_12_apply,
    val_main_v42_apply, val_main_v43_apply, val_main_v44_apply, val_main_cst_13_apply, val_main_v46_apply, val_main_v47_apply, val_main_v48_apply,
    val_main_cst_14_apply, val_main_v49_apply, val_main_v50_apply, val_main_v51_apply, val_main_cst_15_apply, val_main_v53_apply, val_main_v54_apply,
    val_main_v55_apply, val_main_cst_16_apply, val_main_v56_apply, val_main_v57_apply, val_main_v58_apply, val_main_cst_17_apply, val_main_v60_apply,
    val_main_v61_apply, val_main_v62_apply, val_main_cst_18_apply, val_main_v63_apply, val_main_v64_apply, val_main_v65_apply,
    shift_00, shift_01, shift_02, shift_10, shift_11, shift_12, shift_20, shift_21, shift_22, Ideal.mulf_def, Ideal.addf_def, Ideal.ofBits_def,
    word_zero, word_one, word_two, word_negOne, word_negTwo, hI, ← EReal.coe_mul, ← EReal.coe_add, gradX, gradY]
  exact ⟨congrArg Real.toEReal (by ring), congrArg Real.toEReal (by ring)⟩

end Cert.Hog
-- ==== Proof.RefBins.lean ====
module

public import proofs.«01_k».proof.Proof.RefGrad
public import proofs.«01_k».proof.Proof.Pool

/-!
The reference's orientation bins and its histogram, place by place.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

/-- The two-argument arctangent of reals is the angle. -/
theorem atan2_coe (y x : ℝ) : Ideal.atan2 (y : EReal) (x : EReal) = ((angle y x : ℝ) : EReal) := rfl

/-- The angle of the leftward direction is the half turn. -/
theorem angle_left : angle 0 (-1) = Real.pi := by
  unfold angle
  rw [if_neg (by norm_num), if_pos (by norm_num), if_pos le_rfl]
  simp

/-- The word remainder by nine, brought to the sign of nine, is the integer one. -/
theorem wrap_ofInt (z : ℤ) (h : -9 ≤ z ∧ z ≤ 9) :
    Scalar.select (IntOp.andi (IntOp.cmpi .ne (IntOp.cmpi .slt (IntOp.remsi .host (BitVec.ofInt 32 z) 9#32) 0#32) (IntOp.cmpi .slt 9#32 0#32))
        (IntOp.cmpi .ne (IntOp.remsi .host (BitVec.ofInt 32 z) 9#32) 0#32))
      (IntOp.addi (IntOp.remsi .host (BitVec.ofInt 32 z) 9#32) 9#32) (IntOp.remsi .host (BitVec.ofInt 32 z) 9#32)
      = BitVec.ofNat 32 (z % 9).toNat := by
  obtain ⟨h1, h2⟩ := h
  interval_cases z <;> decide

/-- The divisor nine is not replaced, since it is not zero. -/
theorem nine_kept : Scalar.select (IntOp.cmpi .eq 9#32 0#32) 1#32 9#32 = 9#32 := by decide

/-- The constant nine. -/
theorem word_nine : Ideal.ofBits .f32 0x41100000#32 = ((9 : ℝ) : EReal) := by
  simp [Ideal.ofBits, Ideal.ieee]; rw [← EReal.coe_mul]; norm_num

variable (x5 : FVec Ideal S32x3x224x224 .f32) (n : Fin 32) (c : Fin 3) (i j : Fin 224)
variable (I : Fin 32 → Fin 3 → Fin 224 → Fin 224 → ℝ) (hI : ∀ n k i j, x5 (ix4 n k i j) = ((I n k i j : ℝ) : EReal))

include hI in
/-- The magnitude. -/
theorem mag_ref : val_main_v69 (F := Ideal) x5 (ix4 n c i j)
    = ((√(gradX (I n c) i j * gradX (I n c) i j + gradY (I n c) i j * gradY (I n c) i j) : ℝ) : EReal) := by
  have hg := grads_ref x5 n c i j I hI
  rw [val_main_v69_apply, val_main_v68_apply, val_main_v66_apply, val_main_v67_apply, hg.1, hg.2]
  simp only [Ideal.mulf_def, Ideal.addf_def, Ideal.hostUnary_sqrt_def, ← EReal.coe_mul, ← EReal.coe_add]
  exact (Ideal.sqrt_coe _).trans (if_neg (not_lt.2 (add_nonneg (mul_self_nonneg _) (mul_self_nonneg _))))

include hI in
/-- The ninth, as a word. -/
theorem ninth_ref : val_main_v77 (F := Ideal) x5 (ix4 n c i j) = BitVec.ofInt 32 (ninth (gradX (I n c) i j) (gradY (I n c) i j)) := by
  have hg := grads_ref x5 n c i j I hI
  have hr := ninth_range (gradX (I n c) i j) (gradY (I n c) i j)
  rw [val_main_v77_apply, val_main_v76_apply, val_main_v75_apply, val_main_v73_apply, val_main_v70_apply, val_main_v72_apply, val_main_v71_apply,
    val_main_v74_apply, val_main_cst_19_apply, val_main_cst_20_apply, val_main_cst_21_apply, hg.1, hg.2]
  simp only [Ideal.mulf_def, Ideal.hostDivf_def, Ideal.hostAtan2_def, Ideal.hostUnary_floor_def, Ideal.ofBits_def, word_zero, word_negOne, word_nine,
    atan2_coe, angle_left, Ideal.div_coe Real.pi_ne_zero, ← EReal.coe_mul, Ideal.liftRound_coe]
  refine congrArg (BitVec.ofInt 32) (Eq.trans (Ideal.toIntClamped_coe _ _ _) ?_)
  rw [show ⌊angle (gradX (I n c) i j) (gradY (I n c) i j) * (1 / Real.pi) * 9⌋ = ninth (gradX (I n c) i j) (gradY (I n c) i j) by
    unfold ninth; rw [_root_.mul_one_div]]
  rw [Int.floor_intCast, Int.ceil_intCast, ite_self]
  norm_num
  omega

include hI in
/-- The bin, as a word. -/
theorem bin_ref : val_main_v78 (F := Ideal) x5 (ix4 n c i j) = BitVec.ofNat 32 (binOf (gradX (I n c) i j) (gradY (I n c) i j)).val := by
  rw [val_main_v78_apply]
  simp only [val_main_call1_v14_apply, val_main_call1_v13_apply, val_main_call1_v12_apply, val_main_call1_v11_apply, val_main_call1_v10_apply,
    val_main_call1_v9_apply, val_main_call1_v8_apply, val_main_call1_v7_apply, val_main_call1_v6_apply, val_main_call1_v5_apply, val_main_call1_v4_apply,
    val_main_call1_v3_apply, val_main_call1_v2_apply, val_main_call1_v1_apply, val_main_call1_v0_apply, val_main_call1_c_apply, val_main_call1_c_0_apply,
    val_main_call1_c_1_apply, val_main_call1_c_2_apply, val_main_call1_c_3_apply, val_main_c_22_apply, ninth_ref x5 n c i j I hI, nine_kept]
  exact wrap_ofInt _ (ninth_range _ _)

include hI in
/-- The histogram holds the magnitude at the bin and zero elsewhere. -/
theorem hist_ref (o : Fin 9) : val_main_v87 (F := Ideal) x5 (ix5 n c o i j)
    = if binOf (gradX (I n c) i j) (gradY (I n c) i j) = o
      then ((√(gradX (I n c) i j * gradX (I n c) i j + gradY (I n c) i j * gradY (I n c) i j) : ℝ) : EReal) else 0 := by
  rw [val_main_v87_apply, val_main_v85_apply, val_main_v83_apply, val_main_v84_apply, val_main_v79_apply, val_main_v82_apply, val_main_v81_apply,
    val_main_v80_apply, val_main_call2_v1_apply, val_main_v86_apply, val_main_call2_v2_apply, val_main_call2_v0_apply, val_main_cst_23_apply]
  rw [show idx_main_v79 (idx_main_v83 (ix5 n c o i j)) = ix4 n c i j from funext fun
      | ⟨0, _⟩ => rfl | ⟨1, _⟩ => rfl | ⟨2, _⟩ => rfl | ⟨3, _⟩ => rfl,
    show idx_main_v86 (idx_main_call2_v1 (ix5 n c o i j)) = ix4 n c i j from funext fun
      | ⟨0, _⟩ => rfl | ⟨1, _⟩ => rfl | ⟨2, _⟩ => rfl | ⟨3, _⟩ => rfl, bin_ref x5 n c i j I hI, mag_ref x5 n c i j I hI]
  generalize binOf (gradX (I n c) i j) (gradY (I n c) i j) = b
  show Scalar.select (IntOp.cmpi .eq (BitVec.ofNat 32 b.val) (BitVec.ofNat 32 o.val)) _ (Ideal.ofBits .f32 0x00000000#32) = _
  rw [word_zero]
  by_cases h : b = o
  · subst h
    simp [IntOp.cmpi, Scalar.select]
  · rw [if_neg h]
    have hne : BitVec.ofNat 32 b.val ≠ BitVec.ofNat 32 o.val := fun e => h (Fin.ext (by
      have := congrArg BitVec.toNat e
      simp only [BitVec.toNat_ofNat] at this
      omega))
    simp [IntOp.cmpi, Scalar.select, beq_false_of_ne hne]

end Cert.Hog
-- ==== Proof.RefShared.lean ====
module

public import proofs.«01_k».proof.Proof.RefBins
public import proofs.«01_k».proof.Proof.KernelValue

/-!
What the reference's five pools share: the one-hot product, the sums over channels and windows, and the loss of one pool.
-/

@[expose] public section

noncomputable section

namespace Cert.Hog

open Idealize.ShloMosaic Idealize.ShloMosaic.TcCoe Idealize.ShloMosaic.ValueIdx

/-- A row of weights against a histogram with one full bin. -/
theorem onehot_dot (b : Fin 9) (m : EReal) (W : Fin 9 → EReal) : ∑ k, (if b = k then m else 0) * W k = m * W b := by
  rw [Finset.sum_eq_single b]
  · rw [if_pos rfl]
  · intro k _ h; rw [if_neg (Ne.symm h), zero_mul]
  · exact fun h => absurd (Finset.mem_univ b) h

/-- A sum over the twenty-seven planes, channel by channel. -/
theorem sum_plane (f : Fin 27 → EReal) : ∑ k, f k = ∑ c, ∑ o, f (plane c o) := by
  rw [← (finProdFinEquiv (m := 3) (n := 9)).sum_comp f, Fintype.sum_prod_type]
  refine Finset.sum_congr rfl fun c _ => Finset.sum_congr rfl fun o _ => congrArg f (Fin.ext ?_)
  show o.val + 9 * c.val = c.val * 9 + o.val
  omega

/-- What is left of a place when its window axes are dropped. -/
theorem drop_windows {n a b d e : ℕ} (h' : Shape.ReducesTo ⟨5, ![n, a, b, d, e]⟩ [2, 4] ⟨3, ![n, a, d]⟩) (i : (⟨5, ![n, a, b, d, e]⟩ : Shape).Idx) :
    h'.drop i = ix3 (i 0) (i 1) (i 3) := funext fun
  | ⟨0, _⟩ => rfl
  | ⟨1, _⟩ => rfl
  | ⟨2, _⟩ => rfl

/-- A sum over the window axes. -/
theorem windows_val {n a b d e : ℕ} (h' : Shape.ReducesTo ⟨5, ![n, a, b, d, e]⟩ [2, 4] ⟨3, ![n, a, d]⟩)
    (x : (⟨5, ![n, a, b, d, e]⟩ : Shape).Idx → EReal) (init : EReal) (i0 : Fin n) (i1 : Fin a) (i2 : Fin d) :
    Ideal.hostReduceAdd h' x init (ix3 i0 i1 i2) = init + ∑ p, ∑ q, x (ix5 i0 i1 p i2 q) := by
  unfold Ideal.hostReduceAdd
  refine congrArg (init + ·) ?_
  rw [← Fintype.sum_prod_type (f := fun pq : Fin b × Fin e => x (ix5 i0 i1 pq.1 i2 pq.2))]
  refine Finset.sum_nbij' (fun i => (i 2, i 4)) (fun pq => ix5 i0 i1 pq.1 i2 pq.2) (fun _ _ => Finset.mem_univ _) ?_ ?_ (fun _ _ => rfl) ?_
  · intro pq _
    rw [Finset.mem_filter, drop_windows]
    exact ⟨Finset.mem_univ _, rfl⟩
  · intro i hi
    have h := (drop_windows h' i).symm.trans (Finset.mem_filter.1 hi).2
    have e0 : i 0 = i0 := congrFun h 0
    have e1 : i 1 = i1 := congrFun h 1
    have e2 : i 3 = i2 := congrFun h 2
    subst e0 e1 e2
    exact (eq_ix5 i).symm
  · intro i hi
    have h := (drop_windows h' i).symm.trans (Finset.mem_filter.1 hi).2
    have e0 : i 0 = i0 := congrFun h 0
    have e1 : i 1 = i1 := congrFun h 1
    have e2 : i 3 = i2 := congrFun h 2
    subst e0 e1 e2
    exact congrArg x (eq_ix5 i)

/-- A strided view of the histogram shows the windows' first places. -/
theorem strided_val {α : Type} {h s : ℕ} (hs : 0 < s) (hn : 224 = h * s) (x : (⟨5, ![32, 3, 9, 224, 224]⟩ : Shape).Idx → α)
    (hb : Shape.SlicesBy ⟨5, ![32, 3, 9, 224, 224]⟩ ![0, 0, 0, 0, 0] ![1, 1, 1, s, s] ⟨5, ![32, 3, 9, h, h]⟩)
    (n : Fin 32) (c : Fin 3) (o : Fin 9) (r q : Fin h) :
    Host.slice ⟨5, ![32, 3, 9, h, h]⟩ ![0, 0, 0, 0, 0] ![1, 1, 1, s, s] x hb (ix5 n c o r q) = x (ix5 n c o (head hs hn r) (head hs hn q)) :=
  congrArg x (funext fun
    | ⟨0, _⟩ => Fin.ext (by show 0 + 1 * n.val = n.val; omega)
    | ⟨1, _⟩ => Fin.ext (by show 0 + 1 * c.val = c.val; omega)
    | ⟨2, _⟩ => Fin.ext (by show 0 + 1 * o.val = o.val; omega)
    | ⟨3, _⟩ => Fin.ext (by show 0 + s * r.val = r.val * s + 0; rw [Nat.mul_comm]; omega)
    | ⟨4, _⟩ => Fin.ext (by show 0 + s * q.val = q.val * s + 0; rw [Nat.mul_comm]; omega))

/-- The weighted error of one pool, as the reference sums it. -/
def refNum {h s : ℕ} (hs : 0 < s) (hn : 224 = h * s) (I : Fin 32 → Fin 3 → Fin 224 → Fin 224 → ℝ) (W : Fin 9 → Fin 9 → EReal) (B : Fin 9 → EReal)
    (P : Fin 32 → Fin 3 → Fin 9 → Fin h → Fin h → EReal) (M : Fin 32 → Fin 224 → Fin 224 → EReal) (k : ℝ) : EReal :=
  ∑ n, ∑ r, ∑ q, (pixErr (fun c => gradX (I n c) (head hs hn r) (head hs hn q)) (fun c => gradY (I n c) (head hs hn r) (head hs hn q)) W B
    (fun c o => P n c o r q) * ((1 / 27 : ℝ) : EReal)) * (winSum hn (M n) r q * (k : EReal))

/-- The weights of one pool, as the reference sums them. -/
def refDen {h s : ℕ} (hn : 224 = h * s) (M : Fin 32 → Fin 224 → Fin 224 → EReal) (k : ℝ) : EReal :=
  ∑ n, ∑ r, ∑ q, winSum hn (M n) r q * (k : EReal)

/-- A nonnegative real factor comes out of a sum. -/
theorem sum_mul_real {ι : Type} [Fintype ι] (f : ι → EReal) {k : ℝ} (hk : 0 ≤ k) : ∑ i, f i * (k : EReal) = (∑ i, f i) * (k : EReal) := by
  classical
  refine (Finset.induction_on (Finset.univ : Finset ι) ?_ ?_ :
    ∀ (_ : True), ∑ i ∈ (Finset.univ : Finset ι), f i * (k : EReal) = (∑ i ∈ (Finset.univ : Finset ι), f i) * (k : EReal)) trivial
  · intro _; simp
  · intro a t ha ih _
    rw [Finset.sum_insert ha, Finset.sum_insert ha, ih trivial,
      EReal.right_distrib_of_nonneg_of_ne_top (EReal.coe_nonneg.2 hk) (EReal.coe_ne_top k)]

/-- A denominator's positive real factor goes to the numerator. -/
theorem div_scaled (N D : EReal) {k : ℝ} (hk : 0 < k) : Ideal.div N (D * (k : EReal)) = Ideal.div (N * ((1 / k : ℝ) : EReal)) D := by
  have hk' : 0 < 1 / k := by positivity
  unfold Ideal.div
  by_cases hD : D = 0
  · subst hD
    rw [zero_mul, if_pos rfl, if_pos rfl]
    have e : (0 < N) = (0 < N * ((1 / k : ℝ) : EReal)) := by
      refine propext ⟨fun h => EReal.mul_pos h (EReal.coe_pos.2 hk'), fun h => ?_⟩
      by_contra hN
      have h0 : N ≤ 0 := not_lt.1 hN
      have : N * ((1 / k : ℝ) : EReal) ≤ 0 := EReal.mul_nonpos_iff.2 (Or.inr ⟨h0, (EReal.coe_pos.2 hk').le⟩)
      exact absurd h (not_lt.2 this)
    simp only [e]
  · rw [if_neg (by rw [mul_eq_zero]; exact not_or.2 ⟨hD, (EReal.coe_pos.2 hk).ne'⟩), if_neg hD, EReal.mul_inv, ← EReal.coe_inv, one_div,
      mul_comm D⁻¹, mul_assoc]

/-- The single-precision word of twenty-seven. -/
theorem word_27 : Ideal.ofBits .f32 0x41D80000#32 = ((27 : ℝ) : EReal) := by
  simp [Ideal.ofBits, Ideal.ieee]; rw [← EReal.coe_mul]; norm_num

/-- The reference's pool is the kernel's: constants move through the sums, and the windows cover the mask. -/
theorem pool_eq {h s : ℕ} (hs : 0 < s) (hn : 224 = h * s) (I : Fin 32 → Fin 3 → Fin 224 → Fin 224 → ℝ) (W : Fin 9 → Fin 9 → EReal)
    (B : Fin 9 → EReal) (P : Fin 32 → Fin 3 → Fin 9 → Fin h → Fin h → EReal) (M : Fin 32 → Fin 224 → Fin 224 → EReal) {k : ℝ} (hk : 0 < k) :
    Ideal.div (refNum hs hn I W B P M k) (refDen hn M k)
      = Ideal.div (errSum hs hn I W B P (meanMask hn k M) * ((1 / k : ℝ) : EReal)) (maskSum M) := by
  have hd : refDen hn M k = maskSum M * (k : EReal) := by
    unfold refDen maskSum
    simp only [sum_mul_real _ hk.le, sum_winSum]
  have hnum : refNum hs hn I W B P M k = errSum hs hn I W B P (meanMask hn k M) := by
    unfold refNum errSum poolSum meanMask
    simp only [mul_right_comm _ ((1 / 27 : ℝ) : EReal), sum_mul_real _ (show (0 : ℝ) ≤ 1 / 27 by norm_num)]
  rw [hd, hnum, div_scaled _ _ hk]

/-- Windows of one place are the image. -/
theorem winSum_one (x : Fin 224 → Fin 224 → EReal) (r q : Fin 224) : winSum (h := 224) (s := 1) (by decide) x r q = x r q := by
  unfold winSum
  rw [Fin.sum_univ_one, Fin.sum_univ_one]
  exact congrArg₂ x (Fin.ext (by simp [place])) (Fin.ext (by simp [place]))

/-- A window of one pixel leaves the mask as it is. -/
theorem meanMask_one (M : Fin 32 → Fin 224 → Fin 224 → EReal) : meanMask (h := 224) (s := 1) (by decide) 1 M = M := by
  funext n r q
  unfold meanMask
  rw [winSum_one]
  simp

end Cert.Hog
-- ==== Proof.RefPool14.lean ====
module

public import proofs.«01_k».proof.Proof.RefShared

/-!
The reference's pool of 14 by 14 windows, 16 pixels wide each way.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

variable (xp : FVec Ideal S32x27x14x14 .f32) (x5 : FVec Ideal S32x3x224x224 .f32) (x6 : FVec Ideal S32x1x224x224 .f32) (xw : FVec Ideal S9x9 .f32)
  (xb : FVec Ideal S9 .f32) (n : Fin 32) (c : Fin 3) (o : Fin 9) (r q : Fin 14)
variable (I : Fin 32 → Fin 3 → Fin 224 → Fin 224 → ℝ) (hI : ∀ n k i j, x5 (ix4 n k i j) = ((I n k i j : ℝ) : EReal))

/-- The nine channels at a window, of one image channel. -/
def hog14 : Fin 9 → EReal := hog (gradX (I n c) (head (s := 16) (by decide) (by decide) r) (head (s := 16) (by decide) (by decide) q))
  (gradY (I n c) (head (s := 16) (by decide) (by decide) r) (head (s := 16) (by decide) (by decide) q)) (wArg xw) (bArg xb)

include hI in
/-- The reference's channels. -/
theorem hog14_ref : val_main_v94 (F := Ideal) x5 xw xb (ix5 n c o r q) = hog14 xw xb n c r q I o := by
  rw [val_main_v94_apply, val_main_v90_apply, val_main_v89_apply, val_main_v93_apply, val_main_v92_apply, val_main_v91_apply]
  have e : ∀ k : Fin 9, val_main_v88 (F := Ideal) x5 (lidx_main_v89 (idx_main_v90 (ix5 n c o r q)) k) = _ := fun k =>
    Eq.trans (congrArg (val_main_v88 (F := Ideal) x5) (a₂ := ix5 n c k r q) (funext fun
      | ⟨0, _⟩ => rfl | ⟨1, _⟩ => rfl | ⟨2, _⟩ => rfl | ⟨3, _⟩ => rfl | ⟨4, _⟩ => rfl))
      ((strided_val (h := 14) (s := 16) (by decide) (by decide) (val_main_v87 (F := Ideal) x5) _ n c k r q).trans (hist_ref x5 n c _ _ I hI k))
  have ew : ∀ k : Fin 9, xw (ridx_main_v89 (idx_main_v90 (ix5 n c o r q)) k) = wArg xw o k := fun k =>
    congrArg xw (funext fun | ⟨0, _⟩ => rfl | ⟨1, _⟩ => rfl)
  have eb : xb (idx_main_v91 (idx_main_v92 (idx_main_v93 (ix5 n c o r q)))) = bArg xb o :=
    congrArg xb (funext fun | ⟨0, _⟩ => rfl)
  simp only [e, ew]
  rw [eb, onehot_dot]
  exact add_comm _ _

include hI in
/-- The reference's clamped norm. -/
theorem norm14_ref (z : Fin 1) : val_main_v100 (F := Ideal) x5 xw xb (ix5 n c z r q) = clamped (hog14 xw xb n c r q I) := by
  rw [val_main_v100_apply, val_main_v98_apply, val_main_v97_apply, val_main_v96_apply, val_main_v99_apply, val_main_cst_25_apply, val_main_cst_24_apply]
  have e : ∀ k : Fin 9, val_main_v95 (F := Ideal) x5 xw xb (idx_main_v96 (idx_main_v97 (ix5 n c z r q)) k)
      = hog14 xw xb n c r q I k * hog14 xw xb n c r q I k := fun k => by
    rw [show idx_main_v96 (idx_main_v97 (ix5 n c z r q)) k = ix5 n c k r q from funext fun
      | ⟨0, _⟩ => rfl | ⟨1, _⟩ => rfl | ⟨2, _⟩ => rfl | ⟨3, _⟩ => rfl | ⟨4, _⟩ => rfl, val_main_v95_apply, hog14_ref x5 xw xb n c k r q I hI]
    rfl
  simp only [e]
  show max (Ideal.sqrt (Ideal.ofBits .f32 0x00000000#32 + _)) _ = _
  rw [Ideal.ofBits_zero_f32, zero_add]
  rfl

include hI in
/-- The reference's target. -/
theorem target14_ref : val_main_v103 (F := Ideal) x5 xw xb (ix4 n (plane c o) r q)
    = Ideal.div (hog14 xw xb n c r q I o) (clamped (hog14 xw xb n c r q I)) := by
  rw [val_main_v103_apply, show idx_main_v103 (ix4 n (plane c o) r q) = ix5 n c o r q from funext fun
      | ⟨0, _⟩ => Fin.ext (by show (((n.val * 27 + (c.val * 9 + o.val)) * 14 + r.val) * 14 + q.val) / 5292 = n.val; omega)
      | ⟨1, _⟩ => Fin.ext (by show (((n.val * 27 + (c.val * 9 + o.val)) * 14 + r.val) * 14 + q.val) / 1764 % 3 = c.val; omega)
      | ⟨2, _⟩ => Fin.ext (by show (((n.val * 27 + (c.val * 9 + o.val)) * 14 + r.val) * 14 + q.val) / 196 % 9 = o.val; omega)
      | ⟨3, _⟩ => Fin.ext (by show (((n.val * 27 + (c.val * 9 + o.val)) * 14 + r.val) * 14 + q.val) / 14 % 14 = r.val; omega)
      | ⟨4, _⟩ => Fin.ext (by show (((n.val * 27 + (c.val * 9 + o.val)) * 14 + r.val) * 14 + q.val) % 14 = q.val; omega),
    val_main_v102_apply, val_main_v101_apply, hog14_ref x5 xw xb n c o r q I hI,
    show idx_main_v101 (ix5 n c o r q) = ix5 n c 0 r q from funext fun
      | ⟨0, _⟩ => rfl | ⟨1, _⟩ => rfl | ⟨2, _⟩ => rfl | ⟨3, _⟩ => rfl | ⟨4, _⟩ => rfl, norm14_ref x5 xw xb n c r q I hI]
  rfl

include hI in
/-- The reference's squared error at a window. -/
theorem err14_ref : val_main_v110 (F := Ideal) xp x5 xw xb (ix3 n r q)
    = pixErr (fun c => gradX (I n c) (head (s := 16) (by decide) (by decide) r) (head (s := 16) (by decide) (by decide) q))
      (fun c => gradY (I n c) (head (s := 16) (by decide) (by decide) r) (head (s := 16) (by decide) (by decide) q)) (wArg xw) (bArg xb)
      (fun c o => pArg xp n c o r q) := by
  rw [val_main_v110_apply, val_main_cst_28_apply, sum_plane]
  have e : ∀ (c : Fin 3) (o : Fin 9), val_main_v109 (F := Ideal) xp x5 xw xb (idx_main_v110 (ix3 n r q) (plane c o))
      = sqDiff (pArg xp n c o r q) (Ideal.div (hog14 xw xb n c r q I o) (clamped (hog14 xw xb n c r q I))) := fun c o => by
    rw [show idx_main_v110 (ix3 n r q) (plane c o) = ix4 n (plane c o) r q from funext fun
      | ⟨0, _⟩ => rfl | ⟨1, _⟩ => rfl | ⟨2, _⟩ => rfl | ⟨3, _⟩ => rfl, val_main_v109_apply, val_main_v108_apply, target14_ref x5 xw xb n c o r q I hI]
    rfl
  simp only [e]
  show Ideal.ofBits .f32 0x00000000#32 + _ = _
  rw [Ideal.ofBits_zero_f32, zero_add]
  rfl

/-- The reference's window mean of the mask. -/
theorem mean14_ref : val_main_v107 (F := Ideal) x6 (ix3 n r q) = winSum (h := 14) (s := 16) (by decide) (mArg x6 n) r q * ((1 / 256 : ℝ) : EReal) := by
  rw [val_main_v107_apply, val_main_v106_apply, val_main_cst_27_apply]
  have e : val_main_v105 (F := Ideal) x6 (ix3 n r q) = winSum (h := 14) (s := 16) (by decide) (mArg x6 n) r q := by
    refine (windows_val reducesTo_S32x14x16x14x16_S32x14x14_d2_4 _ _ n r q).trans ?_
    show Ideal.ofBits .f32 0x00000000#32 + _ = _
    rw [Ideal.ofBits_zero_f32, zero_add]
    refine Finset.sum_congr rfl fun a _ => Finset.sum_congr rfl fun b _ => (val_main_v104_apply (F := Ideal) x6 _).trans (congrArg x6 (funext fun
      | ⟨0, _⟩ => Fin.ext (by show ((((n.val * 14 + r.val) * 16 + a.val) * 14 + q.val) * 16 + b.val) / 50176 = n.val; omega)
      | ⟨1, _⟩ => rfl
      | ⟨2, _⟩ => Fin.ext (by show ((((n.val * 14 + r.val) * 16 + a.val) * 14 + q.val) * 16 + b.val) / 224 % 224 = r.val * 16 + a.val; omega)
      | ⟨3, _⟩ => Fin.ext (by show ((((n.val * 14 + r.val) * 16 + a.val) * 14 + q.val) * 16 + b.val) % 224 = q.val * 16 + b.val; omega)))
  rw [e]
  have ew : Ideal.ofBits .f32 0x43800000#32 = ((256 : ℝ) : EReal) := by
    simp [Ideal.ofBits, Ideal.ieee]; rw [← EReal.coe_mul]; norm_num
  show Ideal.div _ (Ideal.ofBits .f32 0x43800000#32) = _
  rw [ew, Ideal.div_coe (by norm_num)]

include hI in
/-- The reference's loss of the pool is the kernel's. -/
theorem loss14_ref (i : S_.Idx) : val_main_v116 (F := Ideal) xp x5 x6 xw xb i
    = Ideal.div (errSum (h := 14) (s := 16) (by decide) (by decide) I (wArg xw) (bArg xb) (pArg xp) (meanMask (s := 16) (by decide) (1 / 256) (mArg x6)) * ((1 / (1 / 256) : ℝ) : EReal))
      (maskSum (mArg x6)) := by
  rw [← pool_eq (by decide) (by decide) I (wArg xw) (bArg xb) (pArg xp) (mArg x6) (show (0 : ℝ) < 1 / 256 by norm_num),
    val_main_v116_apply, val_main_v114_apply, val_main_v115_apply, val_main_cst_30_apply, val_main_cst_31_apply]
  have en : ∀ (n : Fin 32) (r q : Fin 14), val_main_v113 (F := Ideal) xp x5 x6 xw xb (ix3 n r q)
      = (pixErr (fun c => gradX (I n c) (head (s := 16) (by decide) (by decide) r) (head (s := 16) (by decide) (by decide) q))
        (fun c => gradY (I n c) (head (s := 16) (by decide) (by decide) r) (head (s := 16) (by decide) (by decide) q)) (wArg xw) (bArg xb)
        (fun c o => pArg xp n c o r q) * ((1 / 27 : ℝ) : EReal)) * (winSum (h := 14) (s := 16) (by decide) (mArg x6 n) r q * ((1 / 256 : ℝ) : EReal)) := fun n r q => by
    rw [val_main_v113_apply, val_main_v112_apply, val_main_v111_apply, val_main_cst_29_apply, mean14_ref x6 n r q, err14_ref xp x5 xw xb n r q I hI]
    show Ideal.div _ (Ideal.ofBits .f32 0x41D80000#32) * _ = _
    rw [word_27, Ideal.div_coe (by norm_num)]
  show Ideal.div (Ideal.ofBits .f32 0x00000000#32 + _) (Ideal.ofBits .f32 0x00000000#32 + _) = _
  rw [Ideal.ofBits_zero_f32, zero_add, zero_add]
  refine congrArg₂ Ideal.div ((sum_three _).trans ?_) ((sum_three _).trans ?_)
  · exact Finset.sum_congr rfl fun n _ => Finset.sum_congr rfl fun r _ => Finset.sum_congr rfl fun q _ => en n r q
  · exact Finset.sum_congr rfl fun n _ => Finset.sum_congr rfl fun r _ => Finset.sum_congr rfl fun q _ => mean14_ref x6 n r q

end Cert.Hog
-- ==== Proof.RefPool28.lean ====
module

public import proofs.«01_k».proof.Proof.RefShared

/-!
The reference's pool of 28 by 28 windows, 8 pixels wide each way.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

variable (xp : FVec Ideal S32x27x28x28 .f32) (x5 : FVec Ideal S32x3x224x224 .f32) (x6 : FVec Ideal S32x1x224x224 .f32) (xw : FVec Ideal S9x9 .f32)
  (xb : FVec Ideal S9 .f32) (n : Fin 32) (c : Fin 3) (o : Fin 9) (r q : Fin 28)
variable (I : Fin 32 → Fin 3 → Fin 224 → Fin 224 → ℝ) (hI : ∀ n k i j, x5 (ix4 n k i j) = ((I n k i j : ℝ) : EReal))

/-- The nine channels at a window, of one image channel. -/
def hog28 : Fin 9 → EReal := hog (gradX (I n c) (head (s := 8) (by decide) (by decide) r) (head (s := 8) (by decide) (by decide) q))
  (gradY (I n c) (head (s := 8) (by decide) (by decide) r) (head (s := 8) (by decide) (by decide) q)) (wArg xw) (bArg xb)

include hI in
/-- The reference's channels. -/
theorem hog28_ref : val_main_v124 (F := Ideal) x5 xw xb (ix5 n c o r q) = hog28 xw xb n c r q I o := by
  rw [val_main_v124_apply, val_main_v120_apply, val_main_v119_apply, val_main_v123_apply, val_main_v122_apply, val_main_v121_apply]
  have e : ∀ k : Fin 9, val_main_v118 (F := Ideal) x5 (lidx_main_v119 (idx_main_v120 (ix5 n c o r q)) k) = _ := fun k =>
    Eq.trans (congrArg (val_main_v118 (F := Ideal) x5) (a₂ := ix5 n c k r q) (funext fun
      | ⟨0, _⟩ => rfl | ⟨1, _⟩ => rfl | ⟨2, _⟩ => rfl | ⟨3, _⟩ => rfl | ⟨4, _⟩ => rfl))
      ((strided_val (h := 28) (s := 8) (by decide) (by decide) (val_main_v87 (F := Ideal) x5) _ n c k r q).trans (hist_ref x5 n c _ _ I hI k))
  have ew : ∀ k : Fin 9, xw (ridx_main_v119 (idx_main_v120 (ix5 n c o r q)) k) = wArg xw o k := fun k =>
    congrArg xw (funext fun | ⟨0, _⟩ => rfl | ⟨1, _⟩ => rfl)
  have eb : xb (idx_main_v121 (idx_main_v122 (idx_main_v123 (ix5 n c o r q)))) = bArg xb o :=
    congrArg xb (funext fun | ⟨0, _⟩ => rfl)
  simp only [e, ew]
  rw [eb, onehot_dot]
  exact add_comm _ _

include hI in
/-- The reference's clamped norm. -/
theorem norm28_ref (z : Fin 1) : val_main_v130 (F := Ideal) x5 xw xb (ix5 n c z r q) = clamped (hog28 xw xb n c r q I) := by
  rw [val_main_v130_apply, val_main_v128_apply, val_main_v127_apply, val_main_v126_apply, val_main_v129_apply, val_main_cst_34_apply, val_main_cst_33_apply]
  have e : ∀ k : Fin 9, val_main_v125 (F := Ideal) x5 xw xb (idx_main_v126 (idx_main_v127 (ix5 n c z r q)) k)
      = hog28 xw xb n c r q I k * hog28 xw xb n c r q I k := fun k => by
    rw [show idx_main_v126 (idx_main_v127 (ix5 n c z r q)) k = ix5 n c k r q from funext fun
      | ⟨0, _⟩ => rfl | ⟨1, _⟩ => rfl | ⟨2, _⟩ => rfl | ⟨3, _⟩ => rfl | ⟨4, _⟩ => rfl, val_main_v125_apply, hog28_ref x5 xw xb n c k r q I hI]
    rfl
  simp only [e]
  show max (Ideal.sqrt (Ideal.ofBits .f32 0x00000000#32 + _)) _ = _
  rw [Ideal.ofBits_zero_f32, zero_add]
  rfl

include hI in
/-- The reference's target. -/
theorem target28_ref : val_main_v133 (F := Ideal) x5 xw xb (ix4 n (plane c o) r q)
    = Ideal.div (hog28 xw xb n c r q I o) (clamped (hog28 xw xb n c r q I)) := by
  rw [val_main_v133_apply, show idx_main_v133 (ix4 n (plane c o) r q) = ix5 n c o r q from funext fun
      | ⟨0, _⟩ => Fin.ext (by show (((n.val * 27 + (c.val * 9 + o.val)) * 28 + r.val) * 28 + q.val) / 21168 = n.val; omega)
      | ⟨1, _⟩ => Fin.ext (by show (((n.val * 27 + (c.val * 9 + o.val)) * 28 + r.val) * 28 + q.val) / 7056 % 3 = c.val; omega)
      | ⟨2, _⟩ => Fin.ext (by show (((n.val * 27 + (c.val * 9 + o.val)) * 28 + r.val) * 28 + q.val) / 784 % 9 = o.val; omega)
      | ⟨3, _⟩ => Fin.ext (by show (((n.val * 27 + (c.val * 9 + o.val)) * 28 + r.val) * 28 + q.val) / 28 % 28 = r.val; omega)
      | ⟨4, _⟩ => Fin.ext (by show (((n.val * 27 + (c.val * 9 + o.val)) * 28 + r.val) * 28 + q.val) % 28 = q.val; omega),
    val_main_v132_apply, val_main_v131_apply, hog28_ref x5 xw xb n c o r q I hI,
    show idx_main_v131 (ix5 n c o r q) = ix5 n c 0 r q from funext fun
      | ⟨0, _⟩ => rfl | ⟨1, _⟩ => rfl | ⟨2, _⟩ => rfl | ⟨3, _⟩ => rfl | ⟨4, _⟩ => rfl, norm28_ref x5 xw xb n c r q I hI]
  rfl

include hI in
/-- The reference's squared error at a window. -/
theorem err28_ref : val_main_v140 (F := Ideal) xp x5 xw xb (ix3 n r q)
    = pixErr (fun c => gradX (I n c) (head (s := 8) (by decide) (by decide) r) (head (s := 8) (by decide) (by decide) q))
      (fun c => gradY (I n c) (head (s := 8) (by decide) (by decide) r) (head (s := 8) (by decide) (by decide) q)) (wArg xw) (bArg xb)
      (fun c o => pArg xp n c o r q) := by
  rw [val_main_v140_apply, val_main_cst_37_apply, sum_plane]
  have e : ∀ (c : Fin 3) (o : Fin 9), val_main_v139 (F := Ideal) xp x5 xw xb (idx_main_v140 (ix3 n r q) (plane c o))
      = sqDiff (pArg xp n c o r q) (Ideal.div (hog28 xw xb n c r q I o) (clamped (hog28 xw xb n c r q I))) := fun c o => by
    rw [show idx_main_v140 (ix3 n r q) (plane c o) = ix4 n (plane c o) r q from funext fun
      | ⟨0, _⟩ => rfl | ⟨1, _⟩ => rfl | ⟨2, _⟩ => rfl | ⟨3, _⟩ => rfl, val_main_v139_apply, val_main_v138_apply, target28_ref x5 xw xb n c o r q I hI]
    rfl
  simp only [e]
  show Ideal.ofBits .f32 0x00000000#32 + _ = _
  rw [Ideal.ofBits_zero_f32, zero_add]
  rfl

/-- The reference's window mean of the mask. -/
theorem mean28_ref : val_main_v137 (F := Ideal) x6 (ix3 n r q) = winSum (h := 28) (s := 8) (by decide) (mArg x6 n) r q * ((1 / 64 : ℝ) : EReal) := by
  rw [val_main_v137_apply, val_main_v136_apply, val_main_cst_36_apply]
  have e : val_main_v135 (F := Ideal) x6 (ix3 n r q) = winSum (h := 28) (s := 8) (by decide) (mArg x6 n) r q := by
    refine (windows_val reducesTo_S32x28x8x28x8_S32x28x28_d2_4 _ _ n r q).trans ?_
    show Ideal.ofBits .f32 0x00000000#32 + _ = _
    rw [Ideal.ofBits_zero_f32, zero_add]
    refine Finset.sum_congr rfl fun a _ => Finset.sum_congr rfl fun b _ => (val_main_v134_apply (F := Ideal) x6 _).trans (congrArg x6 (funext fun
      | ⟨0, _⟩ => Fin.ext (by show ((((n.val * 28 + r.val) * 8 + a.val) * 28 + q.val) * 8 + b.val) / 50176 = n.val; omega)
      | ⟨1, _⟩ => rfl
      | ⟨2, _⟩ => Fin.ext (by show ((((n.val * 28 + r.val) * 8 + a.val) * 28 + q.val) * 8 + b.val) / 224 % 224 = r.val * 8 + a.val; omega)
      | ⟨3, _⟩ => Fin.ext (by show ((((n.val * 28 + r.val) * 8 + a.val) * 28 + q.val) * 8 + b.val) % 224 = q.val * 8 + b.val; omega)))
  rw [e]
  have ew : Ideal.ofBits .f32 0x42800000#32 = ((64 : ℝ) : EReal) := by
    simp [Ideal.ofBits, Ideal.ieee]; rw [← EReal.coe_mul]; norm_num
  show Ideal.div _ (Ideal.ofBits .f32 0x42800000#32) = _
  rw [ew, Ideal.div_coe (by norm_num)]

include hI in
/-- The reference's loss of the pool is the kernel's. -/
theorem loss28_ref (i : S_.Idx) : val_main_v146 (F := Ideal) xp x5 x6 xw xb i
    = Ideal.div (errSum (h := 28) (s := 8) (by decide) (by decide) I (wArg xw) (bArg xb) (pArg xp) (meanMask (s := 8) (by decide) (1 / 64) (mArg x6)) * ((1 / (1 / 64) : ℝ) : EReal))
      (maskSum (mArg x6)) := by
  rw [← pool_eq (by decide) (by decide) I (wArg xw) (bArg xb) (pArg xp) (mArg x6) (show (0 : ℝ) < 1 / 64 by norm_num),
    val_main_v146_apply, val_main_v144_apply, val_main_v145_apply, val_main_cst_39_apply, val_main_cst_40_apply]
  have en : ∀ (n : Fin 32) (r q : Fin 28), val_main_v143 (F := Ideal) xp x5 x6 xw xb (ix3 n r q)
      = (pixErr (fun c => gradX (I n c) (head (s := 8) (by decide) (by decide) r) (head (s := 8) (by decide) (by decide) q))
        (fun c => gradY (I n c) (head (s := 8) (by decide) (by decide) r) (head (s := 8) (by decide) (by decide) q)) (wArg xw) (bArg xb)
        (fun c o => pArg xp n c o r q) * ((1 / 27 : ℝ) : EReal)) * (winSum (h := 28) (s := 8) (by decide) (mArg x6 n) r q * ((1 / 64 : ℝ) : EReal)) := fun n r q => by
    rw [val_main_v143_apply, val_main_v142_apply, val_main_v141_apply, val_main_cst_38_apply, mean28_ref x6 n r q, err28_ref xp x5 xw xb n r q I hI]
    show Ideal.div _ (Ideal.ofBits .f32 0x41D80000#32) * _ = _
    rw [word_27, Ideal.div_coe (by norm_num)]
  show Ideal.div (Ideal.ofBits .f32 0x00000000#32 + _) (Ideal.ofBits .f32 0x00000000#32 + _) = _
  rw [Ideal.ofBits_zero_f32, zero_add, zero_add]
  refine congrArg₂ Ideal.div ((sum_three _).trans ?_) ((sum_three _).trans ?_)
  · exact Finset.sum_congr rfl fun n _ => Finset.sum_congr rfl fun r _ => Finset.sum_congr rfl fun q _ => en n r q
  · exact Finset.sum_congr rfl fun n _ => Finset.sum_congr rfl fun r _ => Finset.sum_congr rfl fun q _ => mean28_ref x6 n r q

end Cert.Hog
-- ==== Proof.RefPool56.lean ====
module

public import proofs.«01_k».proof.Proof.RefShared

/-!
The reference's pool of 56 by 56 windows, 4 pixels wide each way.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

variable (xp : FVec Ideal S32x27x56x56 .f32) (x5 : FVec Ideal S32x3x224x224 .f32) (x6 : FVec Ideal S32x1x224x224 .f32) (xw : FVec Ideal S9x9 .f32)
  (xb : FVec Ideal S9 .f32) (n : Fin 32) (c : Fin 3) (o : Fin 9) (r q : Fin 56)
variable (I : Fin 32 → Fin 3 → Fin 224 → Fin 224 → ℝ) (hI : ∀ n k i j, x5 (ix4 n k i j) = ((I n k i j : ℝ) : EReal))

/-- The nine channels at a window, of one image channel. -/
def hog56 : Fin 9 → EReal := hog (gradX (I n c) (head (s := 4) (by decide) (by decide) r) (head (s := 4) (by decide) (by decide) q))
  (gradY (I n c) (head (s := 4) (by decide) (by decide) r) (head (s := 4) (by decide) (by decide) q)) (wArg xw) (bArg xb)

include hI in
/-- The reference's channels. -/
theorem hog56_ref : val_main_v154 (F := Ideal) x5 xw xb (ix5 n c o r q) = hog56 xw xb n c r q I o := by
  rw [val_main_v154_apply, val_main_v150_apply, val_main_v149_apply, val_main_v153_apply, val_main_v152_apply, val_main_v151_apply]
  have e : ∀ k : Fin 9, val_main_v148 (F := Ideal) x5 (lidx_main_v149 (idx_main_v150 (ix5 n c o r q)) k) = _ := fun k =>
    Eq.trans (congrArg (val_main_v148 (F := Ideal) x5) (a₂ := ix5 n c k r q) (funext fun
      | ⟨0, _⟩ => rfl | ⟨1, _⟩ => rfl | ⟨2, _⟩ => rfl | ⟨3, _⟩ => rfl | ⟨4, _⟩ => rfl))
      ((strided_val (h := 56) (s := 4) (by decide) (by decide) (val_main_v87 (F := Ideal) x5) _ n c k r q).trans (hist_ref x5 n c _ _ I hI k))
  have ew : ∀ k : Fin 9, xw (ridx_main_v149 (idx_main_v150 (ix5 n c o r q)) k) = wArg xw o k := fun k =>
    congrArg xw (funext fun | ⟨0, _⟩ => rfl | ⟨1, _⟩ => rfl)
  have eb : xb (idx_main_v151 (idx_main_v152 (idx_main_v153 (ix5 n c o r q)))) = bArg xb o :=
    congrArg xb (funext fun | ⟨0, _⟩ => rfl)
  simp only [e, ew]
  rw [eb, onehot_dot]
  exact add_comm _ _

include hI in
/-- The reference's clamped norm. -/
theorem norm56_ref (z : Fin 1) : val_main_v160 (F := Ideal) x5 xw xb (ix5 n c z r q) = clamped (hog56 xw xb n c r q I) := by
  rw [val_main_v160_apply, val_main_v158_apply, val_main_v157_apply, val_main_v156_apply, val_main_v159_apply, val_main_cst_42_apply, val_main_cst_41_apply]
  have e : ∀ k : Fin 9, val_main_v155 (F := Ideal) x5 xw xb (idx_main_v156 (idx_main_v157 (ix5 n c z r q)) k)
      = hog56 xw xb n c r q I k * hog56 xw xb n c r q I k := fun k => by
    rw [show idx_main_v156 (idx_main_v157 (ix5 n c z r q)) k = ix5 n c k r q from funext fun
      | ⟨0, _⟩ => rfl | ⟨1, _⟩ => rfl | ⟨2, _⟩ => rfl | ⟨3, _⟩ => rfl | ⟨4, _⟩ => rfl, val_main_v155_apply, hog56_ref x5 xw xb n c k r q I hI]
    rfl
  simp only [e]
  show max (Ideal.sqrt (Ideal.ofBits .f32 0x00000000#32 + _)) _ = _
  rw [Ideal.ofBits_zero_f32, zero_add]
  rfl

include hI in
/-- The reference's target. -/
theorem target56_ref : val_main_v163 (F := Ideal) x5 xw xb (ix4 n (plane c o) r q)
    = Ideal.div (hog56 xw xb n c r q I o) (clamped (hog56 xw xb n c r q I)) := by
  rw [val_main_v163_apply, show idx_main_v163 (ix4 n (plane c o) r q) = ix5 n c o r q from funext fun
      | ⟨0, _⟩ => Fin.ext (by show (((n.val * 27 + (c.val * 9 + o.val)) * 56 + r.val) * 56 + q.val) / 84672 = n.val; omega)
      | ⟨1, _⟩ => Fin.ext (by show (((n.val * 27 + (c.val * 9 + o.val)) * 56 + r.val) * 56 + q.val) / 28224 % 3 = c.val; omega)
      | ⟨2, _⟩ => Fin.ext (by show (((n.val * 27 + (c.val * 9 + o.val)) * 56 + r.val) * 56 + q.val) / 3136 % 9 = o.val; omega)
      | ⟨3, _⟩ => Fin.ext (by show (((n.val * 27 + (c.val * 9 + o.val)) * 56 + r.val) * 56 + q.val) / 56 % 56 = r.val; omega)
      | ⟨4, _⟩ => Fin.ext (by show (((n.val * 27 + (c.val * 9 + o.val)) * 56 + r.val) * 56 + q.val) % 56 = q.val; omega),
    val_main_v162_apply, val_main_v161_apply, hog56_ref x5 xw xb n c o r q I hI,
    show idx_main_v161 (ix5 n c o r q) = ix5 n c 0 r q from funext fun
      | ⟨0, _⟩ => rfl | ⟨1, _⟩ => rfl | ⟨2, _⟩ => rfl | ⟨3, _⟩ => rfl | ⟨4, _⟩ => rfl, norm56_ref x5 xw xb n c r q I hI]
  rfl

include hI in
/-- The reference's squared error at a window. -/
theorem err56_ref : val_main_v170 (F := Ideal) xp x5 xw xb (ix3 n r q)
    = pixErr (fun c => gradX (I n c) (head (s := 4) (by decide) (by decide) r) (head (s := 4) (by decide) (by decide) q))
      (fun c => gradY (I n c) (head (s := 4) (by decide) (by decide) r) (head (s := 4) (by decide) (by decide) q)) (wArg xw) (bArg xb)
      (fun c o => pArg xp n c o r q) := by
  rw [val_main_v170_apply, val_main_cst_45_apply, sum_plane]
  have e : ∀ (c : Fin 3) (o : Fin 9), val_main_v169 (F := Ideal) xp x5 xw xb (idx_main_v170 (ix3 n r q) (plane c o))
      = sqDiff (pArg xp n c o r q) (Ideal.div (hog56 xw xb n c r q I o) (clamped (hog56 xw xb n c r q I))) := fun c o => by
    rw [show idx_main_v170 (ix3 n r q) (plane c o) = ix4 n (plane c o) r q from funext fun
      | ⟨0, _⟩ => rfl | ⟨1, _⟩ => rfl | ⟨2, _⟩ => rfl | ⟨3, _⟩ => rfl, val_main_v169_apply, val_main_v168_apply, target56_ref x5 xw xb n c o r q I hI]
    rfl
  simp only [e]
  show Ideal.ofBits .f32 0x00000000#32 + _ = _
  rw [Ideal.ofBits_zero_f32, zero_add]
  rfl

/-- The reference's window mean of the mask. -/
theorem mean56_ref : val_main_v167 (F := Ideal) x6 (ix3 n r q) = winSum (h := 56) (s := 4) (by decide) (mArg x6 n) r q * ((1 / 16 : ℝ) : EReal) := by
  rw [val_main_v167_apply, val_main_v166_apply, val_main_cst_44_apply]
  have e : val_main_v165 (F := Ideal) x6 (ix3 n r q) = winSum (h := 56) (s := 4) (by decide) (mArg x6 n) r q := by
    refine (windows_val reducesTo_S32x56x4x56x4_S32x56x56_d2_4 _ _ n r q).trans ?_
    show Ideal.ofBits .f32 0x00000000#32 + _ = _
    rw [Ideal.ofBits_zero_f32, zero_add]
    refine Finset.sum_congr rfl fun a _ => Finset.sum_congr rfl fun b _ => (val_main_v164_apply (F := Ideal) x6 _).trans (congrArg x6 (funext fun
      | ⟨0, _⟩ => Fin.ext (by show ((((n.val * 56 + r.val) * 4 + a.val) * 56 + q.val) * 4 + b.val) / 50176 = n.val; omega)
      | ⟨1, _⟩ => rfl
      | ⟨2, _⟩ => Fin.ext (by show ((((n.val * 56 + r.val) * 4 + a.val) * 56 + q.val) * 4 + b.val) / 224 % 224 = r.val * 4 + a.val; omega)
      | ⟨3, _⟩ => Fin.ext (by show ((((n.val * 56 + r.val) * 4 + a.val) * 56 + q.val) * 4 + b.val) % 224 = q.val * 4 + b.val; omega)))
  rw [e]
  have ew : Ideal.ofBits .f32 0x41800000#32 = ((16 : ℝ) : EReal) := by
    simp [Ideal.ofBits, Ideal.ieee]; rw [← EReal.coe_mul]; norm_num
  show Ideal.div _ (Ideal.ofBits .f32 0x41800000#32) = _
  rw [ew, Ideal.div_coe (by norm_num)]

include hI in
/-- The reference's loss of the pool is the kernel's. -/
theorem loss56_ref (i : S_.Idx) : val_main_v176 (F := Ideal) xp x5 x6 xw xb i
    = Ideal.div (errSum (h := 56) (s := 4) (by decide) (by decide) I (wArg xw) (bArg xb) (pArg xp) (meanMask (s := 4) (by decide) (1 / 16) (mArg x6)) * ((1 / (1 / 16) : ℝ) : EReal))
      (maskSum (mArg x6)) := by
  rw [← pool_eq (by decide) (by decide) I (wArg xw) (bArg xb) (pArg xp) (mArg x6) (show (0 : ℝ) < 1 / 16 by norm_num),
    val_main_v176_apply, val_main_v174_apply, val_main_v175_apply, val_main_cst_47_apply, val_main_cst_48_apply]
  have en : ∀ (n : Fin 32) (r q : Fin 56), val_main_v173 (F := Ideal) xp x5 x6 xw xb (ix3 n r q)
      = (pixErr (fun c => gradX (I n c) (head (s := 4) (by decide) (by decide) r) (head (s := 4) (by decide) (by decide) q))
        (fun c => gradY (I n c) (head (s := 4) (by decide) (by decide) r) (head (s := 4) (by decide) (by decide) q)) (wArg xw) (bArg xb)
        (fun c o => pArg xp n c o r q) * ((1 / 27 : ℝ) : EReal)) * (winSum (h := 56) (s := 4) (by decide) (mArg x6 n) r q * ((1 / 16 : ℝ) : EReal)) := fun n r q => by
    rw [val_main_v173_apply, val_main_v172_apply, val_main_v171_apply, val_main_cst_46_apply, mean56_ref x6 n r q, err56_ref xp x5 xw xb n r q I hI]
    show Ideal.div _ (Ideal.ofBits .f32 0x41D80000#32) * _ = _
    rw [word_27, Ideal.div_coe (by norm_num)]
  show Ideal.div (Ideal.ofBits .f32 0x00000000#32 + _) (Ideal.ofBits .f32 0x00000000#32 + _) = _
  rw [Ideal.ofBits_zero_f32, zero_add, zero_add]
  refine congrArg₂ Ideal.div ((sum_three _).trans ?_) ((sum_three _).trans ?_)
  · exact Finset.sum_congr rfl fun n _ => Finset.sum_congr rfl fun r _ => Finset.sum_congr rfl fun q _ => en n r q
  · exact Finset.sum_congr rfl fun n _ => Finset.sum_congr rfl fun r _ => Finset.sum_congr rfl fun q _ => mean56_ref x6 n r q

end Cert.Hog
-- ==== Proof.RefPool112.lean ====
module

public import proofs.«01_k».proof.Proof.RefShared

/-!
The reference's pool of 112 by 112 windows, 2 pixels wide each way.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

variable (xp : FVec Ideal S32x27x112x112 .f32) (x5 : FVec Ideal S32x3x224x224 .f32) (x6 : FVec Ideal S32x1x224x224 .f32) (xw : FVec Ideal S9x9 .f32)
  (xb : FVec Ideal S9 .f32) (n : Fin 32) (c : Fin 3) (o : Fin 9) (r q : Fin 112)
variable (I : Fin 32 → Fin 3 → Fin 224 → Fin 224 → ℝ) (hI : ∀ n k i j, x5 (ix4 n k i j) = ((I n k i j : ℝ) : EReal))

/-- The nine channels at a window, of one image channel. -/
def hog112 : Fin 9 → EReal := hog (gradX (I n c) (head (s := 2) (by decide) (by decide) r) (head (s := 2) (by decide) (by decide) q))
  (gradY (I n c) (head (s := 2) (by decide) (by decide) r) (head (s := 2) (by decide) (by decide) q)) (wArg xw) (bArg xb)

include hI in
/-- The reference's channels. -/
theorem hog112_ref : val_main_v184 (F := Ideal) x5 xw xb (ix5 n c o r q) = hog112 xw xb n c r q I o := by
  rw [val_main_v184_apply, val_main_v180_apply, val_main_v179_apply, val_main_v183_apply, val_main_v182_apply, val_main_v181_apply]
  have e : ∀ k : Fin 9, val_main_v178 (F := Ideal) x5 (lidx_main_v179 (idx_main_v180 (ix5 n c o r q)) k) = _ := fun k =>
    Eq.trans (congrArg (val_main_v178 (F := Ideal) x5) (a₂ := ix5 n c k r q) (funext fun
      | ⟨0, _⟩ => rfl | ⟨1, _⟩ => rfl | ⟨2, _⟩ => rfl | ⟨3, _⟩ => rfl | ⟨4, _⟩ => rfl))
      ((strided_val (h := 112) (s := 2) (by decide) (by decide) (val_main_v87 (F := Ideal) x5) _ n c k r q).trans (hist_ref x5 n c _ _ I hI k))
  have ew : ∀ k : Fin 9, xw (ridx_main_v179 (idx_main_v180 (ix5 n c o r q)) k) = wArg xw o k := fun k =>
    congrArg xw (funext fun | ⟨0, _⟩ => rfl | ⟨1, _⟩ => rfl)
  have eb : xb (idx_main_v181 (idx_main_v182 (idx_main_v183 (ix5 n c o r q)))) = bArg xb o :=
    congrArg xb (funext fun | ⟨0, _⟩ => rfl)
  simp only [e, ew]
  rw [eb, onehot_dot]
  exact add_comm _ _

include hI in
/-- The reference's clamped norm. -/
theorem norm112_ref (z : Fin 1) : val_main_v190 (F := Ideal) x5 xw xb (ix5 n c z r q) = clamped (hog112 xw xb n c r q I) := by
  rw [val_main_v190_apply, val_main_v188_apply, val_main_v187_apply, val_main_v186_apply, val_main_v189_apply, val_main_cst_50_apply, val_main_cst_49_apply]
  have e : ∀ k : Fin 9, val_main_v185 (F := Ideal) x5 xw xb (idx_main_v186 (idx_main_v187 (ix5 n c z r q)) k)
      = hog112 xw xb n c r q I k * hog112 xw xb n c r q I k := fun k => by
    rw [show idx_main_v186 (idx_main_v187 (ix5 n c z r q)) k = ix5 n c k r q from funext fun
      | ⟨0, _⟩ => rfl | ⟨1, _⟩ => rfl | ⟨2, _⟩ => rfl | ⟨3, _⟩ => rfl | ⟨4, _⟩ => rfl, val_main_v185_apply, hog112_ref x5 xw xb n c k r q I hI]
    rfl
  simp only [e]
  show max (Ideal.sqrt (Ideal.ofBits .f32 0x00000000#32 + _)) _ = _
  rw [Ideal.ofBits_zero_f32, zero_add]
  rfl

include hI in
/-- The reference's target. -/
theorem target112_ref : val_main_v193 (F := Ideal) x5 xw xb (ix4 n (plane c o) r q)
    = Ideal.div (hog112 xw xb n c r q I o) (clamped (hog112 xw xb n c r q I)) := by
  rw [val_main_v193_apply, show idx_main_v193 (ix4 n (plane c o) r q) = ix5 n c o r q from funext fun
      | ⟨0, _⟩ => Fin.ext (by show (((n.val * 27 + (c.val * 9 + o.val)) * 112 + r.val) * 112 + q.val) / 338688 = n.val; omega)
      | ⟨1, _⟩ => Fin.ext (by show (((n.val * 27 + (c.val * 9 + o.val)) * 112 + r.val) * 112 + q.val) / 112896 % 3 = c.val; omega)
      | ⟨2, _⟩ => Fin.ext (by show (((n.val * 27 + (c.val * 9 + o.val)) * 112 + r.val) * 112 + q.val) / 12544 % 9 = o.val; omega)
      | ⟨3, _⟩ => Fin.ext (by show (((n.val * 27 + (c.val * 9 + o.val)) * 112 + r.val) * 112 + q.val) / 112 % 112 = r.val; omega)
      | ⟨4, _⟩ => Fin.ext (by show (((n.val * 27 + (c.val * 9 + o.val)) * 112 + r.val) * 112 + q.val) % 112 = q.val; omega),
    val_main_v192_apply, val_main_v191_apply, hog112_ref x5 xw xb n c o r q I hI,
    show idx_main_v191 (ix5 n c o r q) = ix5 n c 0 r q from funext fun
      | ⟨0, _⟩ => rfl | ⟨1, _⟩ => rfl | ⟨2, _⟩ => rfl | ⟨3, _⟩ => rfl | ⟨4, _⟩ => rfl, norm112_ref x5 xw xb n c r q I hI]
  rfl

include hI in
/-- The reference's squared error at a window. -/
theorem err112_ref : val_main_v200 (F := Ideal) xp x5 xw xb (ix3 n r q)
    = pixErr (fun c => gradX (I n c) (head (s := 2) (by decide) (by decide) r) (head (s := 2) (by decide) (by decide) q))
      (fun c => gradY (I n c) (head (s := 2) (by decide) (by decide) r) (head (s := 2) (by decide) (by decide) q)) (wArg xw) (bArg xb)
      (fun c o => pArg xp n c o r q) := by
  rw [val_main_v200_apply, val_main_cst_53_apply, sum_plane]
  have e : ∀ (c : Fin 3) (o : Fin 9), val_main_v199 (F := Ideal) xp x5 xw xb (idx_main_v200 (ix3 n r q) (plane c o))
      = sqDiff (pArg xp n c o r q) (Ideal.div (hog112 xw xb n c r q I o) (clamped (hog112 xw xb n c r q I))) := fun c o => by
    rw [show idx_main_v200 (ix3 n r q) (plane c o) = ix4 n (plane c o) r q from funext fun
      | ⟨0, _⟩ => rfl | ⟨1, _⟩ => rfl | ⟨2, _⟩ => rfl | ⟨3, _⟩ => rfl, val_main_v199_apply, val_main_v198_apply, target112_ref x5 xw xb n c o r q I hI]
    rfl
  simp only [e]
  show Ideal.ofBits .f32 0x00000000#32 + _ = _
  rw [Ideal.ofBits_zero_f32, zero_add]
  rfl

/-- The reference's window mean of the mask. -/
theorem mean112_ref : val_main_v197 (F := Ideal) x6 (ix3 n r q) = winSum (h := 112) (s := 2) (by decide) (mArg x6 n) r q * ((1 / 4 : ℝ) : EReal) := by
  rw [val_main_v197_apply, val_main_v196_apply, val_main_cst_52_apply]
  have e : val_main_v195 (F := Ideal) x6 (ix3 n r q) = winSum (h := 112) (s := 2) (by decide) (mArg x6 n) r q := by
    refine (windows_val reducesTo_S32x112x2x112x2_S32x112x112_d2_4 _ _ n r q).trans ?_
    show Ideal.ofBits .f32 0x00000000#32 + _ = _
    rw [Ideal.ofBits_zero_f32, zero_add]
    refine Finset.sum_congr rfl fun a _ => Finset.sum_congr rfl fun b _ => (val_main_v194_apply (F := Ideal) x6 _).trans (congrArg x6 (funext fun
      | ⟨0, _⟩ => Fin.ext (by show ((((n.val * 112 + r.val) * 2 + a.val) * 112 + q.val) * 2 + b.val) / 50176 = n.val; omega)
      | ⟨1, _⟩ => rfl
      | ⟨2, _⟩ => Fin.ext (by show ((((n.val * 112 + r.val) * 2 + a.val) * 112 + q.val) * 2 + b.val) / 224 % 224 = r.val * 2 + a.val; omega)
      | ⟨3, _⟩ => Fin.ext (by show ((((n.val * 112 + r.val) * 2 + a.val) * 112 + q.val) * 2 + b.val) % 224 = q.val * 2 + b.val; omega)))
  rw [e]
  have ew : Ideal.ofBits .f32 0x40800000#32 = ((4 : ℝ) : EReal) := by
    simp [Ideal.ofBits, Ideal.ieee]; rw [← EReal.coe_mul]; norm_num
  show Ideal.div _ (Ideal.ofBits .f32 0x40800000#32) = _
  rw [ew, Ideal.div_coe (by norm_num)]

include hI in
/-- The reference's loss of the pool is the kernel's. -/
theorem loss112_ref (i : S_.Idx) : val_main_v206 (F := Ideal) xp x5 x6 xw xb i
    = Ideal.div (errSum (h := 112) (s := 2) (by decide) (by decide) I (wArg xw) (bArg xb) (pArg xp) (meanMask (s := 2) (by decide) (1 / 4) (mArg x6)) * ((1 / (1 / 4) : ℝ) : EReal))
      (maskSum (mArg x6)) := by
  rw [← pool_eq (by decide) (by decide) I (wArg xw) (bArg xb) (pArg xp) (mArg x6) (show (0 : ℝ) < 1 / 4 by norm_num),
    val_main_v206_apply, val_main_v204_apply, val_main_v205_apply, val_main_cst_55_apply, val_main_cst_56_apply]
  have en : ∀ (n : Fin 32) (r q : Fin 112), val_main_v203 (F := Ideal) xp x5 x6 xw xb (ix3 n r q)
      = (pixErr (fun c => gradX (I n c) (head (s := 2) (by decide) (by decide) r) (head (s := 2) (by decide) (by decide) q))
        (fun c => gradY (I n c) (head (s := 2) (by decide) (by decide) r) (head (s := 2) (by decide) (by decide) q)) (wArg xw) (bArg xb)
        (fun c o => pArg xp n c o r q) * ((1 / 27 : ℝ) : EReal)) * (winSum (h := 112) (s := 2) (by decide) (mArg x6 n) r q * ((1 / 4 : ℝ) : EReal)) := fun n r q => by
    rw [val_main_v203_apply, val_main_v202_apply, val_main_v201_apply, val_main_cst_54_apply, mean112_ref x6 n r q, err112_ref xp x5 xw xb n r q I hI]
    show Ideal.div _ (Ideal.ofBits .f32 0x41D80000#32) * _ = _
    rw [word_27, Ideal.div_coe (by norm_num)]
  show Ideal.div (Ideal.ofBits .f32 0x00000000#32 + _) (Ideal.ofBits .f32 0x00000000#32 + _) = _
  rw [Ideal.ofBits_zero_f32, zero_add, zero_add]
  refine congrArg₂ Ideal.div ((sum_three _).trans ?_) ((sum_three _).trans ?_)
  · exact Finset.sum_congr rfl fun n _ => Finset.sum_congr rfl fun r _ => Finset.sum_congr rfl fun q _ => en n r q
  · exact Finset.sum_congr rfl fun n _ => Finset.sum_congr rfl fun r _ => Finset.sum_congr rfl fun q _ => mean112_ref x6 n r q

end Cert.Hog
-- ==== Proof.RefPool224.lean ====
module

public import proofs.«01_k».proof.Proof.RefShared

/-!
The reference's pool of 224 by 224 windows, 1 pixels wide each way.
-/

@[expose] public section

noncomputable section

namespace Cert.Hog

open Idealize.ShloMosaic Idealize.ShloMosaic.TcCoe Idealize.ShloMosaic.ValueIdx Cert.ReferenceIdeal Cert.ReferenceIdeal.Gen Cert.ReferenceIdeal.Read

variable (xp : FVec Ideal S32x27x224x224 .f32) (x5 : FVec Ideal S32x3x224x224 .f32) (x6 : FVec Ideal S32x1x224x224 .f32) (xw : FVec Ideal S9x9 .f32)
  (xb : FVec Ideal S9 .f32) (n : Fin 32) (c : Fin 3) (o : Fin 9) (r q : Fin 224)
variable (I : Fin 32 → Fin 3 → Fin 224 → Fin 224 → ℝ) (hI : ∀ n k i j, x5 (ix4 n k i j) = ((I n k i j : ℝ) : EReal))

/-- The nine channels at a window, of one image channel. -/
def hog224 : Fin 9 → EReal := hog (gradX (I n c) (head (s := 1) (by decide) (by decide) r) (head (s := 1) (by decide) (by decide) q))
  (gradY (I n c) (head (s := 1) (by decide) (by decide) r) (head (s := 1) (by decide) (by decide) q)) (wArg xw) (bArg xb)

include hI in
/-- The reference's channels. -/
theorem hog224_ref : val_main_v213 (F := Ideal) x5 xw xb (ix5 n c o r q) = hog224 xw xb n c r q I o := by
  rw [val_main_v213_apply, val_main_v209_apply, val_main_v208_apply, val_main_v212_apply, val_main_v211_apply, val_main_v210_apply]
  have e : ∀ k : Fin 9, val_main_v87 (F := Ideal) x5 (lidx_main_v208 (idx_main_v209 (ix5 n c o r q)) k) = _ := fun k =>
    Eq.trans (congrArg (val_main_v87 (F := Ideal) x5) (a₂ := ix5 n c k r q) (funext fun
      | ⟨0, _⟩ => rfl | ⟨1, _⟩ => rfl | ⟨2, _⟩ => rfl | ⟨3, _⟩ => rfl | ⟨4, _⟩ => rfl))
      ((congrArg (val_main_v87 (F := Ideal) x5) (congrArg₂ (ix5 n c k) (head_one r).symm (head_one q).symm)).trans (hist_ref x5 n c _ _ I hI k))
  have ew : ∀ k : Fin 9, xw (ridx_main_v208 (idx_main_v209 (ix5 n c o r q)) k) = wArg xw o k := fun k =>
    congrArg xw (funext fun | ⟨0, _⟩ => rfl | ⟨1, _⟩ => rfl)
  have eb : xb (idx_main_v210 (idx_main_v211 (idx_main_v212 (ix5 n c o r q)))) = bArg xb o :=
    congrArg xb (funext fun | ⟨0, _⟩ => rfl)
  simp only [e, ew]
  rw [eb, onehot_dot]
  exact add_comm _ _

include hI in
/-- The reference's clamped norm. -/
theorem norm224_ref (z : Fin 1) : val_main_v219 (F := Ideal) x5 xw xb (ix5 n c z r q) = clamped (hog224 xw xb n c r q I) := by
  rw [val_main_v219_apply, val_main_v217_apply, val_main_v216_apply, val_main_v215_apply, val_main_v218_apply, val_main_cst_58_apply, val_main_cst_57_apply]
  have e : ∀ k : Fin 9, val_main_v214 (F := Ideal) x5 xw xb (idx_main_v215 (idx_main_v216 (ix5 n c z r q)) k)
      = hog224 xw xb n c r q I k * hog224 xw xb n c r q I k := fun k => by
    rw [show idx_main_v215 (idx_main_v216 (ix5 n c z r q)) k = ix5 n c k r q from funext fun
      | ⟨0, _⟩ => rfl | ⟨1, _⟩ => rfl | ⟨2, _⟩ => rfl | ⟨3, _⟩ => rfl | ⟨4, _⟩ => rfl, val_main_v214_apply, hog224_ref x5 xw xb n c k r q I hI]
    rfl
  simp only [e]
  show max (Ideal.sqrt (Ideal.ofBits .f32 0x00000000#32 + _)) _ = _
  rw [Ideal.ofBits_zero_f32, zero_add]
  rfl

include hI in
/-- The reference's target. -/
theorem target224_ref : val_main_v222 (F := Ideal) x5 xw xb (ix4 n (plane c o) r q)
    = Ideal.div (hog224 xw xb n c r q I o) (clamped (hog224 xw xb n c r q I)) := by
  rw [val_main_v222_apply, show idx_main_v222 (ix4 n (plane c o) r q) = ix5 n c o r q from funext fun
      | ⟨0, _⟩ => Fin.ext (by show (((n.val * 27 + (c.val * 9 + o.val)) * 224 + r.val) * 224 + q.val) / 1354752 = n.val; omega)
      | ⟨1, _⟩ => Fin.ext (by show (((n.val * 27 + (c.val * 9 + o.val)) * 224 + r.val) * 224 + q.val) / 451584 % 3 = c.val; omega)
      | ⟨2, _⟩ => Fin.ext (by show (((n.val * 27 + (c.val * 9 + o.val)) * 224 + r.val) * 224 + q.val) / 50176 % 9 = o.val; omega)
      | ⟨3, _⟩ => Fin.ext (by show (((n.val * 27 + (c.val * 9 + o.val)) * 224 + r.val) * 224 + q.val) / 224 % 224 = r.val; omega)
      | ⟨4, _⟩ => Fin.ext (by show (((n.val * 27 + (c.val * 9 + o.val)) * 224 + r.val) * 224 + q.val) % 224 = q.val; omega),
    val_main_v221_apply, val_main_v220_apply, hog224_ref x5 xw xb n c o r q I hI,
    show idx_main_v220 (ix5 n c o r q) = ix5 n c 0 r q from funext fun
      | ⟨0, _⟩ => rfl | ⟨1, _⟩ => rfl | ⟨2, _⟩ => rfl | ⟨3, _⟩ => rfl | ⟨4, _⟩ => rfl, norm224_ref x5 xw xb n c r q I hI]
  rfl

include hI in
/-- The reference's squared error at a window. -/
theorem err224_ref : val_main_v229 (F := Ideal) xp x5 xw xb (ix3 n r q)
    = pixErr (fun c => gradX (I n c) (head (s := 1) (by decide) (by decide) r) (head (s := 1) (by decide) (by decide) q))
      (fun c => gradY (I n c) (head (s := 1) (by decide) (by decide) r) (head (s := 1) (by decide) (by decide) q)) (wArg xw) (bArg xb)
      (fun c o => pArg xp n c o r q) := by
  rw [val_main_v229_apply, val_main_cst_61_apply, sum_plane]
  have e : ∀ (c : Fin 3) (o : Fin 9), val_main_v228 (F := Ideal) xp x5 xw xb (idx_main_v229 (ix3 n r q) (plane c o))
      = sqDiff (pArg xp n c o r q) (Ideal.div (hog224 xw xb n c r q I o) (clamped (hog224 xw xb n c r q I))) := fun c o => by
    rw [show idx_main_v229 (ix3 n r q) (plane c o) = ix4 n (plane c o) r q from funext fun
      | ⟨0, _⟩ => rfl | ⟨1, _⟩ => rfl | ⟨2, _⟩ => rfl | ⟨3, _⟩ => rfl, val_main_v228_apply, val_main_v227_apply, target224_ref x5 xw xb n c o r q I hI]
    rfl
  simp only [e]
  show Ideal.ofBits .f32 0x00000000#32 + _ = _
  rw [Ideal.ofBits_zero_f32, zero_add]
  rfl

/-- The reference's window mean of the mask. -/
theorem mean224_ref : val_main_v226 (F := Ideal) x6 (ix3 n r q) = winSum (h := 224) (s := 1) (by decide) (mArg x6 n) r q * ((1 / 1 : ℝ) : EReal) := by
  rw [val_main_v226_apply, val_main_v225_apply, val_main_cst_60_apply]
  have e : val_main_v224 (F := Ideal) x6 (ix3 n r q) = winSum (h := 224) (s := 1) (by decide) (mArg x6 n) r q := by
    refine (windows_val reducesTo_S32x224x1x224x1_S32x224x224_d2_4 _ _ n r q).trans ?_
    show Ideal.ofBits .f32 0x00000000#32 + _ = _
    rw [Ideal.ofBits_zero_f32, zero_add]
    refine Finset.sum_congr rfl fun a _ => Finset.sum_congr rfl fun b _ => (val_main_v223_apply (F := Ideal) x6 _).trans (congrArg x6 (funext fun
      | ⟨0, _⟩ => Fin.ext (by show ((((n.val * 224 + r.val) * 1 + a.val) * 224 + q.val) * 1 + b.val) / 50176 = n.val; omega)
      | ⟨1, _⟩ => rfl
      | ⟨2, _⟩ => Fin.ext (by show ((((n.val * 224 + r.val) * 1 + a.val) * 224 + q.val) * 1 + b.val) / 224 % 224 = r.val * 1 + a.val; omega)
      | ⟨3, _⟩ => Fin.ext (by show ((((n.val * 224 + r.val) * 1 + a.val) * 224 + q.val) * 1 + b.val) % 224 = q.val * 1 + b.val; omega)))
  rw [e]
  have ew : Ideal.ofBits .f32 0x3F800000#32 = ((1 : ℝ) : EReal) := by
    simp [Ideal.ofBits, Ideal.ieee]; rw [← EReal.coe_mul]; norm_num
  show Ideal.div _ (Ideal.ofBits .f32 0x3F800000#32) = _
  rw [ew, Ideal.div_coe (by norm_num)]

include hI in
/-- The reference's loss of the pool is the kernel's. -/
theorem loss224_ref (i : S_.Idx) : val_main_v235 (F := Ideal) xp x5 x6 xw xb i
    = Ideal.div (errSum (h := 224) (s := 1) (by decide) (by decide) I (wArg xw) (bArg xb) (pArg xp) (meanMask (s := 1) (by decide) (1 / 1) (mArg x6)) * ((1 / (1 / 1) : ℝ) : EReal))
      (maskSum (mArg x6)) := by
  rw [← pool_eq (by decide) (by decide) I (wArg xw) (bArg xb) (pArg xp) (mArg x6) (show (0 : ℝ) < 1 / 1 by norm_num),
    val_main_v235_apply, val_main_v233_apply, val_main_v234_apply, val_main_cst_63_apply, val_main_cst_64_apply]
  have en : ∀ (n : Fin 32) (r q : Fin 224), val_main_v232 (F := Ideal) xp x5 x6 xw xb (ix3 n r q)
      = (pixErr (fun c => gradX (I n c) (head (s := 1) (by decide) (by decide) r) (head (s := 1) (by decide) (by decide) q))
        (fun c => gradY (I n c) (head (s := 1) (by decide) (by decide) r) (head (s := 1) (by decide) (by decide) q)) (wArg xw) (bArg xb)
        (fun c o => pArg xp n c o r q) * ((1 / 27 : ℝ) : EReal)) * (winSum (h := 224) (s := 1) (by decide) (mArg x6 n) r q * ((1 / 1 : ℝ) : EReal)) := fun n r q => by
    rw [val_main_v232_apply, val_main_v231_apply, val_main_v230_apply, val_main_cst_62_apply, mean224_ref x6 n r q, err224_ref xp x5 xw xb n r q I hI]
    show Ideal.div _ (Ideal.ofBits .f32 0x41D80000#32) * _ = _
    rw [word_27, Ideal.div_coe (by norm_num)]
  show Ideal.div (Ideal.ofBits .f32 0x00000000#32 + _) (Ideal.ofBits .f32 0x00000000#32 + _) = _
  rw [Ideal.ofBits_zero_f32, zero_add, zero_add]
  refine congrArg₂ Ideal.div ((sum_three _).trans ?_) ((sum_three _).trans ?_)
  · exact Finset.sum_congr rfl fun n _ => Finset.sum_congr rfl fun r _ => Finset.sum_congr rfl fun q _ => en n r q
  · exact Finset.sum_congr rfl fun n _ => Finset.sum_congr rfl fun r _ => Finset.sum_congr rfl fun q _ => mean224_ref x6 n r q

end Cert.Hog
-- ==== Proof.Equal.lean ====
module

public import proofs.«01_k».proof.Defs
public import proofs.«01_k».proof.Proof.KernelValue
public import proofs.«01_k».proof.Proof.RefPool14
public import proofs.«01_k».proof.Proof.RefPool28
public import proofs.«01_k».proof.Proof.RefPool56
public import proofs.«01_k».proof.Proof.RefPool112
public import proofs.«01_k».proof.Proof.RefPool224

/-!
The kernel's result is the reference's, over the extended reals, where the image is finite.
-/

@[expose] public section

noncomputable section

namespace Cert.Hog

open Idealize.ShloMosaic Idealize.ShloMosaic.TcCoe Idealize.ShloMosaic.ValueIdx Idealize.SL.Sem Cert.KernelIdeal

/-- The predicate's one stated fact: a rank-0 array broadcasts to the image's shape. -/
theorem finite_facts : Cert.Pre_finite.Facts where
  bcast_S_S32x3x224x224 := by decide

/-- An extended real of finite absolute value is the real it reads as. -/
theorem real_of_abs_lt (x : EReal) (h : max x (-x) < ⊤) : x = ((x.toReal : ℝ) : EReal) := by
  refine (EReal.coe_toReal ?_ ?_).symm
  · rintro rfl
    simp at h
  · rintro rfl
    simp at h

variable (m : (ℓ : Loc nD τ sig) → Buf (Elt Ideal) ℓ) (c : Dev nD)

/-- The image's values. -/
def imageVal : Fin 32 → Fin 3 → Fin 224 → Fin 224 → EReal := fun n k i j => m ((c : Thread nD τ).loc main_arg5) (ix4 n k i j)

/-- The image's real values. -/
def imageReal : Fin 32 → Fin 3 → Fin 224 → Fin 224 → ℝ := fun n k i j => (imageVal m c n k i j).toReal

/-- The precondition makes every element of the image a real number. -/
theorem image_real (hp : Cert.Pre_KernelIdeal_finite (hPre_finite := finite_facts) m) (n : Fin 32) (k : Fin 3) (i j : Fin 224) :
    (m ((c : Thread nD τ).loc main_arg5) (ix4 n k i j) : EReal) = ((imageReal m c n k i j : ℝ) : EReal) := by
  have h := congrFun (hp c) (ix4 n k i j)
  have h' : BitVec.ofBool (decide (max (imageVal m c n k i j) (-(imageVal m c n k i j)) < Ideal.ofBits .f32 0x7F800000#32)) = 1#1 := h
  rw [show Ideal.ofBits .f32 0x7F800000#32 = ⊤ by simp [Ideal.ofBits, Ideal.ieee]] at h'
  refine real_of_abs_lt (imageVal m c n k i j) ?_
  by_contra hn
  rw [decide_eq_false hn] at h'
  exact absurd h' (by decide)

/-- The kernel's result, as a sum of the five pools' losses. -/
theorem kernel_result (j : S_.Idx) : (hostLoss (F := Ideal) (tiles m c) j : EReal)
    = ((((Ideal.div (endTile m c (ix2 0 ⟨0, by decide⟩) * ((256 : ℝ) : EReal)) (endTile m c (ix2 0 ⟨5, by decide⟩)))
      + Ideal.div (endTile m c (ix2 0 ⟨1, by decide⟩) * ((64 : ℝ) : EReal)) (endTile m c (ix2 0 ⟨5, by decide⟩)))
      + Ideal.div (endTile m c (ix2 0 ⟨2, by decide⟩) * ((16 : ℝ) : EReal)) (endTile m c (ix2 0 ⟨5, by decide⟩)))
      + Ideal.div (endTile m c (ix2 0 ⟨3, by decide⟩) * ((4 : ℝ) : EReal)) (endTile m c (ix2 0 ⟨5, by decide⟩)))
      + Ideal.div (endTile m c (ix2 0 ⟨4, by decide⟩) * ((1 : ℝ) : EReal)) (endTile m c (ix2 0 ⟨5, by decide⟩)) :=
  hostLoss_val (endTile m c) j

/-- The reference's result is the sum of its five losses. -/
theorem reference_result (x0 : FVec Ideal S32x27x14x14 .f32) (x1 : FVec Ideal S32x27x28x28 .f32) (x2 : FVec Ideal S32x27x56x56 .f32) (x3 : FVec Ideal S32x27x112x112 .f32)
    (x4 : FVec Ideal S32x27x224x224 .f32) (x5 : FVec Ideal S32x3x224x224 .f32) (x6 : FVec Ideal S32x1x224x224 .f32)
    (x7 x9 x11 x13 x15 : FVec Ideal S9x9 .f32) (x8 x10 x12 x14 x16 : FVec Ideal S9 .f32) (j : S_.Idx) :
    (Cert.ReferenceIdeal.Read.val_main_v236 (F := Ideal) x0 x1 x2 x3 x4 x5 x6 x7 x8 x9 x10 x11 x12 x13 x14 x15 x16 j : EReal)
    = ((((Cert.ReferenceIdeal.Read.val_main_v116 (F := Ideal) x0 x5 x6 x7 x8 j : EReal)
      + (Cert.ReferenceIdeal.Read.val_main_v146 (F := Ideal) x1 x5 x6 x9 x10 j : EReal))
      + (Cert.ReferenceIdeal.Read.val_main_v176 (F := Ideal) x2 x5 x6 x11 x12 j : EReal))
      + (Cert.ReferenceIdeal.Read.val_main_v206 (F := Ideal) x3 x5 x6 x13 x14 j : EReal))
      + (Cert.ReferenceIdeal.Read.val_main_v235 (F := Ideal) x4 x5 x6 x15 x16 j : EReal) := by
  rw [Cert.ReferenceIdeal.Read.val_main_v236_apply, Cert.ReferenceIdeal.Read.val_main_v207_apply, Cert.ReferenceIdeal.Read.val_main_v177_apply,
    Cert.ReferenceIdeal.Read.val_main_v147_apply, Cert.ReferenceIdeal.Read.val_main_v117_apply, Cert.ReferenceIdeal.Read.val_main_cst_32_apply]
  show ((((Ideal.ofBits .f32 0x00000000#32 + _) + _) + _) + _) + _ = _
  rw [Ideal.ofBits_zero_f32, zero_add]

/-- From one image, one mask and the same predictions and weights, the reference computes the kernel's result. -/
theorem results_agree (hI : ∀ n k i j, (m ((c : Thread nD τ).loc main_arg5) (ix4 n k i j) : EReal) = ((imageReal m c n k i j : ℝ) : EReal)) :
    Cert.ReferenceIdeal.Read.val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = hostLoss (F := Ideal) (tiles m c) := by
  funext j
  refine (reference_result _ _ _ _ _ _ _ _ _ _ _ _ _ _ _ _ _ j).trans ?_
  refine Eq.trans ?_ (kernel_result m c j).symm
  rw [tiles_lane0 m c (imageReal m c) hI, tiles_lane1 m c (imageReal m c) hI, tiles_lane2 m c (imageReal m c) hI, tiles_lane3 m c (imageReal m c) hI,
    tiles_lane4 m c (imageReal m c) hI, tiles_lane5 m c]
  refine congrArg₂ (· + ·) (congrArg₂ (· + ·) (congrArg₂ (· + ·) (congrArg₂ (· + ·) ?_ ?_) ?_) ?_) ?_
  · refine (loss14_ref _ _ _ _ _ (imageReal m c) hI j).trans ?_
    rw [show (1 / (1 / 256) : ℝ) = 256 by norm_num]
  · refine (loss28_ref _ _ _ _ _ (imageReal m c) hI j).trans ?_
    rw [show (1 / (1 / 64) : ℝ) = 64 by norm_num]
  · refine (loss56_ref _ _ _ _ _ (imageReal m c) hI j).trans ?_
    rw [show (1 / (1 / 16) : ℝ) = 16 by norm_num]
  · refine (loss112_ref _ _ _ _ _ (imageReal m c) hI j).trans ?_
    rw [show (1 / (1 / 4) : ℝ) = 4 by norm_num]
  · refine (loss224_ref _ _ _ _ _ (imageReal m c) hI j).trans ?_
    rw [show (1 / 1 : ℝ) = 1 by norm_num, meanMask_one, show (1 / 1 : ℝ) = 1 by norm_num]

end Cert.Hog
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The idealised kernel ends, with its arguments unchanged and its semaphores at zero. -/
theorem kernelIdeal_frame : Cert.quiescent_KernelIdeal := fun m ρ _ => Cert.KernelIdeal.Gen.frame m ρ

/-- The reference ends, with its arguments unchanged; it has no semaphores. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each rewrite of the idealised kernel satisfies its rule's statement. -/
theorem rewrites : Cert.preserves_Kernel_KernelIdeal :=
  ⟨IdealRules.named_const.statement Cert.KernelIdeal.κ "angle1" .f32 0x3EB2B8C2#32 (((1 / 9) * Real.pi : ℝ) : EReal) rfl,
    IdealRules.named_const.statement Cert.KernelIdeal.κ "angle2" .f32 0x3F32B8C2#32 (((2 / 9) * Real.pi : ℝ) : EReal) rfl,
    IdealRules.named_const.statement Cert.KernelIdeal.κ "angle3" .f32 0x3F860A92#32 (((1 / 3) * Real.pi : ℝ) : EReal) rfl,
    IdealRules.named_const.statement Cert.KernelIdeal.κ "angle4" .f32 0x3FB2B8C2#32 (((4 / 9) * Real.pi : ℝ) : EReal) rfl,
    IdealRules.named_const.statement Cert.KernelIdeal.κ "angle5" .f32 0x3FDF66F3#32 (((5 / 9) * Real.pi : ℝ) : EReal) rfl,
    IdealRules.named_const.statement Cert.KernelIdeal.κ "angle6" .f32 0x40060A92#32 (((2 / 3) * Real.pi : ℝ) : EReal) rfl,
    IdealRules.named_const.statement Cert.KernelIdeal.κ "angle7" .f32 0x401C61AA#32 (((7 / 9) * Real.pi : ℝ) : EReal) rfl,
    IdealRules.named_const.statement Cert.KernelIdeal.κ "angle8" .f32 0x4032B8C2#32 (((8 / 9) * Real.pi : ℝ) : EReal) rfl,
    IdealRules.bf16_pair.packStatement Cert.KernelIdeal.S14x14,
    IdealRules.bf16_pair.statement Cert.KernelIdeal.S28x14 Cert.KernelIdeal.S14x14,
    IdealRules.named_const.statement Cert.KernelIdeal.κ "third27" .f32 0x3D17B426#32 ((1 / 27 : ℝ) : EReal) rfl,
    IdealRules.bf16_pair.packStatement Cert.KernelIdeal.S28x28,
    IdealRules.bf16_pair.statement Cert.KernelIdeal.S56x28 Cert.KernelIdeal.S28x28,
    IdealRules.bf16_pair.packStatement Cert.KernelIdeal.S56x56,
    IdealRules.bf16_pair.statement Cert.KernelIdeal.S112x56 Cert.KernelIdeal.S56x56,
    IdealRules.bf16_pair.packStatement Cert.KernelIdeal.S112x112,
    IdealRules.bf16_pair.statement Cert.KernelIdeal.S224x112 Cert.KernelIdeal.S112x112,
    IdealRules.bf16_pair.packStatement Cert.KernelIdeal.S224x224,
    IdealRules.bf16_pair.statement Cert.KernelIdeal.S448x224 Cert.KernelIdeal.S224x224⟩

/-- The idealised kernel and the idealised reference end with one result, where the image is finite. -/
theorem results : Cert.algebraic_KernelIdeal_ReferenceIdeal_pre_finite (hPre_finite := Cert.Hog.finite_facts) := by
  intro m g m' g' hp hin
  refine ⟨fun c => Cert.Hog.hostLoss (F := Ideal) (Cert.Hog.tiles m c), ?_, ?_⟩
  · exact (θ_run Cert.KernelIdeal.defs _ _).mono (fun r h c => ⟨Cert.Hog.run_result m r h.1 c, h.2 c⟩)
      (θ_run_and (Cert.KernelIdeal.Gen.run_main (F := Ideal) m g) (Cert.KernelIdeal.Gen.unchanged (F := Ideal) m g))
  · refine (θ_run Cert.ReferenceIdeal.defs _ _).mono (fun r h c => ⟨?_, (h c).2⟩) (Cert.ReferenceIdeal.Value.run (F := Ideal) m' g')
    refine (h c).1.trans ((Cert.ReferenceIdeal.Read.val_main_v236_eq (F := Ideal) (StableHlo.launchContents m' c)).trans ?_)
    show Cert.ReferenceIdeal.Read.val_main_v236 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    obtain ⟨e0, e1, e2, e3, e4, e5, e6, e7, e8, e9, e10, e11, e12, e13, e14, e15, e16⟩ := hin c
    rw [e0, e1, e2, e3, e4, e5, e6, e7, e8, e9, e10, e11, e12, e13, e14, e15, e16]
    exact Cert.Hog.results_agree m c (Cert.Hog.image_real m c hp)

/-- The certificate's claims. -/
theorem claim : Cert.Claim := ⟨Cert.Kernel.Gen.facts, Cert.KernelIdeal.Gen.facts, Cert.ReferenceIdeal.Gen.facts, Cert.Hog.finite_facts,
  fun m ρ _ => Cert.Kernel.Gen.frame m ρ, kernelIdeal_frame, fun m ρ _ => kernelIdeal_frame m ρ trivial, reference_frame, fun m ρ _ => reference_frame m ρ trivial,
  rewrites, results⟩

end Cert.Proof

end
